-- ==== Defs.lean ====
def Pre_Swa (m : (ℓ : Loc Cert.Swa.nD Cert.Swa.τ Cert.Swa.sig) → Buf (Elt Bits) ℓ) : Prop :=
  True

def Pre_SwaIdeal (m : (ℓ : Loc Cert.SwaIdeal.nD Cert.SwaIdeal.τ Cert.SwaIdeal.sig) → Buf (Elt Ideal) ℓ) : Prop :=
  True

def Pre_SwaIdeal_swa_finite [hPre_swa_finite : Cert.Pre_swa_finite.Facts] (m : (ℓ : Loc Cert.SwaIdeal.nD Cert.SwaIdeal.τ Cert.SwaIdeal.sig) → Buf (Elt Ideal) ℓ) : Prop :=
  ∀ c : Dev Cert.SwaIdeal.nD,
    (Cert.Pre_swa_finite.fn (F := Ideal) (m ((c.tc : Thread Cert.SwaIdeal.nD Cert.SwaIdeal.τ).loc Cert.SwaIdeal.main_arg0)) (m ((c.tc : Thread Cert.SwaIdeal.nD Cert.SwaIdeal.τ).loc Cert.SwaIdeal.main_arg1))).1 = (fun _ => 1#1)
    ∧ (Cert.Pre_swa_finite.fn (F := Ideal) (m ((c.tc : Thread Cert.SwaIdeal.nD Cert.SwaIdeal.τ).loc Cert.SwaIdeal.main_arg0)) (m ((c.tc : Thread Cert.SwaIdeal.nD Cert.SwaIdeal.τ).loc Cert.SwaIdeal.main_arg1))).2 = (fun _ => 1#1)

def Pre_SwaRefIdeal (m : (ℓ : Loc Cert.SwaRefIdeal.nD Cert.SwaRefIdeal.τ Cert.SwaRefIdeal.sig) → Buf (Elt Ideal) ℓ) : Prop :=
  True

def Pre_SwaRefIdeal_swa_finite [hPre_swa_finite : Cert.Pre_swa_finite.Facts] (m : (ℓ : Loc Cert.SwaRefIdeal.nD Cert.SwaRefIdeal.τ Cert.SwaRefIdeal.sig) → Buf (Elt Ideal) ℓ) : Prop :=
  ∀ c : Dev Cert.SwaRefIdeal.nD,
    (Cert.Pre_swa_finite.fn (F := Ideal) (m ((c.tc : Thread Cert.SwaRefIdeal.nD Cert.SwaRefIdeal.τ).loc Cert.SwaRefIdeal.main_arg0)) (m ((c.tc : Thread Cert.SwaRefIdeal.nD Cert.SwaRefIdeal.τ).loc Cert.SwaRefIdeal.main_arg1))).1 = (fun _ => 1#1)
    ∧ (Cert.Pre_swa_finite.fn (F := Ideal) (m ((c.tc : Thread Cert.SwaRefIdeal.nD Cert.SwaRefIdeal.τ).loc Cert.SwaRefIdeal.main_arg0)) (m ((c.tc : Thread Cert.SwaRefIdeal.nD Cert.SwaRefIdeal.τ).loc Cert.SwaRefIdeal.main_arg1))).2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Cmp (m : (ℓ : Loc Cert.Cmp.nD Cert.Cmp.τ Cert.Cmp.sig) → Buf (Elt Bits) ℓ) : Prop :=
  True

def Pre_CmpIdeal (m : (ℓ : Loc Cert.CmpIdeal.nD Cert.CmpIdeal.τ Cert.CmpIdeal.sig) → Buf (Elt Ideal) ℓ) : Prop :=
  True

def Pre_CmpRefIdeal (m : (ℓ : Loc Cert.CmpRefIdeal.nD Cert.CmpRefIdeal.τ Cert.CmpRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Compress (m : (ℓ : Loc Cert.Compress.nD Cert.Compress.τ Cert.Compress.sig) → Buf (Elt Bits) ℓ) : Prop :=
  True

def Pre_CompressIdeal (m : (ℓ : Loc Cert.CompressIdeal.nD Cert.CompressIdeal.τ Cert.CompressIdeal.sig) → Buf (Elt Ideal) ℓ) : Prop :=
  True

def Pre_CompressRefIdeal (m : (ℓ : Loc Cert.CompressRefIdeal.nD Cert.CompressRefIdeal.τ Cert.CompressRefIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def quiescent_Swa [hSwa : Cert.Swa.Facts] : Prop :=
  ∀ (m : (ℓ : Loc Cert.Swa.nD Cert.Swa.τ Cert.Swa.sig) → Buf (Elt Bits) ℓ) (g : Dev Cert.Swa.nD → PrngReg), Pre_Swa m →
    θ_run (Cert.Swa.defs (F := Bits)) (onTc (τ := Cert.Swa.τ) (Cert.Swa.main (F := Bits))) ⟨m, fun _ => 0, g⟩ (fun r => (∀ c : Dev Cert.Swa.nD,
      r.2.mem ((c.tc : Thread Cert.Swa.nD Cert.Swa.τ).loc Cert.Swa.main_arg0) = m ((c.tc : Thread Cert.Swa.nD Cert.Swa.τ).loc Cert.Swa.main_arg0)
      ∧ r.2.mem ((c.tc : Thread Cert.Swa.nD Cert.Swa.τ).loc Cert.Swa.main_arg1) = m ((c.tc : Thread Cert.Swa.nD Cert.Swa.τ).loc Cert.Swa.main_arg1))
      ∧ r.2.sem = fun _ => 0)

def quiescent_SwaIdeal [hSwaIdeal : Cert.SwaIdeal.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1))
      ∧ r.2.sem = fun _ => 0)

def quiescent_SwaIdeal_pre_swa_finite [hSwaIdeal : Cert.SwaIdeal.Facts] [hPre_swa_finite : Cert.Pre_swa_finite.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal_swa_finite m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1))
      ∧ r.2.sem = fun _ => 0)

def quiescent_SwaRefIdeal [hSwaRefIdeal : Cert.SwaRefIdeal.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1))
      ∧ r.2.sem = fun _ => 0)

def quiescent_SwaRefIdeal_pre_swa_finite [hSwaRefIdeal : Cert.SwaRefIdeal.Facts] [hPre_swa_finite : Cert.Pre_swa_finite.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal_swa_finite m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2))
      ∧ r.2.sem = fun _ => 0)

def quiescent_Cmp [hCmp : Cert.Cmp.Facts] : Prop :=
  ∀ (m : (ℓ : Loc Cert.Cmp.nD Cert.Cmp.τ Cert.Cmp.sig) → Buf (Elt Bits) ℓ) (g : Dev Cert.Cmp.nD → PrngReg), Pre_Cmp m →
    θ_run (Cert.Cmp.defs (F := Bits)) (onTc (τ := Cert.Cmp.τ) (Cert.Cmp.main (F := Bits))) ⟨m, fun _ => 0, g⟩ (fun r => (∀ c : Dev Cert.Cmp.nD,
      r.2.mem ((c.tc : Thread Cert.Cmp.nD Cert.Cmp.τ).loc Cert.Cmp.main_arg0) = m ((c.tc : Thread Cert.Cmp.nD Cert.Cmp.τ).loc Cert.Cmp.main_arg0)
      ∧ r.2.mem ((c.tc : Thread Cert.Cmp.nD Cert.Cmp.τ).loc Cert.Cmp.main_arg1) = m ((c.tc : Thread Cert.Cmp.nD Cert.Cmp.τ).loc Cert.Cmp.main_arg1)
      ∧ r.2.mem ((c.tc : Thread Cert.Cmp.nD Cert.Cmp.τ).loc Cert.Cmp.main_arg2) = m ((c.tc : Thread Cert.Cmp.nD Cert.Cmp.τ).loc Cert.Cmp.main_arg2))
      ∧ r.2.sem = fun _ => 0)

def quiescent_CmpIdeal [hCmpIdeal : Cert.CmpIdeal.Facts] : Prop :=
  ∀ (m : (ℓ : Loc Cert.CmpIdeal.nD Cert.CmpIdeal.τ Cert.CmpIdeal.sig) → Buf (Elt Ideal) ℓ) (g : Dev Cert.CmpIdeal.nD → PrngReg), Pre_CmpIdeal m →
    θ_run (Cert.CmpIdeal.defs (F := Ideal)) (onTc (τ := Cert.CmpIdeal.τ) (Cert.CmpIdeal.main (F := Ideal))) ⟨m, fun _ => 0, g⟩ (fun r => (∀ c : Dev Cert.CmpIdeal.nD,
      r.2.mem ((c.tc : Thread Cert.CmpIdeal.nD Cert.CmpIdeal.τ).loc Cert.CmpIdeal.main_arg0) = m ((c.tc : Thread Cert.CmpIdeal.nD Cert.CmpIdeal.τ).loc Cert.CmpIdeal.main_arg0)
      ∧ r.2.mem ((c.tc : Thread Cert.CmpIdeal.nD Cert.CmpIdeal.τ).loc Cert.CmpIdeal.main_arg1) = m ((c.tc : Thread Cert.CmpIdeal.nD Cert.CmpIdeal.τ).loc Cert.CmpIdeal.main_arg1)
      ∧ r.2.mem ((c.tc : Thread Cert.CmpIdeal.nD Cert.CmpIdeal.τ).loc Cert.CmpIdeal.main_arg2) = m ((c.tc : Thread Cert.CmpIdeal.nD Cert.CmpIdeal.τ).loc Cert.CmpIdeal.main_arg2))
      ∧ r.2.sem = fun _ => 0)

def quiescent_CmpRefIdeal [hCmpRefIdeal : Cert.CmpRefIdeal.Facts] : Prop :=
  ∀ (m : (ℓ : Loc Cert.CmpRefIdeal.nD Cert.CmpRefIdeal.τ Cert.CmpRefIdeal.sig) → Buf (Elt Ideal) ℓ) (g : Dev Cert.CmpRefIdeal.nD → PrngReg), Pre_CmpRefIdeal m →
    θ_run (Cert.CmpRefIdeal.defs (F := Ideal)) (onTc (τ := Cert.CmpRefIdeal.τ) (Cert.CmpRefIdeal.main (F := Ideal))) ⟨m, fun _ => 0, g⟩ (fun r => (∀ c : Dev Cert.CmpRefIdeal.nD,
      r.2.mem ((c.tc : Thread Cert.CmpRefIdeal.nD Cert.CmpRefIdeal.τ).loc Cert.CmpRefIdeal.main_arg0) = m ((c.tc : Thread Cert.CmpRefIdeal.nD Cert.CmpRefIdeal.τ).loc Cert.CmpRefIdeal.main_arg0)
      ∧ r.2.mem ((c.tc : Thread Cert.CmpRefIdeal.nD Cert.CmpRefIdeal.τ).loc Cert.CmpRefIdeal.main_arg1) = m ((c.tc : Thread Cert.CmpRefIdeal.nD Cert.CmpRefIdeal.τ).loc Cert.CmpRefIdeal.main_arg1)
      ∧ r.2.mem ((c.tc : Thread Cert.CmpRefIdeal.nD Cert.CmpRefIdeal.τ).loc Cert.CmpRefIdeal.main_arg2) = m ((c.tc : Thread Cert.CmpRefIdeal.nD Cert.CmpRefIdeal.τ).loc Cert.CmpRefIdeal.main_arg2))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0)

def quiescent_Compress [hCompress : Cert.Compress.Facts] : Prop :=
  ∀ (m : (ℓ : Loc Cert.Compress.nD Cert.Compress.τ Cert.Compress.sig) → Buf (Elt Bits) ℓ) (g : Dev Cert.Compress.nD → PrngReg), Pre_Compress m →
    θ_run (Cert.Compress.defs (F := Bits)) (onTc (τ := Cert.Compress.τ) (Cert.Compress.main (F := Bits))) ⟨m, fun _ => 0, g⟩ (fun r => (∀ c : Dev Cert.Compress.nD,
      r.2.mem ((c.tc : Thread Cert.Compress.nD Cert.Compress.τ).loc Cert.Compress.main_arg0) = m ((c.tc : Thread Cert.Compress.nD Cert.Compress.τ).loc Cert.Compress.main_arg0)
      ∧ r.2.mem ((c.tc : Thread Cert.Compress.nD Cert.Compress.τ).loc Cert.Compress.main_arg1) = m ((c.tc : Thread Cert.Compress.nD Cert.Compress.τ).loc Cert.Compress.main_arg1)
      ∧ r.2.mem ((c.tc : Thread Cert.Compress.nD Cert.Compress.τ).loc Cert.Compress.main_arg2) = m ((c.tc : Thread Cert.Compress.nD Cert.Compress.τ).loc Cert.Compress.main_arg2)
      ∧ r.2.mem ((c.tc : Thread Cert.Compress.nD Cert.Compress.τ).loc Cert.Compress.main_arg3) = m ((c.tc : Thread Cert.Compress.nD Cert.Compress.τ).loc Cert.Compress.main_arg3))
      ∧ r.2.sem = fun _ => 0)

def quiescent_CompressIdeal [hCompressIdeal : Cert.CompressIdeal.Facts] : Prop :=
  ∀ (m : (ℓ : Loc Cert.CompressIdeal.nD Cert.CompressIdeal.τ Cert.CompressIdeal.sig) → Buf (Elt Ideal) ℓ) (g : Dev Cert.CompressIdeal.nD → PrngReg), Pre_CompressIdeal m →
    θ_run (Cert.CompressIdeal.defs (F := Ideal)) (onTc (τ := Cert.CompressIdeal.τ) (Cert.CompressIdeal.main (F := Ideal))) ⟨m, fun _ => 0, g⟩ (fun r => (∀ c : Dev Cert.CompressIdeal.nD,
      r.2.mem ((c.tc : Thread Cert.CompressIdeal.nD Cert.CompressIdeal.τ).loc Cert.CompressIdeal.main_arg0) = m ((c.tc : Thread Cert.CompressIdeal.nD Cert.CompressIdeal.τ).loc Cert.CompressIdeal.main_arg0)
      ∧ r.2.mem ((c.tc : Thread Cert.CompressIdeal.nD Cert.CompressIdeal.τ).loc Cert.CompressIdeal.main_arg1) = m ((c.tc : Thread Cert.CompressIdeal.nD Cert.CompressIdeal.τ).loc Cert.CompressIdeal.main_arg1)
      ∧ r.2.mem ((c.tc : Thread Cert.CompressIdeal.nD Cert.CompressIdeal.τ).loc Cert.CompressIdeal.main_arg2) = m ((c.tc : Thread Cert.CompressIdeal.nD Cert.CompressIdeal.τ).loc Cert.CompressIdeal.main_arg2)
      ∧ r.2.mem ((c.tc : Thread Cert.CompressIdeal.nD Cert.CompressIdeal.τ).loc Cert.CompressIdeal.main_arg3) = m ((c.tc : Thread Cert.CompressIdeal.nD Cert.CompressIdeal.τ).loc Cert.CompressIdeal.main_arg3))
      ∧ r.2.sem = fun _ => 0)

def quiescent_CompressRefIdeal [hCompressRefIdeal : Cert.CompressRefIdeal.Facts] : Prop :=
  ∀ (m : (ℓ : Loc Cert.CompressRefIdeal.nD Cert.CompressRefIdeal.τ Cert.CompressRefIdeal.sig) → Buf (Elt Ideal) ℓ) (g : Dev Cert.CompressRefIdeal.nD → PrngReg), Pre_CompressRefIdeal m →
    θ_run (Cert.CompressRefIdeal.defs (F := Ideal)) (onTc (τ := Cert.CompressRefIdeal.τ) (Cert.CompressRefIdeal.main (F := Ideal))) ⟨m, fun _ => 0, g⟩ (fun r => (∀ c : Dev Cert.CompressRefIdeal.nD,
      r.2.mem ((c.tc : Thread Cert.CompressRefIdeal.nD Cert.CompressRefIdeal.τ).loc Cert.CompressRefIdeal.main_arg0) = m ((c.tc : Thread Cert.CompressRefIdeal.nD Cert.CompressRefIdeal.τ).loc Cert.CompressRefIdeal.main_arg0)
      ∧ r.2.mem ((c.tc : Thread Cert.CompressRefIdeal.nD Cert.CompressRefIdeal.τ).loc Cert.CompressRefIdeal.main_arg1) = m ((c.tc : Thread Cert.CompressRefIdeal.nD Cert.CompressRefIdeal.τ).loc Cert.CompressRefIdeal.main_arg1)
      ∧ r.2.mem ((c.tc : Thread Cert.CompressRefIdeal.nD Cert.CompressRefIdeal.τ).loc Cert.CompressRefIdeal.main_arg2) = m ((c.tc : Thread Cert.CompressRefIdeal.nD Cert.CompressRefIdeal.τ).loc Cert.CompressRefIdeal.main_arg2)
      ∧ r.2.mem ((c.tc : Thread Cert.CompressRefIdeal.nD Cert.CompressRefIdeal.τ).loc Cert.CompressRefIdeal.main_arg3) = m ((c.tc : Thread Cert.CompressRefIdeal.nD Cert.CompressRefIdeal.τ).loc Cert.CompressRefIdeal.main_arg3))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2)
      ∧ r.2.mem ((c.tc : Thread Cert.Glu.nD Cert.Glu.τ).loc Cert.Glu.main_arg3) = m ((c.tc : Thread Cert.Glu.nD Cert.Glu.τ).loc Cert.Glu.main_arg3)
      ∧ r.2.mem ((c.tc : Thread Cert.Glu.nD Cert.Glu.τ).loc Cert.Glu.main_arg4) = m ((c.tc : Thread Cert.Glu.nD Cert.Glu.τ).loc Cert.Glu.main_arg4))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
      ∧ r.2.mem ((c.tc : Thread Cert.GluIdeal.nD Cert.GluIdeal.τ).loc Cert.GluIdeal.main_arg3) = m ((c.tc : Thread Cert.GluIdeal.nD Cert.GluIdeal.τ).loc Cert.GluIdeal.main_arg3)
      ∧ r.2.mem ((c.tc : Thread Cert.GluIdeal.nD Cert.GluIdeal.τ).loc Cert.GluIdeal.main_arg4) = m ((c.tc : Thread Cert.GluIdeal.nD Cert.GluIdeal.τ).loc Cert.GluIdeal.main_arg4))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1)
      ∧ r.2.mem ((c.tc : Thread Cert.GluRefIdeal.nD Cert.GluRefIdeal.τ).loc Cert.GluRefIdeal.main_arg2) = m ((c.tc : Thread Cert.GluRefIdeal.nD Cert.GluRefIdeal.τ).loc Cert.GluRefIdeal.main_arg2)
      ∧ r.2.mem ((c.tc : Thread Cert.GluRefIdeal.nD Cert.GluRefIdeal.τ).loc Cert.GluRefIdeal.main_arg3) = m ((c.tc : Thread Cert.GluRefIdeal.nD Cert.GluRefIdeal.τ).loc Cert.GluRefIdeal.main_arg3)
      ∧ r.2.mem ((c.tc : Thread Cert.GluRefIdeal.nD Cert.GluRefIdeal.τ).loc Cert.GluRefIdeal.main_arg4) = m ((c.tc : Thread Cert.GluRefIdeal.nD Cert.GluRefIdeal.τ).loc Cert.GluRefIdeal.main_arg4))
      ∧ r.2.sem = fun _ => 0)

def preserves_Swa_SwaIdeal : Prop :=
  IdealRules.named_const.Statement Cert.SwaIdeal.κ "log2e" .f32 0x3FB8AA3B#32 (((Real.log 2)⁻¹ : ℝ) : EReal)
  ∧ IdealRules.named_const.Statement Cert.SwaIdeal.κ "mask" .f32 0xF149F2CA#32 ⊥

def algebraic_SwaIdeal_SwaRefIdeal_pre_swa_finite [hSwaIdeal : Cert.SwaIdeal.Facts] [hSwaRefIdeal : Cert.SwaRefIdeal.Facts] [hPre_swa_finite : Cert.Pre_swa_finite.Facts] : Prop :=
  ∀ (m : (ℓ : Loc Cert.SwaIdeal.nD Cert.SwaIdeal.τ Cert.SwaIdeal.sig) → Buf (Elt Ideal) ℓ) (g : Dev Cert.SwaIdeal.nD → PrngReg)
    (m' : (ℓ : Loc Cert.SwaRefIdeal.nD Cert.SwaRefIdeal.τ Cert.SwaRefIdeal.sig) → Buf (Elt Ideal) ℓ) (g' : Dev Cert.SwaRefIdeal.nD → PrngReg), Pre_SwaIdeal_swa_finite m →
    (∀ c : Dev Cert.SwaIdeal.nD,
      m' ((c.tc : Thread Cert.SwaRefIdeal.nD Cert.SwaRefIdeal.τ).loc Cert.SwaRefIdeal.main_arg0) = m ((c.tc : Thread Cert.SwaIdeal.nD Cert.SwaIdeal.τ).loc Cert.SwaIdeal.main_arg0)
      ∧ m' ((c.tc : Thread Cert.SwaRefIdeal.nD Cert.SwaRefIdeal.τ).loc Cert.SwaRefIdeal.main_arg1) = m ((c.tc : Thread Cert.SwaIdeal.nD Cert.SwaIdeal.τ).loc Cert.SwaIdeal.main_arg1)) →
    ∃ (v0 : (c : Dev Cert.SwaIdeal.nD) → Buf (Elt Ideal) ((c.tc : Thread Cert.SwaIdeal.nD Cert.SwaIdeal.τ).loc Cert.SwaIdeal.main_v6)),
      θ_run (Cert.SwaIdeal.defs (F := Ideal)) (onTc (τ := Cert.SwaIdeal.τ) (Cert.SwaIdeal.main (F := Ideal))) ⟨m, fun _ => 0, g⟩ (fun r => ∀ c : Dev Cert.SwaIdeal.nD,
          r.2.mem ((c.tc : Thread Cert.SwaIdeal.nD Cert.SwaIdeal.τ).loc Cert.SwaIdeal.main_v6) = v0 c
          ∧ r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
          ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1))
      ∧ θ_run (Cert.SwaRefIdeal.defs (F := Ideal)) (onTc (τ := Cert.SwaRefIdeal.τ) (Cert.SwaRefIdeal.main (F := Ideal))) ⟨m', fun _ => 0, g'⟩ (fun r => ∀ c : Dev Cert.SwaRefIdeal.nD,
          r.2.mem ((c.tc : Thread Cert.SwaRefIdeal.nD Cert.SwaRefIdeal.τ).loc Cert.SwaRefIdeal.main_v65) = v0 c
          ∧ r.2.mem ((c.tc : Thread Cert.SwaRefIdeal.nD Cert.SwaRefIdeal.τ).loc Cert.SwaRefIdeal.main_arg0) = m' ((c.tc : Thread Cert.SwaRefIdeal.nD Cert.SwaRefIdeal.τ).loc Cert.SwaRefIdeal.main_arg0)
          ∧ r.2.mem ((c.tc : Thread Cert.SwaRefIdeal.nD Cert.SwaRefIdeal.τ).loc Cert.SwaRefIdeal.main_arg1) = m' ((c.tc : Thread Cert.SwaRefIdeal.nD Cert.SwaRefIdeal.τ).loc Cert.SwaRefIdeal.main_arg1))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v10) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)) →
    ∃ (v0 : (c : Dev Cert.QkvIdeal.nD) → Buf (Elt Ideal) ((c.tc : Thread Cert.QkvIdeal.nD Cert.QkvIdeal.τ).loc Cert.QkvIdeal.main_v30)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v30) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v46) = v0 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2))

def preserves_Cmp_CmpIdeal : Prop :=
  True

def algebraic_CmpIdeal_CmpRefIdeal [hCmpIdeal : Cert.CmpIdeal.Facts] [hCmpRefIdeal : Cert.CmpRefIdeal.Facts] : Prop :=
  ∀ (m : (ℓ : Loc Cert.CmpIdeal.nD Cert.CmpIdeal.τ Cert.CmpIdeal.sig) → Buf (Elt Ideal) ℓ) (g : Dev Cert.CmpIdeal.nD → PrngReg)
    (m' : (ℓ : Loc Cert.CmpRefIdeal.nD Cert.CmpRefIdeal.τ Cert.CmpRefIdeal.sig) → Buf (Elt Ideal) ℓ) (g' : Dev Cert.CmpRefIdeal.nD → PrngReg), Pre_CmpIdeal m →
    (∀ c : Dev Cert.CmpIdeal.nD,
      m' ((c.tc : Thread Cert.CmpRefIdeal.nD Cert.CmpRefIdeal.τ).loc Cert.CmpRefIdeal.main_arg0) = m ((c.tc : Thread Cert.CmpIdeal.nD Cert.CmpIdeal.τ).loc Cert.CmpIdeal.main_arg0)
      ∧ m' ((c.tc : Thread Cert.CmpRefIdeal.nD Cert.CmpRefIdeal.τ).loc Cert.CmpRefIdeal.main_arg1) = m ((c.tc : Thread Cert.CmpIdeal.nD Cert.CmpIdeal.τ).loc Cert.CmpIdeal.main_arg1)
      ∧ m' ((c.tc : Thread Cert.CmpRefIdeal.nD Cert.CmpRefIdeal.τ).loc Cert.CmpRefIdeal.main_arg2) = m ((c.tc : Thread Cert.CmpIdeal.nD Cert.CmpIdeal.τ).loc Cert.CmpIdeal.main_arg2)) →
    ∃ (v0 : (c : Dev Cert.CmpIdeal.nD) → Buf (Elt Ideal) ((c.tc : Thread Cert.CmpIdeal.nD Cert.CmpIdeal.τ).loc Cert.CmpIdeal.main_v30)),
      θ_run (Cert.CmpIdeal.defs (F := Ideal)) (onTc (τ := Cert.CmpIdeal.τ) (Cert.CmpIdeal.main (F := Ideal))) ⟨m, fun _ => 0, g⟩ (fun r => ∀ c : Dev Cert.CmpIdeal.nD,
          r.2.mem ((c.tc : Thread Cert.CmpIdeal.nD Cert.CmpIdeal.τ).loc Cert.CmpIdeal.main_v30) = v0 c
          ∧ r.2.mem ((c.tc : Thread Cert.CmpIdeal.nD Cert.CmpIdeal.τ).loc Cert.CmpIdeal.main_arg0) = m ((c.tc : Thread Cert.CmpIdeal.nD Cert.CmpIdeal.τ).loc Cert.CmpIdeal.main_arg0)
          ∧ r.2.mem ((c.tc : Thread Cert.CmpIdeal.nD Cert.CmpIdeal.τ).loc Cert.CmpIdeal.main_arg1) = m ((c.tc : Thread Cert.CmpIdeal.nD Cert.CmpIdeal.τ).loc Cert.CmpIdeal.main_arg1)
          ∧ r.2.mem ((c.tc : Thread Cert.CmpIdeal.nD Cert.CmpIdeal.τ).loc Cert.CmpIdeal.main_arg2) = m ((c.tc : Thread Cert.CmpIdeal.nD Cert.CmpIdeal.τ).loc Cert.CmpIdeal.main_arg2))
      ∧ θ_run (Cert.CmpRefIdeal.defs (F := Ideal)) (onTc (τ := Cert.CmpRefIdeal.τ) (Cert.CmpRefIdeal.main (F := Ideal))) ⟨m', fun _ => 0, g'⟩ (fun r => ∀ c : Dev Cert.CmpRefIdeal.nD,
          r.2.mem ((c.tc : Thread Cert.CmpRefIdeal.nD Cert.CmpRefIdeal.τ).loc Cert.CmpRefIdeal.main_v41) = v0 c
          ∧ r.2.mem ((c.tc : Thread Cert.CmpRefIdeal.nD Cert.CmpRefIdeal.τ).loc Cert.CmpRefIdeal.main_arg0) = m' ((c.tc : Thread Cert.CmpRefIdeal.nD Cert.CmpRefIdeal.τ).loc Cert.CmpRefIdeal.main_arg0)
          ∧ r.2.mem ((c.tc : Thread Cert.CmpRefIdeal.nD Cert.CmpRefIdeal.τ).loc Cert.CmpRefIdeal.main_arg1) = m' ((c.tc : Thread Cert.CmpRefIdeal.nD Cert.CmpRefIdeal.τ).loc Cert.CmpRefIdeal.main_arg1)
          ∧ r.2.mem ((c.tc : Thread Cert.CmpRefIdeal.nD Cert.CmpRefIdeal.τ).loc Cert.CmpRefIdeal.main_arg2) = m' ((c.tc : Thread Cert.CmpRefIdeal.nD Cert.CmpRefIdeal.τ).loc Cert.CmpRefIdeal.main_arg2))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v30)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v30) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v2) = v0 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2))

def preserves_Compress_CompressIdeal : Prop :=
  True

def algebraic_CompressIdeal_CompressRefIdeal [hCompressIdeal : Cert.CompressIdeal.Facts] [hCompressRefIdeal : Cert.CompressRefIdeal.Facts] : Prop :=
  ∀ (m : (ℓ : Loc Cert.CompressIdeal.nD Cert.CompressIdeal.τ Cert.CompressIdeal.sig) → Buf (Elt Ideal) ℓ) (g : Dev Cert.CompressIdeal.nD → PrngReg)
    (m' : (ℓ : Loc Cert.CompressRefIdeal.nD Cert.CompressRefIdeal.τ Cert.CompressRefIdeal.sig) → Buf (Elt Ideal) ℓ) (g' : Dev Cert.CompressRefIdeal.nD → PrngReg), Pre_CompressIdeal m →
    (∀ c : Dev Cert.CompressIdeal.nD,
      m' ((c.tc : Thread Cert.CompressRefIdeal.nD Cert.CompressRefIdeal.τ).loc Cert.CompressRefIdeal.main_arg0) = m ((c.tc : Thread Cert.CompressIdeal.nD Cert.CompressIdeal.τ).loc Cert.CompressIdeal.main_arg0)
      ∧ m' ((c.tc : Thread Cert.CompressRefIdeal.nD Cert.CompressRefIdeal.τ).loc Cert.CompressRefIdeal.main_arg1) = m ((c.tc : Thread Cert.CompressIdeal.nD Cert.CompressIdeal.τ).loc Cert.CompressIdeal.main_arg1)
      ∧ m' ((c.tc : Thread Cert.CompressRefIdeal.nD Cert.CompressRefIdeal.τ).loc Cert.CompressRefIdeal.main_arg2) = m ((c.tc : Thread Cert.CompressIdeal.nD Cert.CompressIdeal.τ).loc Cert.CompressIdeal.main_arg2)
      ∧ m' ((c.tc : Thread Cert.CompressRefIdeal.nD Cert.CompressRefIdeal.τ).loc Cert.CompressRefIdeal.main_arg3) = m ((c.tc : Thread Cert.CompressIdeal.nD Cert.CompressIdeal.τ).loc Cert.CompressIdeal.main_arg3)) →
    ∃ (v0 : (c : Dev Cert.CompressIdeal.nD) → Buf (Elt Ideal) ((c.tc : Thread Cert.CompressIdeal.nD Cert.CompressIdeal.τ).loc Cert.CompressIdeal.main_v0)),
      θ_run (Cert.CompressIdeal.defs (F := Ideal)) (onTc (τ := Cert.CompressIdeal.τ) (Cert.CompressIdeal.main (F := Ideal))) ⟨m, fun _ => 0, g⟩ (fun r => ∀ c : Dev Cert.CompressIdeal.nD,
          r.2.mem ((c.tc : Thread Cert.CompressIdeal.nD Cert.CompressIdeal.τ).loc Cert.CompressIdeal.main_v0) = v0 c
          ∧ r.2.mem ((c.tc : Thread Cert.CompressIdeal.nD Cert.CompressIdeal.τ).loc Cert.CompressIdeal.main_arg0) = m ((c.tc : Thread Cert.CompressIdeal.nD Cert.CompressIdeal.τ).loc Cert.CompressIdeal.main_arg0)
          ∧ r.2.mem ((c.tc : Thread Cert.CompressIdeal.nD Cert.CompressIdeal.τ).loc Cert.CompressIdeal.main_arg1) = m ((c.tc : Thread Cert.CompressIdeal.nD Cert.CompressIdeal.τ).loc Cert.CompressIdeal.main_arg1)
          ∧ r.2.mem ((c.tc : Thread Cert.CompressIdeal.nD Cert.CompressIdeal.τ).loc Cert.CompressIdeal.main_arg2) = m ((c.tc : Thread Cert.CompressIdeal.nD Cert.CompressIdeal.τ).loc Cert.CompressIdeal.main_arg2)
          ∧ r.2.mem ((c.tc : Thread Cert.CompressIdeal.nD Cert.CompressIdeal.τ).loc Cert.CompressIdeal.main_arg3) = m ((c.tc : Thread Cert.CompressIdeal.nD Cert.CompressIdeal.τ).loc Cert.CompressIdeal.main_arg3))
      ∧ θ_run (Cert.CompressRefIdeal.defs (F := Ideal)) (onTc (τ := Cert.CompressRefIdeal.τ) (Cert.CompressRefIdeal.main (F := Ideal))) ⟨m', fun _ => 0, g'⟩ (fun r => ∀ c : Dev Cert.CompressRefIdeal.nD,
          r.2.mem ((c.tc : Thread Cert.CompressRefIdeal.nD Cert.CompressRefIdeal.τ).loc Cert.CompressRefIdeal.main_v76) = v0 c
          ∧ r.2.mem ((c.tc : Thread Cert.CompressRefIdeal.nD Cert.CompressRefIdeal.τ).loc Cert.CompressRefIdeal.main_arg0) = m' ((c.tc : Thread Cert.CompressRefIdeal.nD Cert.CompressRefIdeal.τ).loc Cert.CompressRefIdeal.main_arg0)
          ∧ r.2.mem ((c.tc : Thread Cert.CompressRefIdeal.nD Cert.CompressRefIdeal.τ).loc Cert.CompressRefIdeal.main_arg1) = m' ((c.tc : Thread Cert.CompressRefIdeal.nD Cert.CompressRefIdeal.τ).loc Cert.CompressRefIdeal.main_arg1)
          ∧ r.2.mem ((c.tc : Thread Cert.CompressRefIdeal.nD Cert.CompressRefIdeal.τ).loc Cert.CompressRefIdeal.main_arg2) = m' ((c.tc : Thread Cert.CompressRefIdeal.nD Cert.CompressRefIdeal.τ).loc Cert.CompressRefIdeal.main_arg2)
          ∧ r.2.mem ((c.tc : Thread Cert.CompressRefIdeal.nD Cert.CompressRefIdeal.τ).loc Cert.CompressRefIdeal.main_arg3) = m' ((c.tc : Thread Cert.CompressRefIdeal.nD Cert.CompressRefIdeal.τ).loc Cert.CompressRefIdeal.main_arg3))

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)
      ∧ m' ((c.tc : Thread Cert.GluRefIdeal.nD Cert.GluRefIdeal.τ).loc Cert.GluRefIdeal.main_arg2) = m ((c.tc : Thread Cert.GluIdeal.nD Cert.GluIdeal.τ).loc Cert.GluIdeal.main_arg2)
      ∧ m' ((c.tc : Thread Cert.GluRefIdeal.nD Cert.GluRefIdeal.τ).loc Cert.GluRefIdeal.main_arg3) = m ((c.tc : Thread Cert.GluIdeal.nD Cert.GluIdeal.τ).loc Cert.GluIdeal.main_arg3)
      ∧ m' ((c.tc : Thread Cert.GluRefIdeal.nD Cert.GluRefIdeal.τ).loc Cert.GluRefIdeal.main_arg4) = m ((c.tc : Thread Cert.GluIdeal.nD Cert.GluIdeal.τ).loc Cert.GluIdeal.main_arg4)) →
    ∃ (v0 : (c : Dev Cert.GluIdeal.nD) → Buf (Elt Ideal) ((c.tc : Thread Cert.GluIdeal.nD Cert.GluIdeal.τ).loc Cert.GluIdeal.main_v5)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v5) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
          ∧ r.2.mem ((c.tc : Thread Cert.GluIdeal.nD Cert.GluIdeal.τ).loc Cert.GluIdeal.main_arg3) = m ((c.tc : Thread Cert.GluIdeal.nD Cert.GluIdeal.τ).loc Cert.GluIdeal.main_arg3)
          ∧ r.2.mem ((c.tc : Thread Cert.GluIdeal.nD Cert.GluIdeal.τ).loc Cert.GluIdeal.main_arg4) = m ((c.tc : Thread Cert.GluIdeal.nD Cert.GluIdeal.τ).loc Cert.GluIdeal.main_arg4))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v56) = v0 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1)
          ∧ r.2.mem ((c.tc : Thread Cert.GluRefIdeal.nD Cert.GluRefIdeal.τ).loc Cert.GluRefIdeal.main_arg2) = m' ((c.tc : Thread Cert.GluRefIdeal.nD Cert.GluRefIdeal.τ).loc Cert.GluRefIdeal.main_arg2)
          ∧ r.2.mem ((c.tc : Thread Cert.GluRefIdeal.nD Cert.GluRefIdeal.τ).loc Cert.GluRefIdeal.main_arg3) = m' ((c.tc : Thread Cert.GluRefIdeal.nD Cert.GluRefIdeal.τ).loc Cert.GluRefIdeal.main_arg3)
          ∧ r.2.mem ((c.tc : Thread Cert.GluRefIdeal.nD Cert.GluRefIdeal.τ).loc Cert.GluRefIdeal.main_arg4) = m' ((c.tc : Thread Cert.GluRefIdeal.nD Cert.GluRefIdeal.τ).loc Cert.GluRefIdeal.main_arg4))

def Claim : Prop :=
  ∃ (hSwa : Cert.Swa.Facts) (hSwaIdeal : Cert.SwaIdeal.Facts) (hSwaRefIdeal : Cert.SwaRefIdeal.Facts) (hFfn : Cert.Ffn.Facts) (hFfnIdeal : Cert.FfnIdeal.Facts) (hFfnRefIdeal : Cert.FfnRefIdeal.Facts) (hQkv : Cert.Qkv.Facts) (hQkvIdeal : Cert.QkvIdeal.Facts) (hQkvRefIdeal : Cert.QkvRefIdeal.Facts) (hCmp : Cert.Cmp.Facts) (hCmpIdeal : Cert.CmpIdeal.Facts) (hCmpRefIdeal : Cert.CmpRefIdeal.Facts) (hConv : Cert.Conv.Facts) (hConvIdeal : Cert.ConvIdeal.Facts) (hConvRefIdeal : Cert.ConvRefIdeal.Facts) (hCompress : Cert.Compress.Facts) (hCompressIdeal : Cert.CompressIdeal.Facts) (hCompressRefIdeal : Cert.CompressRefIdeal.Facts) (hGlu : Cert.Glu.Facts) (hGluIdeal : Cert.GluIdeal.Facts) (hGluRefIdeal : Cert.GluRefIdeal.Facts) (hPre_swa_finite : Cert.Pre_swa_finite.Facts),
    quiescent_Swa (hSwa := hSwa)
    ∧ quiescent_SwaIdeal (hSwaIdeal := hSwaIdeal)
    ∧ quiescent_SwaIdeal_pre_swa_finite (hSwaIdeal := hSwaIdeal) (hPre_swa_finite := hPre_swa_finite)
    ∧ quiescent_SwaRefIdeal (hSwaRefIdeal := hSwaRefIdeal)
    ∧ quiescent_SwaRefIdeal_pre_swa_finite (hSwaRefIdeal := hSwaRefIdeal) (hPre_swa_finite := hPre_swa_finite)
    ∧ quiescent_Ffn (hFfn := hFfn)
    ∧ quiescent_FfnIdeal (hFfnIdeal := hFfnIdeal)
    ∧ quiescent_FfnRefIdeal (hFfnRefIdeal := hFfnRefIdeal)
    ∧ quiescent_Qkv (hQkv := hQkv)
    ∧ quiescent_QkvIdeal (hQkvIdeal := hQkvIdeal)
    ∧ quiescent_QkvRefIdeal (hQkvRefIdeal := hQkvRefIdeal)
    ∧ quiescent_Cmp (hCmp := hCmp)
    ∧ quiescent_CmpIdeal (hCmpIdeal := hCmpIdeal)
    ∧ quiescent_CmpRefIdeal (hCmpRefIdeal := hCmpRefIdeal)
    ∧ quiescent_Conv (hConv := hConv)
    ∧ quiescent_ConvIdeal (hConvIdeal := hConvIdeal)
    ∧ quiescent_ConvRefIdeal (hConvRefIdeal := hConvRefIdeal)
    ∧ quiescent_Compress (hCompress := hCompress)
    ∧ quiescent_CompressIdeal (hCompressIdeal := hCompressIdeal)
    ∧ quiescent_CompressRefIdeal (hCompressRefIdeal := hCompressRefIdeal)
    ∧ quiescent_Glu (hGlu := hGlu)
    ∧ quiescent_GluIdeal (hGluIdeal := hGluIdeal)
    ∧ quiescent_GluRefIdeal (hGluRefIdeal := hGluRefIdeal)
    ∧ preserves_Swa_SwaIdeal
    ∧ algebraic_SwaIdeal_SwaRefIdeal_pre_swa_finite (hSwaIdeal := hSwaIdeal) (hSwaRefIdeal := hSwaRefIdeal) (hPre_swa_finite := hPre_swa_finite)
    ∧ preserves_Ffn_FfnIdeal
    ∧ algebraic_FfnIdeal_FfnRefIdeal (hFfnIdeal := hFfnIdeal) (hFfnRefIdeal := hFfnRefIdeal)
    ∧ preserves_Qkv_QkvIdeal
    ∧ algebraic_QkvIdeal_QkvRefIdeal (hQkvIdeal := hQkvIdeal) (hQkvRefIdeal := hQkvRefIdeal)
    ∧ preserves_Cmp_CmpIdeal
    ∧ algebraic_CmpIdeal_CmpRefIdeal (hCmpIdeal := hCmpIdeal) (hCmpRefIdeal := hCmpRefIdeal)
    ∧ preserves_Conv_ConvIdeal
    ∧ algebraic_ConvIdeal_ConvRefIdeal (hConvIdeal := hConvIdeal) (hConvRefIdeal := hConvRefIdeal)
    ∧ preserves_Compress_CompressIdeal
    ∧ algebraic_CompressIdeal_CompressRefIdeal (hCompressIdeal := hCompressIdeal) (hCompressRefIdeal := hCompressRefIdeal)
    ∧ preserves_Glu_GluIdeal
    ∧ algebraic_GluIdeal_GluRefIdeal (hGluIdeal := hGluIdeal) (hGluRefIdeal := hGluRefIdeal)
-- ==== Pre_swa_finite.lean ====
abbrev S2x8192x6144 : Shape := ⟨3, ![2, 8192, 6144]⟩
abbrev S12 : Shape := ⟨1, ![12]⟩
abbrev S_ : Shape := ⟨0, ![]⟩

class Facts : Prop where
  bcast_S_S2x8192x6144 : S_.BroadcastsInDim S2x8192x6144 (![] : Fin 0 → Fin S2x8192x6144.rank)
  bcast_S_S12 : S_.BroadcastsInDim S12 (![] : Fin 0 → Fin S12.rank)

variable [Facts]

def fn {F : FTy → Type} [FloatOps F] (main_arg0 : FVec F S2x8192x6144 .f32) (main_arg1 : FVec F S12 .f32) : IVec S2x8192x6144 1 × IVec S12 1 :=
  let main_v0 : FVec F S2x8192x6144 .f32 := Host.absf main_arg0
  let main_cst : FVec F S_ .f32 := constant S_ .f32 0x7F800000#32
  let main_v1 : FVec F S2x8192x6144 .f32 := broadcastInDim S2x8192x6144 ![] bcast_S_S2x8192x6144 main_cst
  let main_v2 : IVec S2x8192x6144 1 := cmpf .olt main_v0 main_v1
  let main_v3 : FVec F S12 .f32 := Host.absf main_arg1
  let main_cst_0 : FVec F S_ .f32 := constant S_ .f32 0x7F800000#32
  let main_v4 : FVec F S12 .f32 := broadcastInDim S12 ![] bcast_S_S12 main_cst_0
  let main_v5 : IVec S12 1 := cmpf .olt main_v3 main_v4
  (main_v2, main_v5)
-- ==== Swa.lean ====
abbrev S2x8192x6144 : Shape := ⟨3, ![2, 8192, 6144]⟩
abbrev S12 : Shape := ⟨1, ![12]⟩
abbrev S2x8192x3072 : Shape := ⟨3, ![2, 8192, 3072]⟩
abbrev S_ : Shape := ⟨0, ![]⟩
abbrev S2x8192x1536 : Shape := ⟨3, ![2, 8192, 1536]⟩
abbrev S1x1024x1536 : Shape := ⟨3, ![1, 1024, 1536]⟩
abbrev S1x128x256 : Shape := ⟨3, ![1, 128, 256]⟩
abbrev S1x1024x256 : Shape := ⟨3, ![1, 1024, 256]⟩
abbrev S1x128x128 : Shape := ⟨3, ![1, 128, 128]⟩
abbrev S128x128 : Shape := ⟨2, ![128, 128]⟩
abbrev S1x1024x128 : Shape := ⟨3, ![1, 1024, 128]⟩
abbrev S1024x128 : Shape := ⟨2, ![1024, 128]⟩
abbrev S1152x128 : Shape := ⟨2, ![1152, 128]⟩
abbrev S1 : Shape := ⟨1, ![1]⟩
abbrev S128x1 : Shape := ⟨2, ![128, 1]⟩
abbrev S768x1 : Shape := ⟨2, ![768, 1]⟩
abbrev S1x256 : Shape := ⟨2, ![1, 256]⟩
abbrev S128x256 : Shape := ⟨2, ![128, 256]⟩
abbrev S768x128 : Shape := ⟨2, ![768, 128]⟩
abbrev S256x128 : Shape := ⟨2, ![256, 128]⟩
abbrev S768x256 : Shape := ⟨2, ![768, 256]⟩
abbrev S768 : Shape := ⟨1, ![768]⟩

abbrev nBuf : Space → Nat
  | .hbm => 10
  | .vmem => 12
  | .smem => 1
  | _ => 0

abbrev bufTy : (tb : Table) → Fin (tcTables nBuf tb) → BufTy
  | .hbm, ⟨0, _⟩ => ⟨S2x8192x6144, .f32⟩
  | .hbm, ⟨1, _⟩ => ⟨S12, .f32⟩
  | .hbm, ⟨2, _⟩ => ⟨S2x8192x3072, .f32⟩
  | .hbm, ⟨3, _⟩ => ⟨S_, .f32⟩
  | .hbm, ⟨4, _⟩ => ⟨S2x8192x3072, .f32⟩
  | .hbm, ⟨5, _⟩ => ⟨S2x8192x3072, .f32⟩
  | .hbm, ⟨6, _⟩ => ⟨S2x8192x3072, .f32⟩
  | .hbm, ⟨7, _⟩ => ⟨S2x8192x6144, .f32⟩
  | .hbm, ⟨8, _⟩ => ⟨S2x8192x6144, .bf16⟩
  | .hbm, ⟨9, _⟩ => ⟨S2x8192x1536, .bf16⟩
  | .local _ .vmem, ⟨0, _⟩ => ⟨S1x1024x1536, .bf16⟩
  | .local _ .vmem, ⟨1, _⟩ => ⟨S1x1024x1536, .bf16⟩
  | .local _ .vmem, ⟨2, _⟩ => ⟨S1x128x256, .bf16⟩
  | .local _ .vmem, ⟨3, _⟩ => ⟨S1x128x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x128x256, .bf16⟩
  | .local _ .vmem, ⟨7, _⟩ => ⟨S1x128x256, .bf16⟩
  | .local _ .vmem, ⟨8, _⟩ => ⟨S1x1024x256, .bf16⟩
  | .local _ .vmem, ⟨9, _⟩ => ⟨S1x1024x256, .bf16⟩
  | .local _ .vmem, ⟨10, _⟩ => ⟨S1x1024x1536, .bf16⟩
  | .local _ .vmem, ⟨11, _⟩ => ⟨S1x1024x1536, .bf16⟩
  | .local _ .smem, ⟨0, _⟩ => ⟨S12, .f32⟩
  | _, _ => ⟨S2x8192x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![2, 8], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c16_i32 : BitVec 32 := 16#32
  let c0_i32_0 : BitVec 32 := 0#32
  ![arg0.toNat, v2.toNat, c16_i32.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let c0_i32 : BitVec 32 := 0#32
  ![arg0.toNat, arg1.toNat, c16_i32.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c22_i32 : BitVec 32 := 22#32
  let c0_i32_0 : BitVec 32 := 0#32
  ![arg0.toNat, v2.toNat, c22_i32.toNat]

def cc0_transform_5 (i : grid0.Coords) : Fin 3 → Nat :=
  let arg0 : BitVec 32 := BitVec.ofNat 32 (i 0).val
  let arg1 : BitVec 32 := BitVec.ofNat 32 (i 1).val
  let c22_i32 : BitVec 32 := 22#32
  let c0_i32 : BitVec 32 := 0#32
  ![arg0.toNat, arg1.toNat, c22_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S12 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== SwaIdeal.lean ====
variable {F : FTy → Type} [FloatOps F] [Named F]
def κ : String → Option EReal := fun
  | "log2e" => some (((Real.log 2)⁻¹ : ℝ) : EReal)
  | "mask" => some ⊥
  | _ => none
-- ==== SwaRefIdeal.lean ====
abbrev S2x8192x6144 : Shape := ⟨3, ![2, 8192, 6144]⟩
abbrev S12 : Shape := ⟨1, ![12]⟩
abbrev S2x8192x1536 : Shape := ⟨3, ![2, 8192, 1536]⟩
abbrev S2x8192x256 : Shape := ⟨3, ![2, 8192, 256]⟩
abbrev S2x64x128x2x6x128 : Shape := ⟨6, ![2, 64, 128, 2, 6, 128]⟩
abbrev S2x64x128x2x128 : Shape := ⟨5, ![2, 64, 128, 2, 128]⟩
abbrev S_ : Shape := ⟨0, ![]⟩
abbrev S2x65x128x2x128 : Shape := ⟨5, ![2, 65, 128, 2, 128]⟩
abbrev S2x64x256x2x128 : Shape := ⟨5, ![2, 64, 256, 2, 128]⟩
abbrev S2x64x2x256x128x6 : Shape := ⟨6, ![2, 64, 2, 256, 128, 6]⟩
abbrev S2x64x2x6x128x256 : Shape := ⟨6, ![2, 64, 2, 6, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x128x256 : Shape := ⟨3, ![1, 128, 256]⟩
abbrev S1x1x256 : Shape := ⟨3, ![1, 1, 256]⟩
abbrev S64x1x256 : Shape := ⟨3, ![64, 1, 256]⟩
abbrev S64x128x256 : Shape := ⟨3, ![64, 128, 256]⟩
abbrev S1x64x1x1x128x256 : Shape := ⟨6, ![1, 64, 1, 1, 128, 256]⟩
abbrev S1x1x2x6x1x1 : Shape := ⟨6, ![1, 1, 2, 6, 1, 1]⟩
abbrev S2x64x2x6x128x1 : Shape := ⟨6, ![2, 64, 2, 6, 128, 1]⟩
abbrev S2x64x2x6x128x257 : Shape := ⟨6, ![2, 64, 2, 6, 128, 257]⟩
abbrev S2x64x2x6x128 : Shape := ⟨5, ![2, 64, 2, 6, 128]⟩
abbrev S2x64x2x128x6x128 : Shape := ⟨6, ![2, 64, 2, 128, 6, 128]⟩

abbrev nBuf : Space → Nat
  | .hbm => 85
  | .vmem => 0
  | .smem => 0
  | _ => 0

abbrev bufTy : (tb : Table) → Fin (tcTables nBuf tb) → BufTy
  | .hbm, ⟨0, _⟩ => ⟨S2x8192x6144, .f32⟩
  | .hbm, ⟨1, _⟩ => ⟨S12, .f32⟩
  | .hbm, ⟨2, _⟩ => ⟨S2x8192x1536, .f32⟩
  | .hbm, ⟨3, _⟩ => ⟨S2x8192x256, .f32⟩
  | .hbm, ⟨4, _⟩ => ⟨S2x8192x256, .f32⟩
  | .hbm, ⟨5, _⟩ => ⟨S2x64x128x2x6x128, .f32⟩
  | .hbm, ⟨6, _⟩ => ⟨S2x64x128x2x128, .f32⟩
  | .hbm, ⟨7, _⟩ => ⟨S_, .i32⟩
  | .hbm, ⟨8, _⟩ => ⟨S_, .f32⟩
  | .hbm, ⟨9, _⟩ => ⟨S2x65x128x2x128, .f32⟩
  | .hbm, ⟨10, _⟩ => ⟨S2x64x128x2x128, .f32⟩
  | .hbm, ⟨11, _⟩ => ⟨S2x64x256x2x128, .f32⟩
  | .hbm, ⟨12, _⟩ => ⟨S2x64x128x2x128, .f32⟩
  | .hbm, ⟨13, _⟩ => ⟨S_, .i32⟩
  | .hbm, ⟨14, _⟩ => ⟨S_, .f32⟩
  | .hbm, ⟨15, _⟩ => ⟨S2x65x128x2x128, .f32⟩
  | .hbm, ⟨16, _⟩ => ⟨S2x64x128x2x128, .f32⟩
  | .hbm, ⟨17, _⟩ => ⟨S2x64x256x2x128, .f32⟩
  | .hbm, ⟨18, _⟩ => ⟨S2x64x2x256x128x6, .f32⟩
  | .hbm, ⟨19, _⟩ => ⟨S2x64x2x6x128x256, .f32⟩
  | .hbm, ⟨20, _⟩ => ⟨S_, .f32⟩
  | .hbm, ⟨21, _⟩ => ⟨S2x64x2x6x128x256, .f32⟩
  | .hbm, ⟨22, _⟩ => ⟨S2x64x2x6x128x256, .f32⟩
  | .hbm, ⟨23, _⟩ => ⟨S128, .i32⟩
  | .hbm, ⟨24, _⟩ => ⟨S128x1, .i32⟩
  | .hbm, ⟨25, _⟩ => ⟨S256, .i32⟩
  | .hbm, ⟨26, _⟩ => ⟨S1x256, .i32⟩
  | .hbm, ⟨27, _⟩ => ⟨S_, .i32⟩
  | .hbm, ⟨28, _⟩ => ⟨S128x1, .i32⟩
  | .hbm, ⟨29, _⟩ => ⟨S128x1, .i32⟩
  | .hbm, ⟨30, _⟩ => ⟨S128x256, .i32⟩
  | .hbm, ⟨31, _⟩ => ⟨S128x256, .i32⟩
  | .hbm, ⟨32, _⟩ => ⟨S128x256, .i32⟩
  | .hbm, ⟨33, _⟩ => ⟨S_, .i32⟩
  | .hbm, ⟨34, _⟩ => ⟨S128x256, .i32⟩
  | .hbm, ⟨35, _⟩ => ⟨S128x256, .i1⟩
  | .hbm, ⟨36, _⟩ => ⟨S_, .i32⟩
  | .hbm, ⟨37, _⟩ => ⟨S128x256, .i32⟩
  | .hbm, ⟨38, _⟩ => ⟨S128x256, .i1⟩
  | .hbm, ⟨39, _⟩ => ⟨S128x256, .i1⟩
  | .hbm, ⟨40, _⟩ => ⟨S_, .i32⟩
  | .hbm, ⟨41, _⟩ => ⟨S1x256, .i32⟩
  | .hbm, ⟨42, _⟩ => ⟨S1x256, .i1⟩
  | .hbm, ⟨43, _⟩ => ⟨S64, .i32⟩
  | .hbm, ⟨44, _⟩ => ⟨S_, .i32⟩
  | .hbm, ⟨45, _⟩ => ⟨S64, .i32⟩
  | .hbm, ⟨46, _⟩ => ⟨S64, .i1⟩
  | .hbm, ⟨47, _⟩ => ⟨S64x1x1, .i1⟩
  | .hbm, ⟨48, _⟩ => ⟨S1x128x256, .i1⟩
  | .hbm, ⟨49, _⟩ => ⟨S64x1x1, .i1⟩
  | .hbm, ⟨50, _⟩ => ⟨S1x1x256, .i1⟩
  | .hbm, ⟨51, _⟩ => ⟨S64x1x256, .i1⟩
  | .hbm, ⟨52, _⟩ => ⟨S64x1x256, .i1⟩
  | .hbm, ⟨53, _⟩ => ⟨S64x1x256, .i1⟩
  | .hbm, ⟨54, _⟩ => ⟨S64x128x256, .i1⟩
  | .hbm, ⟨55, _⟩ => ⟨S64x128x256, .i1⟩
  | .hbm, ⟨56, _⟩ => ⟨S64x128x256, .i1⟩
  | .hbm, ⟨57, _⟩ => ⟨S1x64x1x1x128x256, .i1⟩
  | .hbm, ⟨58, _⟩ => ⟨S_, .f32⟩
  | .hbm, ⟨59, _⟩ => ⟨S_, .f32⟩
  | .hbm, ⟨60, _⟩ => ⟨S2x64x2x6x128x256, .i1⟩
  | .hbm, ⟨61, _⟩ => ⟨S2x64x2x6x128x256, .f32⟩
  | .hbm, ⟨62, _⟩ => ⟨S2x64x2x6x128x256, .f32⟩
  | .hbm, ⟨63, _⟩ => ⟨S1x1x2x6x1x1, .f32⟩
  | .hbm, ⟨64, _⟩ => ⟨S2x64x2x6x128x1, .f32⟩
  | .hbm, ⟨65, _⟩ => ⟨S2x64x2x6x128x257, .f32⟩
  | .hbm, ⟨66, _⟩ => ⟨S_, .f32⟩
  | .hbm, ⟨67, _⟩ => ⟨S2x64x2x6x128, .f32⟩
  | .hbm, ⟨68, _⟩ => ⟨S_, .f32⟩
  | .hbm, ⟨69, _⟩ => ⟨S2x64x2x6x128, .f32⟩
  | .hbm, ⟨70, _⟩ => ⟨S2x64x2x6x128, .f32⟩
  | .hbm, ⟨71, _⟩ => ⟨S2x64x2x6x128x1, .f32⟩
  | .hbm, ⟨72, _⟩ => ⟨S2x64x2x6x128x257, .f32⟩
  | .hbm, ⟨73, _⟩ => ⟨S2x64x2x6x128x257, .f32⟩
  | .hbm, ⟨74, _⟩ => ⟨S2x64x2x6x128x257, .f32⟩
  | .hbm, ⟨75, _⟩ => ⟨S_, .f32⟩
  | .hbm, ⟨76, _⟩ => ⟨S2x64x2x6x128, .f32⟩
  | .hbm, ⟨77, _⟩ => ⟨S2x64x2x6x128x1, .f32⟩
  | .hbm, ⟨78, _⟩ => ⟨S2x64x2x6x128x257, .f32⟩
  | .hbm, ⟨79, _⟩ => ⟨S2x64x2x6x128x257, .f32⟩
  | .hbm, ⟨80, _⟩ => ⟨S2x64x2x6x128x256, .f32⟩
  | .hbm, ⟨81, _⟩ => ⟨S2x64x2x128x6x128, .f32⟩
  | .hbm, ⟨82, _⟩ => ⟨S2x64x128x2x6x128, .f32⟩
  | .hbm, ⟨83, _⟩ => ⟨S2x8192x1536, .f32⟩
  | .hbm, ⟨84, _⟩ => ⟨S2x8192x1536, .bf16⟩
  | _, _ => ⟨S2x8192x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_call1_v0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c_1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_c_2 : Ref sig .tc := ⟨.hbm, 33, rfl⟩
abbrev main_v25 : Ref sig .tc := ⟨.hbm, 34, rfl⟩
abbrev main_v26 : Ref sig .tc := ⟨.hbm, 35, rfl⟩
abbrev main_c_3 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c_4 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_c_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_6 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_7 : Ref sig .tc := ⟨.hbm, 66, rfl⟩
abbrev main_v50 : Ref sig .tc := ⟨.hbm, 67, rfl⟩
abbrev main_cst_8 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_9 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩

abbrev nD : Nat := 1
abbrev τ : Topo := Topo.v7x

variable {F : FTy → Type} [FloatOps F]
-- ==== Ffn.lean ====
abbrev S16384x4096 : Shape := ⟨2, ![16384, 4096]⟩
abbrev S2x4096x22016 : Shape := ⟨3, ![2, 4096, 22016]⟩
abbrev S16384x11264 : Shape := ⟨2, ![16384, 11264]⟩
abbrev S1024x4096 : Shape := ⟨2, ![1024, 4096]⟩
abbrev S1x4096x256 : Shape := ⟨3, ![1, 4096, 256]⟩
abbrev S1024x512 : Shape := ⟨2, ![1024, 512]⟩
abbrev S4096x256 : Shape := ⟨2, ![4096, 256]⟩
abbrev S1024x256 : Shape := ⟨2, ![1024, 256]⟩

abbrev nBuf : Space → Nat
  | .hbm => 3
  | .vmem => 12
  | .smem => 0
  | _ => 0

abbrev bufTy : (tb : Table) → Fin (tcTables nBuf tb) → BufTy
  | .hbm, ⟨0, _⟩ => ⟨S16384x4096, .bf16⟩
  | .hbm, ⟨1, _⟩ => ⟨S2x4096x22016, .bf16⟩
  | .hbm, ⟨2, _⟩ => ⟨S16384x11264, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x4096x256, .bf16⟩
  | .local _ .vmem, ⟨5, _⟩ => ⟨S1x4096x256, .bf16⟩
  | .local _ .vmem, ⟨6, _⟩ => ⟨S1x4096x256, .bf16⟩
  | .local _ .vmem, ⟨7, _⟩ => ⟨S1x4096x256, .bf16⟩
  | .local _ .vmem, ⟨8, _⟩ => ⟨S1x4096x256, .bf16⟩
  | .local _ .vmem, ⟨9, _⟩ => ⟨S1x4096x256, .bf16⟩
  | .local _ .vmem, ⟨10, _⟩ => ⟨S1024x512, .bf16⟩
  | .local _ .vmem, ⟨11, _⟩ => ⟨S1024x512, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 22], ![false, false]⟩

def k0_cond1 (i : grid0.Coords) : BitVec 1 :=
  let arg1 : BitVec 32 := BitVec.ofNat 32 (i 1).val
  let c21_i32 : BitVec 32 := 21#32
  let v0 : BitVec 1 := Scalar.cmpi .slt arg1 c21_i32
  let v1 : BitVec 32 := Scalar.extui v0
  let c0_i32 : BitVec 32 := 0#32
  let v2 : BitVec 1 := Scalar.cmpi .ne v1 c0_i32
  v2

def k0_cond2 (i : grid0.Coords) : BitVec 1 :=
  let arg1 : BitVec 32 := BitVec.ofNat 32 (i 1).val
  let c21_i32_0 : BitVec 32 := 21#32
  let v3 : BitVec 1 := Scalar.cmpi .eq arg1 c21_i32_0
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c21_i32_2 : BitVec 32 := 21#32
  let v6 : BitVec 1 := Scalar.cmpi .sgt arg1 c21_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c85_i32 : BitVec 32 := 85#32
  let v1 : BitVec 32 := Scalar.minsi v0 c85_i32
  let c0_i32 : BitVec 32 := 0#32
  let c0_i32_0 : BitVec 32 := 0#32
  let c0_i32_1 : BitVec 32 := 0#32
  ![c0_i32.toNat, c0_i32_0.toNat, v1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c85_i32 : BitVec 32 := 85#32
  let v2 : BitVec 32 := Scalar.minsi v1 c85_i32
  let c0_i32 : BitVec 32 := 0#32
  let c0_i32_0 : BitVec 32 := 0#32
  let c0_i32_1 : BitVec 32 := 0#32
  ![c0_i32.toNat, c0_i32_0.toNat, v2.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c43_i32 : BitVec 32 := 43#32
  let v1 : BitVec 32 := Scalar.addi c43_i32 v0
  let c85_i32 : BitVec 32 := 85#32
  let v2 : BitVec 32 := Scalar.minsi v1 c85_i32
  let c0_i32 : BitVec 32 := 0#32
  let c0_i32_0 : BitVec 32 := 0#32
  let c0_i32_1 : BitVec 32 := 0#32
  ![c0_i32.toNat, c0_i32_0.toNat, v2.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c43_i32 : BitVec 32 := 43#32
  let v1 : BitVec 32 := Scalar.addi c43_i32 v0
  let c1_i32 : BitVec 32 := 1#32
  let v2 : BitVec 32 := Scalar.addi v1 c1_i32
  let c85_i32 : BitVec 32 := 85#32
  let v3 : BitVec 32 := Scalar.minsi v2 c85_i32
  let c0_i32 : BitVec 32 := 0#32
  let c0_i32_0 : BitVec 32 := 0#32
  let c0_i32_1 : BitVec 32 := 0#32
  ![c0_i32.toNat, c0_i32_0.toNat, v3.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnRefIdeal.lean ====
abbrev S16384x4096 : Shape := ⟨2, ![16384, 4096]⟩
abbrev S2x4096x22016 : Shape := ⟨3, ![2, 4096, 22016]⟩
abbrev S1x4096x22016 : Shape := ⟨3, ![1, 4096, 22016]⟩
abbrev S4096x22016 : Shape := ⟨2, ![4096, 22016]⟩
abbrev S16384x22016 : Shape := ⟨2, ![16384, 22016]⟩
abbrev S16384x11008 : Shape := ⟨2, ![16384, 11008]⟩
abbrev S_ : Shape := ⟨0, ![]⟩
abbrev S16384x11264 : Shape := ⟨2, ![16384, 11264]⟩

abbrev nBuf : Space → Nat
  | .hbm => 23
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S2x4096x22016, .bf16⟩
  | .hbm, ⟨2, _⟩ => ⟨S16384x4096, .f32⟩
  | .hbm, ⟨3, _⟩ => ⟨S1x4096x22016, .bf16⟩
  | .hbm, ⟨4, _⟩ => ⟨S4096x22016, .bf16⟩
  | .hbm, ⟨5, _⟩ => ⟨S4096x22016, .f32⟩
  | .hbm, ⟨6, _⟩ => ⟨S16384x22016, .f32⟩
  | .hbm, ⟨7, _⟩ => ⟨S16384x11008, .f32⟩
  | .hbm, ⟨8, _⟩ => ⟨S16384x11008, .f32⟩
  | .hbm, ⟨9, _⟩ => ⟨S16384x11008, .f32⟩
  | .hbm, ⟨10, _⟩ => ⟨S16384x11008, .f32⟩
  | .hbm, ⟨11, _⟩ => ⟨S_, .f32⟩
  | .hbm, ⟨12, _⟩ => ⟨S16384x11008, .f32⟩
  | .hbm, ⟨13, _⟩ => ⟨S16384x11008, .f32⟩
  | .hbm, ⟨14, _⟩ => ⟨S_, .f32⟩
  | .hbm, ⟨15, _⟩ => ⟨S16384x11008, .f32⟩
  | .hbm, ⟨16, _⟩ => ⟨S16384x11008, .f32⟩
  | .hbm, ⟨17, _⟩ => ⟨S16384x11008, .f32⟩
  | .hbm, ⟨18, _⟩ => ⟨S16384x11008, .f32⟩
  | .hbm, ⟨19, _⟩ => ⟨S_, .i32⟩
  | .hbm, ⟨20, _⟩ => ⟨S_, .f32⟩
  | .hbm, ⟨21, _⟩ => ⟨S16384x11264, .f32⟩
  | .hbm, ⟨22, _⟩ => ⟨S16384x11264, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_call1_v0 : Ref sig .tc := ⟨.hbm, 20, rfl⟩
abbrev main_v9 : Ref sig .tc := ⟨.hbm, 21, rfl⟩
abbrev main_v10 : Ref sig .tc := ⟨.hbm, 22, rfl⟩

abbrev nD : Nat := 1
abbrev τ : Topo := Topo.v7x

variable {F : FTy → Type} [FloatOps F]
-- ==== Qkv.lean ====
abbrev S16384x4096 : Shape := ⟨2, ![16384, 4096]⟩
abbrev S4096x6144 : Shape := ⟨2, ![4096, 6144]⟩
abbrev S2x8192 : Shape := ⟨2, ![2, 8192]⟩
abbrev S64 : Shape := ⟨1, ![64]⟩
abbrev S_ : Shape := ⟨0, ![]⟩
abbrev S16384x1 : Shape := ⟨2, ![16384, 1]⟩
abbrev S1x64 : Shape := ⟨2, ![1, 64]⟩
abbrev S16384x64 : Shape := ⟨2, ![16384, 64]⟩
abbrev S16384x256 : Shape := ⟨2, ![16384, 256]⟩
abbrev S128 : Shape := ⟨1, ![128]⟩
abbrev S256 : Shape := ⟨1, ![256]⟩
abbrev S1x16384x256 : Shape := ⟨3, ![1, 16384, 256]⟩
abbrev S3x16384x256 : Shape := ⟨3, ![3, 16384, 256]⟩
abbrev S16384x6144 : Shape := ⟨2, ![16384, 6144]⟩
abbrev S1024x4096 : Shape := ⟨2, ![1024, 4096]⟩
abbrev S4096x512 : Shape := ⟨2, ![4096, 512]⟩
abbrev S3x1024x256 : Shape := ⟨3, ![3, 1024, 256]⟩
abbrev S1024x512 : Shape := ⟨2, ![1024, 512]⟩
abbrev S1x1024x128 : Shape := ⟨3, ![1, 1024, 128]⟩
abbrev S1024x128 : Shape := ⟨2, ![1024, 128]⟩

abbrev nBuf : Space → Nat
  | .hbm => 41
  | .vmem => 8
  | .smem => 0
  | _ => 0

abbrev bufTy : (tb : Table) → Fin (tcTables nBuf tb) → BufTy
  | .hbm, ⟨0, _⟩ => ⟨S16384x4096, .bf16⟩
  | .hbm, ⟨1, _⟩ => ⟨S4096x6144, .bf16⟩
  | .hbm, ⟨2, _⟩ => ⟨S2x8192, .i32⟩
  | .hbm, ⟨3, _⟩ => ⟨S64, .f32⟩
  | .hbm, ⟨4, _⟩ => ⟨S_, .f32⟩
  | .hbm, ⟨5, _⟩ => ⟨S64, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S2x8192, .f32⟩
  | .hbm, ⟨18, _⟩ => ⟨S16384x1, .f32⟩
  | .hbm, ⟨19, _⟩ => ⟨S1x64, .f32⟩
  | .hbm, ⟨20, _⟩ => ⟨S16384x64, .f32⟩
  | .hbm, ⟨21, _⟩ => ⟨S16384x64, .f32⟩
  | .hbm, ⟨22, _⟩ => ⟨S16384x64, .f32⟩
  | .hbm, ⟨23, _⟩ => ⟨S16384x64, .f32⟩
  | .hbm, ⟨24, _⟩ => ⟨S16384x64, .f32⟩
  | .hbm, ⟨25, _⟩ => ⟨S16384x64, .f32⟩
  | .hbm, ⟨26, _⟩ => ⟨S16384x256, .f32⟩
  | .hbm, ⟨27, _⟩ => ⟨S_, .f32⟩
  | .hbm, ⟨28, _⟩ => ⟨S128, .f32⟩
  | .hbm, ⟨29, _⟩ => ⟨S_, .f32⟩
  | .hbm, ⟨30, _⟩ => ⟨S128, .f32⟩
  | .hbm, ⟨31, _⟩ => ⟨S256, .f32⟩
  | .hbm, ⟨32, _⟩ => ⟨S16384x256, .f32⟩
  | .hbm, ⟨33, _⟩ => ⟨S_, .f32⟩
  | .hbm, ⟨34, _⟩ => ⟨S16384x256, .f32⟩
  | .hbm, ⟨35, _⟩ => ⟨S16384x256, .f32⟩
  | .hbm, ⟨36, _⟩ => ⟨S1x16384x256, .f32⟩
  | .hbm, ⟨37, _⟩ => ⟨S1x16384x256, .f32⟩
  | .hbm, ⟨38, _⟩ => ⟨S1x16384x256, .f32⟩
  | .hbm, ⟨39, _⟩ => ⟨S3x16384x256, .f32⟩
  | .hbm, ⟨40, _⟩ => ⟨S16384x6144, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S3x1024x256, .f32⟩
  | .local _ .vmem, ⟨5, _⟩ => ⟨S3x1024x256, .f32⟩
  | .local _ .vmem, ⟨6, _⟩ => ⟨S1024x512, .bf16⟩
  | .local _ .vmem, ⟨7, _⟩ => ⟨S1024x512, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 12], ![false, false]⟩

def k0_off1 (i : grid0.Coords) : Fin 3 → Nat :=
  let arg1 : BitVec 32 := BitVec.ofNat 32 (i 1).val
  let c6_i32 : BitVec 32 := 6#32
  let v3 : BitVec 1 := Scalar.cmpi .slt arg1 c6_i32
  let c1_i32 : BitVec 32 := 1#32
  let c9_i32 : BitVec 32 := 9#32
  let v4 : BitVec 1 := Scalar.cmpi .slt arg1 c9_i32
  let c0_i32 : BitVec 32 := 0#32
  let c2_i32 : BitVec 32 := 2#32
  let v5 : BitVec 32 := Scalar.select v4 c0_i32 c2_i32
  let v6 : BitVec 32 := Scalar.select v3 c1_i32 v5
  let v7 : Index := Scalar.indexCast v6
  let c0_3 : Index := 0#32
  let c0_4 : Index := 0#32
  ![v7.toNat, 0, 0]
def k0_off2 (i : grid0.Coords) : Fin 3 → Nat :=
  let arg1 : BitVec 32 := BitVec.ofNat 32 (i 1).val
  let c6_i32 : BitVec 32 := 6#32
  let v3 : BitVec 1 := Scalar.cmpi .slt arg1 c6_i32
  let c1_i32 : BitVec 32 := 1#32
  let c9_i32 : BitVec 32 := 9#32
  let v4 : BitVec 1 := Scalar.cmpi .slt arg1 c9_i32
  let c0_i32 : BitVec 32 := 0#32
  let c2_i32 : BitVec 32 := 2#32
  let v5 : BitVec 32 := Scalar.select v4 c0_i32 c2_i32
  let v6 : BitVec 32 := Scalar.select v3 c1_i32 v5
  let v10 : Index := Scalar.indexCast v6
  let c0_5 : Index := 0#32
  let c128 : Index := 128#32
  ![v10.toNat, 0, 128]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S3x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== QkvRefIdeal.lean ====
abbrev S16384x4096 : Shape := ⟨2, ![16384, 4096]⟩
abbrev S4096x6144 : Shape := ⟨2, ![4096, 6144]⟩
abbrev S2x8192 : Shape := ⟨2, ![2, 8192]⟩
abbrev S16384x6144 : Shape := ⟨2, ![16384, 6144]⟩
abbrev S16384x48x128 : Shape := ⟨3, ![16384, 48, 128]⟩
abbrev S16384x36x128 : Shape := ⟨3, ![16384, 36, 128]⟩
abbrev S64 : Shape := ⟨1, ![64]⟩
abbrev S_ : Shape := ⟨0, ![]⟩
abbrev S16384 : Shape := ⟨1, ![16384]⟩
abbrev S16384x1 : Shape := ⟨2, ![16384, 1]⟩
abbrev S1x64 : Shape := ⟨2, ![1, 64]⟩
abbrev S16384x64 : Shape := ⟨2, ![16384, 64]⟩
abbrev S16384x1x64 : Shape := ⟨3, ![16384, 1, 64]⟩
abbrev S16384x36x64 : Shape := ⟨3, ![16384, 36, 64]⟩
abbrev S16384x24x128 : Shape := ⟨3, ![16384, 24, 128]⟩
abbrev S16384x12x128 : Shape := ⟨3, ![16384, 12, 128]⟩

abbrev nBuf : Space → Nat
  | .hbm => 55
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x6144, .bf16⟩
  | .hbm, ⟨2, _⟩ => ⟨S2x8192, .i32⟩
  | .hbm, ⟨3, _⟩ => ⟨S16384x4096, .f32⟩
  | .hbm, ⟨4, _⟩ => ⟨S4096x6144, .f32⟩
  | .hbm, ⟨5, _⟩ => ⟨S16384x6144, .f32⟩
  | .hbm, ⟨6, _⟩ => ⟨S16384x48x128, .f32⟩
  | .hbm, ⟨7, _⟩ => ⟨S16384x36x128, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S2x8192, .f32⟩
  | .hbm, ⟨23, _⟩ => ⟨S16384, .f32⟩
  | .hbm, ⟨24, _⟩ => ⟨S16384x1, .f32⟩
  | .hbm, ⟨25, _⟩ => ⟨S1x64, .f32⟩
  | .hbm, ⟨26, _⟩ => ⟨S16384x64, .f32⟩
  | .hbm, ⟨27, _⟩ => ⟨S16384x64, .f32⟩
  | .hbm, ⟨28, _⟩ => ⟨S16384x64, .f32⟩
  | .hbm, ⟨29, _⟩ => ⟨S16384x64, .f32⟩
  | .hbm, ⟨30, _⟩ => ⟨S16384x1x64, .f32⟩
  | .hbm, ⟨31, _⟩ => ⟨S16384x64, .f32⟩
  | .hbm, ⟨32, _⟩ => ⟨S16384x1x64, .f32⟩
  | .hbm, ⟨33, _⟩ => ⟨S16384x36x64, .f32⟩
  | .hbm, ⟨34, _⟩ => ⟨S16384x36x64, .f32⟩
  | .hbm, ⟨35, _⟩ => ⟨S16384x36x64, .f32⟩
  | .hbm, ⟨36, _⟩ => ⟨S16384x36x64, .f32⟩
  | .hbm, ⟨37, _⟩ => ⟨S16384x36x64, .f32⟩
  | .hbm, ⟨38, _⟩ => ⟨S16384x36x64, .f32⟩
  | .hbm, ⟨39, _⟩ => ⟨S16384x36x64, .f32⟩
  | .hbm, ⟨40, _⟩ => ⟨S16384x36x64, .f32⟩
  | .hbm, ⟨41, _⟩ => ⟨S16384x36x64, .f32⟩
  | .hbm, ⟨42, _⟩ => ⟨S16384x36x64, .f32⟩
  | .hbm, ⟨43, _⟩ => ⟨S16384x36x64, .f32⟩
  | .hbm, ⟨44, _⟩ => ⟨S16384x36x64, .f32⟩
  | .hbm, ⟨45, _⟩ => ⟨S16384x36x128, .f32⟩
  | .hbm, ⟨46, _⟩ => ⟨S16384x24x128, .f32⟩
  | .hbm, ⟨47, _⟩ => ⟨S_, .f32⟩
  | .hbm, ⟨48, _⟩ => ⟨S16384x24x128, .f32⟩
  | .hbm, ⟨49, _⟩ => ⟨S16384x24x128, .f32⟩
  | .hbm, ⟨50, _⟩ => ⟨S16384x12x128, .f32⟩
  | .hbm, ⟨51, _⟩ => ⟨S16384x12x128, .f32⟩
  | .hbm, ⟨52, _⟩ => ⟨S16384x48x128, .f32⟩
  | .hbm, ⟨53, _⟩ => ⟨S16384x6144, .f32⟩
  | .hbm, ⟨54, _⟩ => ⟨S16384x6144, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_cst_3 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩

abbrev nD : Nat := 1
abbrev τ : Topo := Topo.v7x

variable {F : FTy → Type} [FloatOps F]
-- ==== Cmp.lean ====
abbrev S16384x4096 : Shape := ⟨2, ![16384, 4096]⟩
abbrev S4096x1024 : Shape := ⟨2, ![4096, 1024]⟩
abbrev S2x8192 : Shape := ⟨2, ![2, 8192]⟩
abbrev S64 : Shape := ⟨1, ![64]⟩
abbrev S_ : Shape := ⟨0, ![]⟩
abbrev S16384x1 : Shape := ⟨2, ![16384, 1]⟩
abbrev S1x64 : Shape := ⟨2, ![1, 64]⟩
abbrev S16384x64 : Shape := ⟨2, ![16384, 64]⟩
abbrev S16384x256 : Shape := ⟨2, ![16384, 256]⟩
abbrev S128 : Shape := ⟨1, ![128]⟩
abbrev S256 : Shape := ⟨1, ![256]⟩
abbrev S1x16384x256 : Shape := ⟨3, ![1, 16384, 256]⟩
abbrev S3x16384x256 : Shape := ⟨3, ![3, 16384, 256]⟩
abbrev S16384x1024 : Shape := ⟨2, ![16384, 1024]⟩
abbrev S1024x4096 : Shape := ⟨2, ![1024, 4096]⟩
abbrev S4096x512 : Shape := ⟨2, ![4096, 512]⟩
abbrev S3x1024x256 : Shape := ⟨3, ![3, 1024, 256]⟩
abbrev S1024x512 : Shape := ⟨2, ![1024, 512]⟩
abbrev S1x1024x128 : Shape := ⟨3, ![1, 1024, 128]⟩
abbrev S1024x128 : Shape := ⟨2, ![1024, 128]⟩

abbrev nBuf : Space → Nat
  | .hbm => 41
  | .vmem => 8
  | .smem => 0
  | _ => 0

abbrev bufTy : (tb : Table) → Fin (tcTables nBuf tb) → BufTy
  | .hbm, ⟨0, _⟩ => ⟨S16384x4096, .bf16⟩
  | .hbm, ⟨1, _⟩ => ⟨S4096x1024, .bf16⟩
  | .hbm, ⟨2, _⟩ => ⟨S2x8192, .i32⟩
  | .hbm, ⟨3, _⟩ => ⟨S64, .f32⟩
  | .hbm, ⟨4, _⟩ => ⟨S_, .f32⟩
  | .hbm, ⟨5, _⟩ => ⟨S64, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S2x8192, .f32⟩
  | .hbm, ⟨18, _⟩ => ⟨S16384x1, .f32⟩
  | .hbm, ⟨19, _⟩ => ⟨S1x64, .f32⟩
  | .hbm, ⟨20, _⟩ => ⟨S16384x64, .f32⟩
  | .hbm, ⟨21, _⟩ => ⟨S16384x64, .f32⟩
  | .hbm, ⟨22, _⟩ => ⟨S16384x64, .f32⟩
  | .hbm, ⟨23, _⟩ => ⟨S16384x64, .f32⟩
  | .hbm, ⟨24, _⟩ => ⟨S16384x64, .f32⟩
  | .hbm, ⟨25, _⟩ => ⟨S16384x64, .f32⟩
  | .hbm, ⟨26, _⟩ => ⟨S16384x256, .f32⟩
  | .hbm, ⟨27, _⟩ => ⟨S_, .f32⟩
  | .hbm, ⟨28, _⟩ => ⟨S128, .f32⟩
  | .hbm, ⟨29, _⟩ => ⟨S_, .f32⟩
  | .hbm, ⟨30, _⟩ => ⟨S128, .f32⟩
  | .hbm, ⟨31, _⟩ => ⟨S256, .f32⟩
  | .hbm, ⟨32, _⟩ => ⟨S16384x256, .f32⟩
  | .hbm, ⟨33, _⟩ => ⟨S_, .f32⟩
  | .hbm, ⟨34, _⟩ => ⟨S16384x256, .f32⟩
  | .hbm, ⟨35, _⟩ => ⟨S16384x256, .f32⟩
  | .hbm, ⟨36, _⟩ => ⟨S1x16384x256, .f32⟩
  | .hbm, ⟨37, _⟩ => ⟨S1x16384x256, .f32⟩
  | .hbm, ⟨38, _⟩ => ⟨S1x16384x256, .f32⟩
  | .hbm, ⟨39, _⟩ => ⟨S3x16384x256, .f32⟩
  | .hbm, ⟨40, _⟩ => ⟨S16384x1024, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S3x1024x256, .f32⟩
  | .local _ .vmem, ⟨5, _⟩ => ⟨S3x1024x256, .f32⟩
  | .local _ .vmem, ⟨6, _⟩ => ⟨S1024x512, .f32⟩
  | .local _ .vmem, ⟨7, _⟩ => ⟨S1024x512, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 2], ![false, false]⟩

def k0_off1 (i : grid0.Coords) : Fin 3 → Nat :=
  let arg1 : BitVec 32 := BitVec.ofNat 32 (i 1).val
  let c0_i32 : BitVec 32 := 0#32
  let v3 : BitVec 1 := Scalar.cmpi .slt arg1 c0_i32
  let c1_i32_4 : BitVec 32 := 1#32
  let c1_i32 : BitVec 32 := 1#32
  let v4 : BitVec 1 := Scalar.cmpi .slt arg1 c1_i32
  let c0_i32_3 : BitVec 32 := 0#32
  let c2_i32 : BitVec 32 := 2#32
  let v5 : BitVec 32 := Scalar.select v4 c0_i32_3 c2_i32
  let v6 : BitVec 32 := Scalar.select v3 c1_i32_4 v5
  let v7 : Index := Scalar.indexCast v6
  let c0_5 : Index := 0#32
  let c0_6 : Index := 0#32
  ![v7.toNat, 0, 0]
def k0_off2 (i : grid0.Coords) : Fin 3 → Nat :=
  let arg1 : BitVec 32 := BitVec.ofNat 32 (i 1).val
  let c0_i32 : BitVec 32 := 0#32
  let v3 : BitVec 1 := Scalar.cmpi .slt arg1 c0_i32
  let c1_i32_4 : BitVec 32 := 1#32
  let c1_i32 : BitVec 32 := 1#32
  let v4 : BitVec 1 := Scalar.cmpi .slt arg1 c1_i32
  let c0_i32_3 : BitVec 32 := 0#32
  let c2_i32 : BitVec 32 := 2#32
  let v5 : BitVec 32 := Scalar.select v4 c0_i32_3 c2_i32
  let v6 : BitVec 32 := Scalar.select v3 c1_i32_4 v5
  let v10 : Index := Scalar.indexCast v6
  let c0_7 : Index := 0#32
  let c128 : Index := 128#32
  ![v10.toNat, 0, 128]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S3x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== CmpRefIdeal.lean ====
abbrev S16384x4096 : Shape := ⟨2, ![16384, 4096]⟩
abbrev S4096x1024 : Shape := ⟨2, ![4096, 1024]⟩
abbrev S2x8192 : Shape := ⟨2, ![2, 8192]⟩
abbrev S16384x1024 : Shape := ⟨2, ![16384, 1024]⟩
abbrev S16384x8x128 : Shape := ⟨3, ![16384, 8, 128]⟩
abbrev S16384x4x128 : Shape := ⟨3, ![16384, 4, 128]⟩
abbrev S64 : Shape := ⟨1, ![64]⟩
abbrev S_ : Shape := ⟨0, ![]⟩
abbrev S16384 : Shape := ⟨1, ![16384]⟩
abbrev S16384x1 : Shape := ⟨2, ![16384, 1]⟩
abbrev S1x64 : Shape := ⟨2, ![1, 64]⟩
abbrev S16384x64 : Shape := ⟨2, ![16384, 64]⟩
abbrev S16384x1x64 : Shape := ⟨3, ![16384, 1, 64]⟩
abbrev S16384x4x64 : Shape := ⟨3, ![16384, 4, 64]⟩

abbrev nBuf : Space → Nat
  | .hbm => 49
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x1024, .bf16⟩
  | .hbm, ⟨2, _⟩ => ⟨S2x8192, .i32⟩
  | .hbm, ⟨3, _⟩ => ⟨S16384x4096, .f32⟩
  | .hbm, ⟨4, _⟩ => ⟨S4096x1024, .f32⟩
  | .hbm, ⟨5, _⟩ => ⟨S16384x1024, .f32⟩
  | .hbm, ⟨6, _⟩ => ⟨S16384x8x128, .f32⟩
  | .hbm, ⟨7, _⟩ => ⟨S16384x4x128, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S2x8192, .f32⟩
  | .hbm, ⟨23, _⟩ => ⟨S16384, .f32⟩
  | .hbm, ⟨24, _⟩ => ⟨S16384x1, .f32⟩
  | .hbm, ⟨25, _⟩ => ⟨S1x64, .f32⟩
  | .hbm, ⟨26, _⟩ => ⟨S16384x64, .f32⟩
  | .hbm, ⟨27, _⟩ => ⟨S16384x64, .f32⟩
  | .hbm, ⟨28, _⟩ => ⟨S16384x64, .f32⟩
  | .hbm, ⟨29, _⟩ => ⟨S16384x64, .f32⟩
  | .hbm, ⟨30, _⟩ => ⟨S16384x1x64, .f32⟩
  | .hbm, ⟨31, _⟩ => ⟨S16384x64, .f32⟩
  | .hbm, ⟨32, _⟩ => ⟨S16384x1x64, .f32⟩
  | .hbm, ⟨33, _⟩ => ⟨S16384x4x64, .f32⟩
  | .hbm, ⟨34, _⟩ => ⟨S16384x4x64, .f32⟩
  | .hbm, ⟨35, _⟩ => ⟨S16384x4x64, .f32⟩
  | .hbm, ⟨36, _⟩ => ⟨S16384x4x64, .f32⟩
  | .hbm, ⟨37, _⟩ => ⟨S16384x4x64, .f32⟩
  | .hbm, ⟨38, _⟩ => ⟨S16384x4x64, .f32⟩
  | .hbm, ⟨39, _⟩ => ⟨S16384x4x64, .f32⟩
  | .hbm, ⟨40, _⟩ => ⟨S16384x4x64, .f32⟩
  | .hbm, ⟨41, _⟩ => ⟨S16384x4x64, .f32⟩
  | .hbm, ⟨42, _⟩ => ⟨S16384x4x64, .f32⟩
  | .hbm, ⟨43, _⟩ => ⟨S16384x4x64, .f32⟩
  | .hbm, ⟨44, _⟩ => ⟨S16384x4x64, .f32⟩
  | .hbm, ⟨45, _⟩ => ⟨S16384x4x128, .f32⟩
  | .hbm, ⟨46, _⟩ => ⟨S16384x4x128, .f32⟩
  | .hbm, ⟨47, _⟩ => ⟨S16384x8x128, .f32⟩
  | .hbm, ⟨48, _⟩ => ⟨S16384x1024, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩

abbrev nD : Nat := 1
abbrev τ : Topo := Topo.v7x

variable {F : FTy → Type} [FloatOps F]
-- ==== Conv.lean ====
abbrev S16384x4096 : Shape := ⟨2, ![16384, 4096]⟩
abbrev S4096x2560 : Shape := ⟨2, ![4096, 2560]⟩
abbrev S2x8192 : Shape := ⟨2, ![2, 8192]⟩
abbrev S64 : Shape := ⟨1, ![64]⟩
abbrev S_ : Shape := ⟨0, ![]⟩
abbrev S16384x1 : Shape := ⟨2, ![16384, 1]⟩
abbrev S1x64 : Shape := ⟨2, ![1, 64]⟩
abbrev S16384x64 : Shape := ⟨2, ![16384, 64]⟩
abbrev S16384x256 : Shape := ⟨2, ![16384, 256]⟩
abbrev S128 : Shape := ⟨1, ![128]⟩
abbrev S256 : Shape := ⟨1, ![256]⟩
abbrev S1x16384x256 : Shape := ⟨3, ![1, 16384, 256]⟩
abbrev S3x16384x256 : Shape := ⟨3, ![3, 16384, 256]⟩
abbrev S16384x2560 : Shape := ⟨2, ![16384, 2560]⟩
abbrev S1024x4096 : Shape := ⟨2, ![1024, 4096]⟩
abbrev S4096x512 : Shape := ⟨2, ![4096, 512]⟩
abbrev S3x1024x256 : Shape := ⟨3, ![3, 1024, 256]⟩
abbrev S1024x512 : Shape := ⟨2, ![1024, 512]⟩

abbrev nBuf : Space → Nat
  | .hbm => 41
  | .vmem => 8
  | .smem => 0
  | _ => 0

abbrev bufTy : (tb : Table) → Fin (tcTables nBuf tb) → BufTy
  | .hbm, ⟨0, _⟩ => ⟨S16384x4096, .bf16⟩
  | .hbm, ⟨1, _⟩ => ⟨S4096x2560, .bf16⟩
  | .hbm, ⟨2, _⟩ => ⟨S2x8192, .i32⟩
  | .hbm, ⟨3, _⟩ => ⟨S64, .f32⟩
  | .hbm, ⟨4, _⟩ => ⟨S_, .f32⟩
  | .hbm, ⟨5, _⟩ => ⟨S64, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S2x8192, .f32⟩
  | .hbm, ⟨18, _⟩ => ⟨S16384x1, .f32⟩
  | .hbm, ⟨19, _⟩ => ⟨S1x64, .f32⟩
  | .hbm, ⟨20, _⟩ => ⟨S16384x64, .f32⟩
  | .hbm, ⟨21, _⟩ => ⟨S16384x64, .f32⟩
  | .hbm, ⟨22, _⟩ => ⟨S16384x64, .f32⟩
  | .hbm, ⟨23, _⟩ => ⟨S16384x64, .f32⟩
  | .hbm, ⟨24, _⟩ => ⟨S16384x64, .f32⟩
  | .hbm, ⟨25, _⟩ => ⟨S16384x64, .f32⟩
  | .hbm, ⟨26, _⟩ => ⟨S16384x256, .f32⟩
  | .hbm, ⟨27, _⟩ => ⟨S_, .f32⟩
  | .hbm, ⟨28, _⟩ => ⟨S128, .f32⟩
  | .hbm, ⟨29, _⟩ => ⟨S_, .f32⟩
  | .hbm, ⟨30, _⟩ => ⟨S128, .f32⟩
  | .hbm, ⟨31, _⟩ => ⟨S256, .f32⟩
  | .hbm, ⟨32, _⟩ => ⟨S16384x256, .f32⟩
  | .hbm, ⟨33, _⟩ => ⟨S_, .f32⟩
  | .hbm, ⟨34, _⟩ => ⟨S16384x256, .f32⟩
  | .hbm, ⟨35, _⟩ => ⟨S16384x256, .f32⟩
  | .hbm, ⟨36, _⟩ => ⟨S1x16384x256, .f32⟩
  | .hbm, ⟨37, _⟩ => ⟨S1x16384x256, .f32⟩
  | .hbm, ⟨38, _⟩ => ⟨S1x16384x256, .f32⟩
  | .hbm, ⟨39, _⟩ => ⟨S3x16384x256, .f32⟩
  | .hbm, ⟨40, _⟩ => ⟨S16384x2560, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S3x1024x256, .f32⟩
  | .local _ .vmem, ⟨5, _⟩ => ⟨S3x1024x256, .f32⟩
  | .local _ .vmem, ⟨6, _⟩ => ⟨S1024x512, .f32⟩
  | .local _ .vmem, ⟨7, _⟩ => ⟨S1024x512, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S3x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ConvRefIdeal.lean ====
abbrev S16384x4096 : Shape := ⟨2, ![16384, 4096]⟩
abbrev S4096x2560 : Shape := ⟨2, ![4096, 2560]⟩
abbrev S2x8192 : Shape := ⟨2, ![2, 8192]⟩
abbrev S16384x2560 : Shape := ⟨2, ![16384, 2560]⟩

abbrev nBuf : Space → Nat
  | .hbm => 6
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x2560, .bf16⟩
  | .hbm, ⟨2, _⟩ => ⟨S2x8192, .i32⟩
  | .hbm, ⟨3, _⟩ => ⟨S16384x4096, .f32⟩
  | .hbm, ⟨4, _⟩ => ⟨S4096x2560, .f32⟩
  | .hbm, ⟨5, _⟩ => ⟨S16384x2560, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Compress.lean ====
abbrev S2x8192x1024 : Shape := ⟨3, ![2, 8192, 1024]⟩
abbrev S2x32x128 : Shape := ⟨3, ![2, 32, 128]⟩
abbrev S2x4096x128 : Shape := ⟨3, ![2, 4096, 128]⟩
abbrev S2x128x128 : Shape := ⟨3, ![2, 128, 128]⟩
abbrev S2x2x4x512x128 : Shape := ⟨5, ![2, 2, 4, 512, 128]⟩
abbrev S1x8192x128 : Shape := ⟨3, ![1, 8192, 128]⟩
abbrev S1x32x128 : Shape := ⟨3, ![1, 32, 128]⟩
abbrev S1x4096x128 : Shape := ⟨3, ![1, 4096, 128]⟩
abbrev S1x128x128 : Shape := ⟨3, ![1, 128, 128]⟩
abbrev S1x1x1x512x128 : Shape := ⟨5, ![1, 1, 1, 512, 128]⟩
abbrev S512x128 : Shape := ⟨2, ![512, 128]⟩
abbrev S1x512x128 : Shape := ⟨3, ![1, 512, 128]⟩
abbrev S1x1x128 : Shape := ⟨3, ![1, 1, 128]⟩
abbrev S1x128 : Shape := ⟨2, ![1, 128]⟩
abbrev S128x128 : Shape := ⟨2, ![128, 128]⟩

abbrev nBuf : Space → Nat
  | .hbm => 5
  | .vmem => 10
  | .smem => 0
  | _ => 0

abbrev bufTy : (tb : Table) → Fin (tcTables nBuf tb) → BufTy
  | .hbm, ⟨0, _⟩ => ⟨S2x8192x1024, .f32⟩
  | .hbm, ⟨1, _⟩ => ⟨S2x32x128, .f32⟩
  | .hbm, ⟨2, _⟩ => ⟨S2x4096x128, .bf16⟩
  | .hbm, ⟨3, _⟩ => ⟨S2x128x128, .bf16⟩
  | .hbm, ⟨4, _⟩ => ⟨S2x2x4x512x128, .bf16⟩
  | .local _ .vmem, ⟨0, _⟩ => ⟨S1x8192x128, .f32⟩
  | .local _ .vmem, ⟨1, _⟩ => ⟨S1x8192x128, .f32⟩
  | .local _ .vmem, ⟨2, _⟩ => ⟨S1x32x128, .f32⟩
  | .local _ .vmem, ⟨3, _⟩ => ⟨S1x32x128, .f32⟩
  | .local _ .vmem, ⟨4, _⟩ => ⟨S1x4096x128, .bf16⟩
  | .local _ .vmem, ⟨5, _⟩ => ⟨S1x4096x128, .bf16⟩
  | .local _ .vmem, ⟨6, _⟩ => ⟨S1x128x128, .bf16⟩
  | .local _ .vmem, ⟨7, _⟩ => ⟨S1x128x128, .bf16⟩
  | .local _ .vmem, ⟨8, _⟩ => ⟨S1x1x1x512x128, .bf16⟩
  | .local _ .vmem, ⟨9, _⟩ => ⟨S1x1x1x512x128, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 2, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, c0_i32.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

abbrev stage0_0 : Fin 2 → Memref sig .tc .vmem S1x8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x1x1x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== CompressRefIdeal.lean ====
abbrev S2x8192x1024 : Shape := ⟨3, ![2, 8192, 1024]⟩
abbrev S2x32x128 : Shape := ⟨3, ![2, 32, 128]⟩
abbrev S2x4096x128 : Shape := ⟨3, ![2, 4096, 128]⟩
abbrev S2x128x128 : Shape := ⟨3, ![2, 128, 128]⟩
abbrev S2x8192x8x128 : Shape := ⟨4, ![2, 8192, 8, 128]⟩
abbrev S2x8192x4x128 : Shape := ⟨4, ![2, 8192, 4, 128]⟩
abbrev S1x32x128 : Shape := ⟨3, ![1, 32, 128]⟩
abbrev S32x128 : Shape := ⟨2, ![32, 128]⟩
abbrev S1x4096x128 : Shape := ⟨3, ![1, 4096, 128]⟩
abbrev S4096x128 : Shape := ⟨2, ![4096, 128]⟩
abbrev S1x128x128 : Shape := ⟨3, ![1, 128, 128]⟩
abbrev S128x128 : Shape := ⟨2, ![128, 128]⟩
abbrev S511 : Shape := ⟨1, ![511]⟩
abbrev S511x1 : Shape := ⟨2, ![511, 1]⟩
abbrev S_ : Shape := ⟨0, ![]⟩
abbrev S32 : Shape := ⟨1, ![32]⟩
abbrev S1x32 : Shape := ⟨2, ![1, 32]⟩
abbrev S511x32 : Shape := ⟨2, ![511, 32]⟩
abbrev S511x32x1 : Shape := ⟨3, ![511, 32, 1]⟩
abbrev S2x511x32x4x128 : Shape := ⟨5, ![2, 511, 32, 4, 128]⟩
abbrev S32x1x128 : Shape := ⟨3, ![32, 1, 128]⟩
abbrev S1x1x32x1x128 : Shape := ⟨5, ![1, 1, 32, 1, 128]⟩
abbrev S2x511x4x32x128 : Shape := ⟨5, ![2, 511, 4, 32, 128]⟩
abbrev S2x511x4x4096 : Shape := ⟨4, ![2, 511, 4, 4096]⟩
abbrev S2x511x4x128 : Shape := ⟨4, ![2, 511, 4, 128]⟩
abbrev S2x4x511x128 : Shape := ⟨4, ![2, 4, 511, 128]⟩
abbrev S2x4x512x128 : Shape := ⟨4, ![2, 4, 512, 128]⟩
abbrev S2x1x4x512x128 : Shape := ⟨5, ![2, 1, 4, 512, 128]⟩
abbrev S2x2x4x512x128 : Shape := ⟨5, ![2, 2, 4, 512, 128]⟩

abbrev nBuf : Space → Nat
  | .hbm => 107
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x32x128, .f32⟩
  | .hbm, ⟨2, _⟩ => ⟨S2x4096x128, .bf16⟩
  | .hbm, ⟨3, _⟩ => ⟨S2x128x128, .bf16⟩
  | .hbm, ⟨4, _⟩ => ⟨S2x8192x8x128, .f32⟩
  | .hbm, ⟨5, _⟩ => ⟨S2x8192x4x128, .f32⟩
  | .hbm, ⟨6, _⟩ => ⟨S1x32x128, .f32⟩
  | .hbm, ⟨7, _⟩ => ⟨S32x128, .f32⟩
  | .hbm, ⟨8, _⟩ => ⟨S1x4096x128, .bf16⟩
  | .hbm, ⟨9, _⟩ => ⟨S4096x128, .bf16⟩
  | .hbm, ⟨10, _⟩ => ⟨S1x128x128, .bf16⟩
  | .hbm, ⟨11, _⟩ => ⟨S128x128, .bf16⟩
  | .hbm, ⟨12, _⟩ => ⟨S511, .i32⟩
  | .hbm, ⟨13, _⟩ => ⟨S511x1, .i32⟩
  | .hbm, ⟨14, _⟩ => ⟨S_, .i32⟩
  | .hbm, ⟨15, _⟩ => ⟨S511x1, .i32⟩
  | .hbm, ⟨16, _⟩ => ⟨S511x1, .i32⟩
  | .hbm, ⟨17, _⟩ => ⟨S32, .i32⟩
  | .hbm, ⟨18, _⟩ => ⟨S1x32, .i32⟩
  | .hbm, ⟨19, _⟩ => ⟨S511x32, .i32⟩
  | .hbm, ⟨20, _⟩ => ⟨S511x32, .i32⟩
  | .hbm, ⟨21, _⟩ => ⟨S511x32, .i32⟩
  | .hbm, ⟨22, _⟩ => ⟨S_, .i32⟩
  | .hbm, ⟨23, _⟩ => ⟨S511x32, .i32⟩
  | .hbm, ⟨24, _⟩ => ⟨S511x32, .i1⟩
  | .hbm, ⟨25, _⟩ => ⟨S_, .i32⟩
  | .hbm, ⟨26, _⟩ => ⟨S511x32, .i32⟩
  | .hbm, ⟨27, _⟩ => ⟨S511x32, .i32⟩
  | .hbm, ⟨28, _⟩ => ⟨S511x32, .i32⟩
  | .hbm, ⟨29, _⟩ => ⟨S511x32x1, .i32⟩
  | .hbm, ⟨30, _⟩ => ⟨S2x511x32x4x128, .f32⟩
  | .hbm, ⟨31, _⟩ => ⟨S32x1x128, .f32⟩
  | .hbm, ⟨32, _⟩ => ⟨S1x1x32x1x128, .f32⟩
  | .hbm, ⟨33, _⟩ => ⟨S2x511x32x4x128, .f32⟩
  | .hbm, ⟨34, _⟩ => ⟨S2x511x32x4x128, .f32⟩
  | .hbm, ⟨35, _⟩ => ⟨S2x511x4x32x128, .f32⟩
  | .hbm, ⟨36, _⟩ => ⟨S2x511x4x4096, .f32⟩
  | .hbm, ⟨37, _⟩ => ⟨S4096x128, .f32⟩
  | .hbm, ⟨38, _⟩ => ⟨S2x511x4x128, .f32⟩
  | .hbm, ⟨39, _⟩ => ⟨S2x511x4x128, .f32⟩
  | .hbm, ⟨40, _⟩ => ⟨S2x511x4x128, .f32⟩
  | .hbm, ⟨41, _⟩ => ⟨S_, .f32⟩
  | .hbm, ⟨42, _⟩ => ⟨S2x511x4x128, .f32⟩
  | .hbm, ⟨43, _⟩ => ⟨S2x511x4x128, .f32⟩
  | .hbm, ⟨44, _⟩ => ⟨S_, .f32⟩
  | .hbm, ⟨45, _⟩ => ⟨S2x511x4x128, .f32⟩
  | .hbm, ⟨46, _⟩ => ⟨S2x511x4x128, .f32⟩
  | .hbm, ⟨47, _⟩ => ⟨S2x511x4x128, .f32⟩
  | .hbm, ⟨48, _⟩ => ⟨S128x128, .f32⟩
  | .hbm, ⟨49, _⟩ => ⟨S2x511x4x128, .f32⟩
  | .hbm, ⟨50, _⟩ => ⟨S2x4x511x128, .f32⟩
  | .hbm, ⟨51, _⟩ => ⟨S_, .i32⟩
  | .hbm, ⟨52, _⟩ => ⟨S_, .f32⟩
  | .hbm, ⟨53, _⟩ => ⟨S2x4x512x128, .f32⟩
  | .hbm, ⟨54, _⟩ => ⟨S2x8192x4x128, .f32⟩
  | .hbm, ⟨55, _⟩ => ⟨S1x32x128, .f32⟩
  | .hbm, ⟨56, _⟩ => ⟨S32x128, .f32⟩
  | .hbm, ⟨57, _⟩ => ⟨S1x4096x128, .bf16⟩
  | .hbm, ⟨58, _⟩ => ⟨S4096x128, .bf16⟩
  | .hbm, ⟨59, _⟩ => ⟨S1x128x128, .bf16⟩
  | .hbm, ⟨60, _⟩ => ⟨S128x128, .bf16⟩
  | .hbm, ⟨61, _⟩ => ⟨S511, .i32⟩
  | .hbm, ⟨62, _⟩ => ⟨S511x1, .i32⟩
  | .hbm, ⟨63, _⟩ => ⟨S_, .i32⟩
  | .hbm, ⟨64, _⟩ => ⟨S511x1, .i32⟩
  | .hbm, ⟨65, _⟩ => ⟨S511x1, .i32⟩
  | .hbm, ⟨66, _⟩ => ⟨S32, .i32⟩
  | .hbm, ⟨67, _⟩ => ⟨S1x32, .i32⟩
  | .hbm, ⟨68, _⟩ => ⟨S511x32, .i32⟩
  | .hbm, ⟨69, _⟩ => ⟨S511x32, .i32⟩
  | .hbm, ⟨70, _⟩ => ⟨S511x32, .i32⟩
  | .hbm, ⟨71, _⟩ => ⟨S_, .i32⟩
  | .hbm, ⟨72, _⟩ => ⟨S511x32, .i32⟩
  | .hbm, ⟨73, _⟩ => ⟨S511x32, .i1⟩
  | .hbm, ⟨74, _⟩ => ⟨S_, .i32⟩
  | .hbm, ⟨75, _⟩ => ⟨S511x32, .i32⟩
  | .hbm, ⟨76, _⟩ => ⟨S511x32, .i32⟩
  | .hbm, ⟨77, _⟩ => ⟨S511x32, .i32⟩
  | .hbm, ⟨78, _⟩ => ⟨S511x32x1, .i32⟩
  | .hbm, ⟨79, _⟩ => ⟨S2x511x32x4x128, .f32⟩
  | .hbm, ⟨80, _⟩ => ⟨S32x1x128, .f32⟩
  | .hbm, ⟨81, _⟩ => ⟨S1x1x32x1x128, .f32⟩
  | .hbm, ⟨82, _⟩ => ⟨S2x511x32x4x128, .f32⟩
  | .hbm, ⟨83, _⟩ => ⟨S2x511x32x4x128, .f32⟩
  | .hbm, ⟨84, _⟩ => ⟨S2x511x4x32x128, .f32⟩
  | .hbm, ⟨85, _⟩ => ⟨S2x511x4x4096, .f32⟩
  | .hbm, ⟨86, _⟩ => ⟨S4096x128, .f32⟩
  | .hbm, ⟨87, _⟩ => ⟨S2x511x4x128, .f32⟩
  | .hbm, ⟨88, _⟩ => ⟨S2x511x4x128, .f32⟩
  | .hbm, ⟨89, _⟩ => ⟨S2x511x4x128, .f32⟩
  | .hbm, ⟨90, _⟩ => ⟨S_, .f32⟩
  | .hbm, ⟨91, _⟩ => ⟨S2x511x4x128, .f32⟩
  | .hbm, ⟨92, _⟩ => ⟨S2x511x4x128, .f32⟩
  | .hbm, ⟨93, _⟩ => ⟨S_, .f32⟩
  | .hbm, ⟨94, _⟩ => ⟨S2x511x4x128, .f32⟩
  | .hbm, ⟨95, _⟩ => ⟨S2x511x4x128, .f32⟩
  | .hbm, ⟨96, _⟩ => ⟨S2x511x4x128, .f32⟩
  | .hbm, ⟨97, _⟩ => ⟨S128x128, .f32⟩
  | .hbm, ⟨98, _⟩ => ⟨S2x511x4x128, .f32⟩
  | .hbm, ⟨99, _⟩ => ⟨S2x4x511x128, .f32⟩
  | .hbm, ⟨100, _⟩ => ⟨S_, .i32⟩
  | .hbm, ⟨101, _⟩ => ⟨S_, .f32⟩
  | .hbm, ⟨102, _⟩ => ⟨S2x4x512x128, .f32⟩
  | .hbm, ⟨103, _⟩ => ⟨S2x1x4x512x128, .f32⟩
  | .hbm, ⟨104, _⟩ => ⟨S2x1x4x512x128, .f32⟩
  | .hbm, ⟨105, _⟩ => ⟨S2x2x4x512x128, .f32⟩
  | .hbm, ⟨106, _⟩ => ⟨S2x2x4x512x128, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_c_0 : Ref sig .tc := ⟨.hbm, 22, rfl⟩
abbrev main_v17 : Ref sig .tc := ⟨.hbm, 23, rfl⟩
abbrev main_v18 : Ref sig .tc := ⟨.hbm, 24, rfl⟩
abbrev main_c_1 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_c_2 : Ref sig .tc := ⟨.hbm, 51, rfl⟩
abbrev main_call1_v0 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_c_3 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_c_4 : Ref sig .tc := ⟨.hbm, 71, rfl⟩
abbrev main_v53 : Ref sig .tc := ⟨.hbm, 72, rfl⟩
abbrev main_v54 : Ref sig .tc := ⟨.hbm, 73, rfl⟩
abbrev main_c_5 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_call2_v0 : Ref sig .tc := ⟨.hbm, 88, rfl⟩
abbrev main_call2_v1 : Ref sig .tc := ⟨.hbm, 89, rfl⟩
abbrev main_call2_cst : Ref sig .tc := ⟨.hbm, 90, rfl⟩
abbrev main_call2_v2 : Ref sig .tc := ⟨.hbm, 91, rfl⟩
abbrev main_call2_v3 : Ref sig .tc := ⟨.hbm, 92, rfl⟩
abbrev main_call2_cst_0 : Ref sig .tc := ⟨.hbm, 93, rfl⟩
abbrev main_call2_v4 : Ref sig .tc := ⟨.hbm, 94, rfl⟩
abbrev main_call2_v5 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_c_6 : Ref sig .tc := ⟨.hbm, 100, rfl⟩
abbrev main_call3_v0 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩

abbrev nD : Nat := 1
abbrev τ : Topo := Topo.v7x

variable {F : FTy → Type} [FloatOps F]
-- ==== Glu.lean ====
abbrev S2x8192x2560 : Shape := ⟨3, ![2, 8192, 2560]⟩
abbrev S31x1024 : Shape := ⟨2, ![31, 1024]⟩
abbrev S1024 : Shape := ⟨1, ![1024]⟩
abbrev S_ : Shape := ⟨0, ![]⟩
abbrev S1x1024 : Shape := ⟨2, ![1, 1024]⟩
abbrev S32x1024 : Shape := ⟨2, ![32, 1024]⟩
abbrev S2x8192x1024 : Shape := ⟨3, ![2, 8192, 1024]⟩
abbrev S1x128x1024 : Shape := ⟨3, ![1, 128, 1024]⟩
abbrev S1x32x1024 : Shape := ⟨3, ![1, 32, 1024]⟩
abbrev S160x1024 : Shape := ⟨2, ![160, 1024]⟩
abbrev S7x152x1024 : Shape := ⟨3, ![7, 152, 1024]⟩
abbrev S128x1024 : Shape := ⟨2, ![128, 1024]⟩
abbrev S152x1024 : Shape := ⟨2, ![152, 1024]⟩
abbrev S1x152x1024 : Shape := ⟨3, ![1, 152, 1024]⟩
abbrev S128x128 : Shape := ⟨2, ![128, 128]⟩
abbrev S1x128 : Shape := ⟨2, ![1, 128]⟩
abbrev S1x128x128 : Shape := ⟨3, ![1, 128, 128]⟩
abbrev S128 : Shape := ⟨1, ![128]⟩
abbrev S128x1 : Shape := ⟨2, ![128, 1]⟩

abbrev nBuf : Space → Nat
  | .hbm => 12
  | .vmem => 16
  | .smem => 0
  | _ => 0

abbrev bufTy : (tb : Table) → Fin (tcTables nBuf tb) → BufTy
  | .hbm, ⟨0, _⟩ => ⟨S2x8192x2560, .f32⟩
  | .hbm, ⟨1, _⟩ => ⟨S31x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S1x1024, .f32⟩
  | .hbm, ⟨7, _⟩ => ⟨S32x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S2x8192x1024, .bf16⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x32x1024, .f32⟩
  | .local _ .vmem, ⟨5, _⟩ => ⟨S1x32x1024, .f32⟩
  | .local _ .vmem, ⟨6, _⟩ => ⟨S1x32x1024, .f32⟩
  | .local _ .vmem, ⟨7, _⟩ => ⟨S1x32x1024, .f32⟩
  | .local _ .vmem, ⟨8, _⟩ => ⟨S32x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x128x1024, .bf16⟩
  | .local _ .vmem, ⟨13, _⟩ => ⟨S1x128x1024, .bf16⟩
  | .local _ .vmem, ⟨14, _⟩ => ⟨S160x1024, .f32⟩
  | .local _ .vmem, ⟨15, _⟩ => ⟨S7x152x1024, .f32⟩
  | _, _ => ⟨S2x8192x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![2, 64], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![arg0.toNat, v2.toNat, c1_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S32x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x128x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== GluRefIdeal.lean ====
abbrev S2x8192x2560 : Shape := ⟨3, ![2, 8192, 2560]⟩
abbrev S31x1024 : Shape := ⟨2, ![31, 1024]⟩
abbrev S1024 : Shape := ⟨1, ![1024]⟩
abbrev S2x8192x1024 : Shape := ⟨3, ![2, 8192, 1024]⟩
abbrev S_ : Shape := ⟨0, ![]⟩
abbrev S2x8222x1024 : Shape := ⟨3, ![2, 8222, 1024]⟩
abbrev S8192 : Shape := ⟨1, ![8192]⟩
abbrev S8192x1 : Shape := ⟨2, ![8192, 1]⟩
abbrev S31 : Shape := ⟨1, ![31]⟩
abbrev S1x31 : Shape := ⟨2, ![1, 31]⟩
abbrev S8192x31 : Shape := ⟨2, ![8192, 31]⟩
abbrev S8192x31x1 : Shape := ⟨3, ![8192, 31, 1]⟩
abbrev S2x8192x31x1024 : Shape := ⟨4, ![2, 8192, 31, 1024]⟩
abbrev S1x1x31x1024 : Shape := ⟨4, ![1, 1, 31, 1024]⟩
abbrev S1x1x1024 : Shape := ⟨3, ![1, 1, 1024]⟩
abbrev S2x8192 : Shape := ⟨2, ![2, 8192]⟩
abbrev S2x8192x1 : Shape := ⟨3, ![2, 8192, 1]⟩

abbrev nBuf : Space → Nat
  | .hbm => 82
  | .vmem => 0
  | .smem => 0
  | _ => 0

abbrev bufTy : (tb : Table) → Fin (tcTables nBuf tb) → BufTy
  | .hbm, ⟨0, _⟩ => ⟨S2x8192x2560, .f32⟩
  | .hbm, ⟨1, _⟩ => ⟨S31x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S2x8192x1024, .f32⟩
  | .hbm, ⟨6, _⟩ => ⟨S2x8192x1024, .f32⟩
  | .hbm, ⟨7, _⟩ => ⟨S2x8192x1024, .f32⟩
  | .hbm, ⟨8, _⟩ => ⟨S2x8192x1024, .f32⟩
  | .hbm, ⟨9, _⟩ => ⟨S_, .f32⟩
  | .hbm, ⟨10, _⟩ => ⟨S2x8192x1024, .f32⟩
  | .hbm, ⟨11, _⟩ => ⟨S2x8192x1024, .f32⟩
  | .hbm, ⟨12, _⟩ => ⟨S_, .f32⟩
  | .hbm, ⟨13, _⟩ => ⟨S2x8192x1024, .f32⟩
  | .hbm, ⟨14, _⟩ => ⟨S2x8192x1024, .f32⟩
  | .hbm, ⟨15, _⟩ => ⟨S2x8192x1024, .f32⟩
  | .hbm, ⟨16, _⟩ => ⟨S_, .i32⟩
  | .hbm, ⟨17, _⟩ => ⟨S_, .f32⟩
  | .hbm, ⟨18, _⟩ => ⟨S2x8222x1024, .f32⟩
  | .hbm, ⟨19, _⟩ => ⟨S8192, .i32⟩
  | .hbm, ⟨20, _⟩ => ⟨S8192x1, .i32⟩
  | .hbm, ⟨21, _⟩ => ⟨S31, .i32⟩
  | .hbm, ⟨22, _⟩ => ⟨S1x31, .i32⟩
  | .hbm, ⟨23, _⟩ => ⟨S8192x31, .i32⟩
  | .hbm, ⟨24, _⟩ => ⟨S8192x31, .i32⟩
  | .hbm, ⟨25, _⟩ => ⟨S8192x31, .i32⟩
  | .hbm, ⟨26, _⟩ => ⟨S_, .i32⟩
  | .hbm, ⟨27, _⟩ => ⟨S8192x31, .i32⟩
  | .hbm, ⟨28, _⟩ => ⟨S8192x31, .i1⟩
  | .hbm, ⟨29, _⟩ => ⟨S_, .i32⟩
  | .hbm, ⟨30, _⟩ => ⟨S8192x31, .i32⟩
  | .hbm, ⟨31, _⟩ => ⟨S8192x31, .i32⟩
  | .hbm, ⟨32, _⟩ => ⟨S8192x31, .i32⟩
  | .hbm, ⟨33, _⟩ => ⟨S8192x31x1, .i32⟩
  | .hbm, ⟨34, _⟩ => ⟨S2x8192x31x1024, .f32⟩
  | .hbm, ⟨35, _⟩ => ⟨S1x1x31x1024, .f32⟩
  | .hbm, ⟨36, _⟩ => ⟨S2x8192x31x1024, .f32⟩
  | .hbm, ⟨37, _⟩ => ⟨S2x8192x31x1024, .f32⟩
  | .hbm, ⟨38, _⟩ => ⟨S_, .f32⟩
  | .hbm, ⟨39, _⟩ => ⟨S2x8192x1024, .f32⟩
  | .hbm, ⟨40, _⟩ => ⟨S1x1x1024, .f32⟩
  | .hbm, ⟨41, _⟩ => ⟨S2x8192x1024, .f32⟩
  | .hbm, ⟨42, _⟩ => ⟨S2x8192x1024, .f32⟩
  | .hbm, ⟨43, _⟩ => ⟨S_, .f32⟩
  | .hbm, ⟨44, _⟩ => ⟨S2x8192, .f32⟩
  | .hbm, ⟨45, _⟩ => ⟨S2x8192x1, .f32⟩
  | .hbm, ⟨46, _⟩ => ⟨S_, .f32⟩
  | .hbm, ⟨47, _⟩ => ⟨S2x8192x1, .f32⟩
  | .hbm, ⟨48, _⟩ => ⟨S2x8192x1, .f32⟩
  | .hbm, ⟨49, _⟩ => ⟨S2x8192x1024, .f32⟩
  | .hbm, ⟨50, _⟩ => ⟨S2x8192x1024, .f32⟩
  | .hbm, ⟨51, _⟩ => ⟨S2x8192x1024, .f32⟩
  | .hbm, ⟨52, _⟩ => ⟨S_, .f32⟩
  | .hbm, ⟨53, _⟩ => ⟨S2x8192, .f32⟩
  | .hbm, ⟨54, _⟩ => ⟨S2x8192x1, .f32⟩
  | .hbm, ⟨55, _⟩ => ⟨S_, .f32⟩
  | .hbm, ⟨56, _⟩ => ⟨S2x8192x1, .f32⟩
  | .hbm, ⟨57, _⟩ => ⟨S2x8192x1, .f32⟩
  | .hbm, ⟨58, _⟩ => ⟨S2x8192x1024, .f32⟩
  | .hbm, ⟨59, _⟩ => ⟨S2x8192x1024, .f32⟩
  | .hbm, ⟨60, _⟩ => ⟨S_, .f32⟩
  | .hbm, ⟨61, _⟩ => ⟨S2x8192x1, .f32⟩
  | .hbm, ⟨62, _⟩ => ⟨S2x8192x1, .f32⟩
  | .hbm, ⟨63, _⟩ => ⟨S2x8192x1, .f32⟩
  | .hbm, ⟨64, _⟩ => ⟨S2x8192x1024, .f32⟩
  | .hbm, ⟨65, _⟩ => ⟨S2x8192x1024, .f32⟩
  | .hbm, ⟨66, _⟩ => ⟨S1x1x1024, .f32⟩
  | .hbm, ⟨67, _⟩ => ⟨S2x8192x1024, .f32⟩
  | .hbm, ⟨68, _⟩ => ⟨S2x8192x1024, .f32⟩
  | .hbm, ⟨69, _⟩ => ⟨S1x1x1024, .f32⟩
  | .hbm, ⟨70, _⟩ => ⟨S2x8192x1024, .f32⟩
  | .hbm, ⟨71, _⟩ => ⟨S2x8192x1024, .f32⟩
  | .hbm, ⟨72, _⟩ => ⟨S2x8192x1024, .f32⟩
  | .hbm, ⟨73, _⟩ => ⟨S2x8192x1024, .f32⟩
  | .hbm, ⟨74, _⟩ => ⟨S_, .f32⟩
  | .hbm, ⟨75, _⟩ => ⟨S2x8192x1024, .f32⟩
  | .hbm, ⟨76, _⟩ => ⟨S2x8192x1024, .f32⟩
  | .hbm, ⟨77, _⟩ => ⟨S_, .f32⟩
  | .hbm, ⟨78, _⟩ => ⟨S2x8192x1024, .f32⟩
  | .hbm, ⟨79, _⟩ => ⟨S2x8192x1024, .f32⟩
  | .hbm, ⟨80, _⟩ => ⟨S2x8192x1024, .f32⟩
  | .hbm, ⟨81, _⟩ => ⟨S2x8192x1024, .bf16⟩
  | _, _ => ⟨S2x8192x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_call0_v0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_1 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_8 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_call1_v0 : Ref sig .tc := ⟨.hbm, 72, rfl⟩
abbrev main_call1_v1 : Ref sig .tc := ⟨.hbm, 73, rfl⟩
abbrev main_call1_cst : Ref sig .tc := ⟨.hbm, 74, rfl⟩
abbrev main_call1_v2 : Ref sig .tc := ⟨.hbm, 75, rfl⟩
abbrev main_call1_v3 : Ref sig .tc := ⟨.hbm, 76, rfl⟩
abbrev main_call1_cst_0 : Ref sig .tc := ⟨.hbm, 77, rfl⟩
abbrev main_call1_v4 : Ref sig .tc := ⟨.hbm, 78, rfl⟩
abbrev main_call1_v5 : Ref sig .tc := ⟨.hbm, 79, rfl⟩
abbrev main_v55 : Ref sig .tc := ⟨.hbm, 80, rfl⟩
abbrev main_v56 : Ref sig .tc := ⟨.hbm, 81, rfl⟩

abbrev nD : Nat := 1
abbrev τ : Topo := Topo.v7x

variable {F : FTy → Type} [FloatOps F]
-- ==== Proof.SwaTile.lean ====
module
public import proofs.«01_k».proof.Proof.Gen.SwaIdeal.Skeleton
public import Idealize.ShloMosaic.Lib.Pipeline.ValueKit
public import Idealize.ShloMosaic.Lib.Pointwise
@[expose] public section
set_option maxRecDepth 16384
noncomputable section
namespace Cert.SwaTile
open Idealize.ShloMosaic Idealize.ShloMosaic.TcCoe Idealize.SL Idealize.SL.Sem
open Cert.SwaIdeal Cert.SwaIdeal.Gen

/-- Six blocks of 128 rows stacked along axis 0: row `n` is row `n % 128` of block `n / 128`. -/
theorem stack6_apply {α : Type} {K : Nat} (f : Fin 6 → ((⟨2, ![128, K]⟩ : Shape).Idx → α))
    (h : Shape.Concatenates [(⟨2, ![128, K]⟩ : Shape), ⟨2, ![128, K]⟩, ⟨2, ![128, K]⟩, ⟨2, ![128, K]⟩, ⟨2, ![128, K]⟩, ⟨2, ![128, K]⟩] ⟨2, ![768, K]⟩ 0)
    (n : Fin 768) (d : Fin K) :
    concatenate (⟨2, ![768, K]⟩ : Shape) 0 [⟨(⟨2, ![128, K]⟩ : Shape), f 0⟩, ⟨⟨2, ![128, K]⟩, f 1⟩, ⟨⟨2, ![128, K]⟩, f 2⟩, ⟨⟨2, ![128, K]⟩, f 3⟩, ⟨⟨2, ![128, K]⟩, f 4⟩, ⟨⟨2, ![128, K]⟩, f 5⟩] h (ix2 n d)
      = f ⟨n.val / 128, by omega⟩ (ix2 ⟨n.val % 128, by omega⟩ d) :=
  concatenate_ofFn_apply 0 f h rfl 128 rfl (ix2 n d) ⟨n.val / 128, by omega⟩ rfl (ix2 ⟨n.val % 128, by omega⟩ d) rfl
    (fun b hb => by
      match b with
      | ⟨0, _⟩ => exact absurd rfl hb
      | ⟨1, _⟩ => rfl)

/-- The additive mask of a block of 128 query rows (first row `b`) against 256 keys (first key `a`): 0 where the key is
    at or after position 0, not after the query, and less than 128 before it; the mask value elsewhere. -/
def mask (a b : BitVec 32) : FVec Ideal S128x256 .f32 :=
  have kp : IVec S1x256 32 := addi (broadcast S1x256 a) (iota .tc S1x256 32 [1] iota_S1x256_d1_w32)
  have qp : IVec S128x1 32 := addi (broadcast S128x1 b) (iota .tc S128x1 32 [0] iota_S128x1_d0_w32)
  select (andi (andi (broadcastTo S128x256 (cmpi .sge kp (broadcast S1x256 0#32)) broadcasts_S1x256_S128x256)
      (cmpi .sle (broadcastTo S128x256 kp broadcasts_S1x256_S128x256) (broadcastTo S128x256 qp broadcasts_S128x1_S128x256)))
      (cmpi .sgt (broadcastTo S128x256 kp broadcasts_S1x256_S128x256)
        (broadcastTo S128x256 (subi qp (broadcast S128x1 128#32)) broadcasts_S128x1_S128x256)))
    (broadcast S128x256 (Scalar.ofBits .f32 0x00000000#32)) (broadcast S128x256 (Named.named (F := Ideal) κ "mask" 0xF149F2CA#32))

/-- The masked scores of six heads' query rows against one window of keys. -/
def scores (q : FVec Ideal S768x128 .bf16) (k : FVec Ideal S256x128 .bf16) (b : FVec Ideal S128x256 .f32) : FVec Ideal S768x256 .f32 :=
  have s : FVec Ideal S768x256 .f32 := mulf (matmul dot_S768x128_S256x128_S768x256_1_1_0_0_n_n none q k (constant S768x256 .f32 0x00000000#32)) (broadcast S768x256 (Named.named (F := Ideal) κ "log2e" 0x3FB8AA3B#32))
  concatenate S768x256 0
    [⟨S128x256, addf (extractStridedSlice S128x256 ![0, 0] s slices_S768x256_o0_0_S128x256) b⟩,
     ⟨S128x256, addf (extractStridedSlice S128x256 ![128, 0] s slices_S768x256_o128_0_S128x256) b⟩,
     ⟨S128x256, addf (extractStridedSlice S128x256 ![256, 0] s slices_S768x256_o256_0_S128x256) b⟩,
     ⟨S128x256, addf (extractStridedSlice S128x256 ![384, 0] s slices_S768x256_o384_0_S128x256) b⟩,
     ⟨S128x256, addf (extractStridedSlice S128x256 ![512, 0] s slices_S768x256_o512_0_S128x256) b⟩,
     ⟨S128x256, addf (extractStridedSlice S128x256 ![640, 0] s slices_S768x256_o640_0_S128x256) b⟩]
    concatenates_S128x256_S128x256_S128x256_S128x256_S128x256_S128x256_S768x256_d0

/-- Each row's largest score, the sink counted. -/
def rowTop (s : FVec Ideal S768x256 .f32) (c : FVec Ideal S768x1 .f32) : FVec Ideal S768x1 .f32 :=
  maximumf (shapeCast S768x1 (multiReduction .maximumf [1] S768 s 0xFF800000#32 reduces_S768x256_S768 (.inl rfl) rfl) shapeCasts_S768_S768x1) c

/-- The unnormalised weights: two to the score less the row's largest. -/
def weights (s : FVec Ideal S768x256 .f32) (c : FVec Ideal S768x1 .f32) : FVec Ideal S768x256 .f32 :=
  exp2 (subf s (broadcastTo S768x256 (rowTop s c) broadcasts_S768x1_S768x256))

/-- The attention output of six heads' query rows over one window of values. -/
def attend (s : FVec Ideal S768x256 .f32) (c : FVec Ideal S768x1 .f32) (v : FVec Ideal S256x128 .bf16) : FVec Ideal S768x128 .f32 :=
  divf (matmul dot_S768x256_S256x128_S768x128_1_0_0_1_n_n none (truncf .bf16 (weights s c) bitsLt_bf16_f32) v (constant S768x128 .f32 0x00000000#32))
    (broadcastTo S768x128
      (addf (shapeCast S768x1 (multiReduction .add [1] S768 (weights s c) 0x00000000#32 reduces_S768x256_S768 (.inl rfl) rfl) shapeCasts_S768_S768x1)
        (exp2 (subf c (rowTop s c)))) broadcasts_S768x1_S768x128)

theorem scores_apply (q : FVec Ideal S768x128 .bf16) (k : FVec Ideal S256x128 .bf16) (b : FVec Ideal S128x256 .f32) (n : Fin 768) (j : Fin 256) :
    scores q k b (ix2 n j) = (∑ d : Fin 128, q (ix2 n d) * k (ix2 j d)) * Named.named (F := Ideal) (φ := .f32) κ "log2e" 0x3FB8AA3B#32 + b (ix2 ⟨n.val % 128, by omega⟩ j) := by
  set s : FVec Ideal S768x256 .f32 := mulf (matmul dot_S768x128_S256x128_S768x256_1_1_0_0_n_n none q k (constant S768x256 .f32 0x00000000#32)) (broadcast S768x256 (Named.named (F := Ideal) κ "log2e" 0x3FB8AA3B#32)) with hs
  have e := stack6_apply (fun g : Fin 6 => (addf (extractStridedSlice S128x256 ![128 * g.val, 0] s
    (by revert g; decide)) b : FVec Ideal S128x256 .f32))
    concatenates_S128x256_S128x256_S128x256_S128x256_S128x256_S128x256_S768x256_d0 n j
  refine Eq.trans e ?_
  have e2 : (extractStridedSlice S128x256 ![128 * (n.val / 128), 0] s
      (by have : n.val / 128 < 6 := by omega
          generalize n.val / 128 = g at this; interval_cases g <;> decide)) (ix2 (⟨n.val % 128, by omega⟩ : Fin 128) j)
      = (∑ d : Fin 128, q (ix2 n d) * k (ix2 j d)) * Named.named (F := Ideal) (φ := .f32) κ "log2e" 0x3FB8AA3B#32 := by
    have e3 : (extractStridedSlice S128x256 ![128 * (n.val / 128), 0] s
      (by have : n.val / 128 < 6 := by omega
          generalize n.val / 128 = g at this; interval_cases g <;> decide)) (ix2 (⟨n.val % 128, by omega⟩ : Fin 128) j) = s (ix2 n j) := by
      pointwise
      congr 1
      congr 1
      · apply Fin.ext; show 128 * (n.val / 128) + n.val % 128 = n.val; omega
    rw [e3, hs]
    pointwise
  exact congrArg (· + b (ix2 ⟨n.val % 128, by omega⟩ j)) e2

/-- One query row's attention: scores `s`, sink `c`, values `v`. -/
def soft (s : Fin 256 → EReal) (c : EReal) (v : Fin 256 → EReal) : EReal :=
  Ideal.div
    (∑ j, Ideal.exp2 (s j - max (Finset.univ.fold max ⊥ s) c) * v j)
    (∑ j, Ideal.exp2 (s j - max (Finset.univ.fold max ⊥ s) c) + Ideal.exp2 (c - max (Finset.univ.fold max ⊥ s) c))

theorem attend_apply (s : FVec Ideal S768x256 .f32) (c : FVec Ideal S768x1 .f32) (v : FVec Ideal S256x128 .bf16) (n : Fin 768) (d : Fin 128) :
    attend s c v (ix2 n d) = soft (fun j => s (ix2 n j)) (c (ix2 n 0)) (fun j => v (ix2 j d)) := by
  have hb : Ideal.ofBits .f32 0xFF800000#32 = ⊥ := by decide
  pointwise [attend, weights, rowTop]
  rw [hb]
  rfl

/-- Entry (row, column) of a one-block array, 0 outside it. -/
def at3 {A B : Nat} (x : (⟨3, ![1, A, B]⟩ : Shape).Idx → EReal) (r c : Nat) : EReal :=
  if h : r < A ∧ c < B then x (ix3 0 ⟨r, h.1⟩ ⟨c, h.2⟩) else 0

theorem at3_eq {A B : Nat} (x : (⟨3, ![1, A, B]⟩ : Shape).Idx → EReal) (i : (⟨3, ![1, A, B]⟩ : Shape).Idx) (r c : Nat)
    (h1 : (i 1).val = r) (h2 : (i 2).val = c) : at3 x r c = x i := by
  subst h1 h2
  unfold at3
  rw [dif_pos ⟨(i 1).isLt, (i 2).isLt⟩]
  congr 1
  funext a
  match a with
  | ⟨0, _⟩ => exact Fin.ext (by have := (i 0).isLt; show 0 = (i 0).val; have h : (i 0).val < 1 := this; omega)
  | ⟨1, _⟩ => rfl
  | ⟨2, _⟩ => rfl

/-- Entry `k` of a vector, 0 outside it. -/
def at1 {A : Nat} (x : (⟨1, ![A]⟩ : Shape).Idx → EReal) (k : Nat) : EReal :=
  if h : k < A then x (ix1 ⟨k, h⟩) else 0

/-- Row `n` of the 128 rows before a block followed by the block itself, at lane `d` of key head `h`. -/
def keyAt (p : Vec Ideal S1x128x256 .bf16) (c : Vec Ideal S1x1024x256 .bf16) (h n d : Nat) : EReal :=
  if n < 128 then at3 p n (h * 128 + d) else at3 c (n - 128) (h * 128 + d)

/-- One entry of a block's attention output: query row `row`, query head `hd`, lane `d`. -/
def blockOut (x0 : Vec Ideal S12 .f32) (x1 : Vec Ideal S1x1024x1536 .bf16) (x2 : Vec Ideal S1x128x256 .bf16) (x3 : Vec Ideal S1x1024x256 .bf16)
    (x4 : Vec Ideal S1x128x256 .bf16) (x5 : Vec Ideal S1x1024x256 .bf16) (w : BitVec 32) (row hd d : Nat) : EReal :=
  soft (fun j => (∑ d' : Fin 128, at3 x1 row (hd * 128 + d'.val) * keyAt x2 x3 (hd / 6) (row / 128 * 128 + j.val) d'.val)
          * Named.named (F := Ideal) (φ := .f32) κ "log2e" 0x3FB8AA3B#32
        + mask (Scalar.addi w (BitVec.ofNat 32 (row / 128 * 128 + 4294967168))) (Scalar.addi w (BitVec.ofNat 32 (row / 128 * 128)))
            (ix2 ⟨row % 128, Nat.mod_lt _ (by decide)⟩ j))
    (at1 x0 hd * Named.named (F := Ideal) (φ := .f32) κ "log2e" 0x3FB8AA3B#32)
    (fun j => keyAt x4 x5 (hd / 6) (row / 128 * 128 + j.val) d)

/-- A box of a one-block array, its unit axis dropped, at an index. -/
theorem box_apply {A B m n : Nat} (X : Vec Ideal (⟨3, ![1, A, B]⟩ : Shape) .bf16) (r c : Nat)
    (i : ∀ a, (![0, r, c] : Fin 3 → Nat) a + (![1, m, n] : Fin 3 → Nat) a ≤ (⟨3, ![1, A, B]⟩ : Shape).size a)
    (h : (⟨3, ![1, m, n]⟩ : Shape).ShapeCasts ⟨2, ![m, n]⟩) (p : Fin m) (q : Fin n) :
    shapeCast (⟨2, ![m, n]⟩ : Shape) (View.ld X (Rect.unit (s := ⟨3, ![1, A, B]⟩) ![0, r, c] ![1, m, n] i) : FVec Ideal (⟨3, ![1, m, n]⟩ : Shape) .bf16) h (ix2 p q)
      = at3 X (r + p.val) (c + q.val) := by
  refine (shapeCast_dropUnit_apply ![m, n] _ h (ix2 p q)).trans ?_
  refine Eq.trans (View.ld_apply _ _ _) ?_
  refine (at3_eq _ _ _ _ ?_ ?_).symm
  · exact Rect.idx_unit_val _ _ _ _ _
  · exact Rect.idx_unit_val _ _ _ _ _

theorem pairCat_apply (u : FVec Ideal S128x128 .bf16) (w : FVec Ideal S1024x128 .bf16) (n : Fin 1152) (d : Fin 128) :
    concatenate S1152x128 0 [⟨S128x128, u⟩, ⟨S1024x128, w⟩] concatenates_S128x128_S1024x128_S1152x128_d0 (ix2 n d)
      = if h : n.val < 128 then u (ix2 ⟨n.val, h⟩ d) else w (ix2 ⟨n.val - 128, by omega⟩ d) := by
  pointwise

theorem keyCat_apply (p : Vec Ideal S1x128x256 .bf16) (c : Vec Ideal S1x1024x256 .bf16) (kc : Nat)
    (i1 : ∀ a, (![0, 0, kc] : Fin 3 → Nat) a + (![1, 128, 128] : Fin 3 → Nat) a ≤ S1x128x256.size a)
    (i2 : ∀ a, (![0, 0, kc] : Fin 3 → Nat) a + (![1, 1024, 128] : Fin 3 → Nat) a ≤ S1x1024x256.size a)
    (h : Nat) (hk : kc = h * 128) (n : Fin 1152) (d : Fin 128) :
    (concatenate S1152x128 0
      [⟨S128x128, (shapeCast S128x128 (View.ld p (Rect.unit (s := S1x128x256) ![0, 0, kc] ![1, 128, 128] i1) : FVec Ideal S1x128x128 .bf16) shapeCasts_S1x128x128_S128x128)⟩,
       ⟨S1024x128, (shapeCast S1024x128 (View.ld c (Rect.unit (s := S1x1024x256) ![0, 0, kc] ![1, 1024, 128] i2) : FVec Ideal S1x1024x128 .bf16) shapeCasts_S1x1024x128_S1024x128)⟩]
      concatenates_S128x128_S1024x128_S1152x128_d0 : FVec Ideal S1152x128 .bf16) (ix2 n d) = keyAt p c h n.val d.val := by
  subst hk
  refine (pairCat_apply _ _ n d).trans ?_
  unfold keyAt
  by_cases hn : n.val < 128
  · rw [dif_pos hn, if_pos hn]
    exact (box_apply p 0 (h * 128) i1 _ _ _).trans (by rw [Nat.zero_add])
  · rw [dif_neg hn, if_neg hn]
    exact (box_apply c 0 (h * 128) i2 _ _ _).trans (by rw [Nat.zero_add])

/-- Six heads' query rows stacked, at an index. -/
theorem queryCat_apply (X : Vec Ideal S1x1024x1536 .bf16) (r c : Nat)
    (i : ∀ g : Fin 6, ∀ a, (![0, r, c + 128 * g.val] : Fin 3 → Nat) a + (![1, 128, 128] : Fin 3 → Nat) a ≤ S1x1024x1536.size a)
    (n : Fin 768) (d : Fin 128) :
    (concatenate S768x128 0
      [⟨S128x128, (shapeCast S128x128 (View.ld X (Rect.unit (s := S1x1024x1536) ![0, r, c + 128 * 0] ![1, 128, 128] (i 0)) : FVec Ideal S1x128x128 .bf16) shapeCasts_S1x128x128_S128x128)⟩,
       ⟨S128x128, (shapeCast S128x128 (View.ld X (Rect.unit (s := S1x1024x1536) ![0, r, c + 128 * 1] ![1, 128, 128] (i 1)) : FVec Ideal S1x128x128 .bf16) shapeCasts_S1x128x128_S128x128)⟩,
       ⟨S128x128, (shapeCast S128x128 (View.ld X (Rect.unit (s := S1x1024x1536) ![0, r, c + 128 * 2] ![1, 128, 128] (i 2)) : FVec Ideal S1x128x128 .bf16) shapeCasts_S1x128x128_S128x128)⟩,
       ⟨S128x128, (shapeCast S128x128 (View.ld X (Rect.unit (s := S1x1024x1536) ![0, r, c + 128 * 3] ![1, 128, 128] (i 3)) : FVec Ideal S1x128x128 .bf16) shapeCasts_S1x128x128_S128x128)⟩,
       ⟨S128x128, (shapeCast S128x128 (View.ld X (Rect.unit (s := S1x1024x1536) ![0, r, c + 128 * 4] ![1, 128, 128] (i 4)) : FVec Ideal S1x128x128 .bf16) shapeCasts_S1x128x128_S128x128)⟩,
       ⟨S128x128, (shapeCast S128x128 (View.ld X (Rect.unit (s := S1x1024x1536) ![0, r, c + 128 * 5] ![1, 128, 128] (i 5)) : FVec Ideal S1x128x128 .bf16) shapeCasts_S1x128x128_S128x128)⟩]
      concatenates_S128x128_S128x128_S128x128_S128x128_S128x128_S128x128_S768x128_d0 : FVec Ideal S768x128 .bf16) (ix2 n d)
      = at3 X (r + n.val % 128) (c + 128 * (n.val / 128) + d.val) := by
  refine (stack6_apply (fun g : Fin 6 => (shapeCast S128x128 (View.ld X (Rect.unit (s := S1x1024x1536) ![0, r, c + 128 * g.val] ![1, 128, 128] (i g)) : FVec Ideal S1x128x128 .bf16) shapeCasts_S1x128x128_S128x128 : S128x128.Idx → EReal))
    concatenates_S128x128_S128x128_S128x128_S128x128_S128x128_S128x128_S768x128_d0 n d).trans ?_
  exact box_apply X r (c + 128 * (n.val / 128)) (i ⟨n.val / 128, by omega⟩) _ _ _

/-- The sinks of six heads, each repeated down its head's 128 rows, at an index. -/
theorem sinkCat_apply (X : Vec Ideal S12 .f32) (s0 : Nat) (l : Ideal .f32)
    (i : ∀ g : Fin 6, ∀ a, (![s0 + g.val] : Fin 1 → Nat) a + (![1] : Fin 1 → Nat) a ≤ S12.size a)
    (h1 : 0 < S1.numel) (n : Fin 768) :
    (concatenate S768x1 0
      [⟨S128x1, broadcast S128x1 (Scalar.mulf (View.ld X (Rect.unit (s := S12) ![s0 + 0] ![1] (i 0)) (Shape.Idx.first h1)) l)⟩,
       ⟨S128x1, broadcast S128x1 (Scalar.mulf (View.ld X (Rect.unit (s := S12) ![s0 + 1] ![1] (i 1)) (Shape.Idx.first h1)) l)⟩,
       ⟨S128x1, broadcast S128x1 (Scalar.mulf (View.ld X (Rect.unit (s := S12) ![s0 + 2] ![1] (i 2)) (Shape.Idx.first h1)) l)⟩,
       ⟨S128x1, broadcast S128x1 (Scalar.mulf (View.ld X (Rect.unit (s := S12) ![s0 + 3] ![1] (i 3)) (Shape.Idx.first h1)) l)⟩,
       ⟨S128x1, broadcast S128x1 (Scalar.mulf (View.ld X (Rect.unit (s := S12) ![s0 + 4] ![1] (i 4)) (Shape.Idx.first h1)) l)⟩,
       ⟨S128x1, broadcast S128x1 (Scalar.mulf (View.ld X (Rect.unit (s := S12) ![s0 + 5] ![1] (i 5)) (Shape.Idx.first h1)) l)⟩]
      concatenates_S128x1_S128x1_S128x1_S128x1_S128x1_S128x1_S768x1_d0 : FVec Ideal S768x1 .f32) (ix2 n 0)
      = at1 X (s0 + n.val / 128) * l := by
  refine (stack6_apply (fun g : Fin 6 => (broadcast S128x1 (Scalar.mulf (View.ld X (Rect.unit (s := S12) ![s0 + g.val] ![1] (i g)) (Shape.Idx.first h1)) l) : S128x1.Idx → EReal))
    concatenates_S128x1_S128x1_S128x1_S128x1_S128x1_S128x1_S768x1_d0 n 0).trans ?_
  show X _ * l = _
  have hb := i ⟨n.val / 128, by omega⟩ 0
  have hb' : s0 + n.val / 128 + 1 ≤ 12 := hb
  unfold at1
  rw [dif_pos (by omega)]
  congr 2
  funext a
  match a with
  | ⟨0, _⟩ =>
    refine Fin.ext ?_
    refine (Rect.idx_unit_val (s := S12) _ _ _ _ _).trans ?_
    have : ((Shape.Idx.first h1 : S1.Idx) 0).val = 0 := by have := ((Shape.Idx.first h1 : S1.Idx) 0).isLt; have h : ((Shape.Idx.first h1 : S1.Idx) 0).val < 1 := this; omega
    exact (congrArg (s0 + n.val / 128 + ·) this)

/-- One stored tile: 128 query rows (from row `r0` of the block) of the head whose columns start at `cy`. -/
def tile (x0 : Vec Ideal S12 .f32) (x1 : Vec Ideal S1x1024x1536 .bf16) (x2 : Vec Ideal S1x128x256 .bf16) (x3 : Vec Ideal S1x1024x256 .bf16)
    (x4 : Vec Ideal S1x128x256 .bf16) (x5 : Vec Ideal S1x1024x256 .bf16) (w : BitVec 32) (r0 cy : Nat)
    (iq : ∀ g : Fin 6, ∀ a, (![0, r0, cy / 768 * 768 + 128 * g.val] : Fin 3 → Nat) a + (![1, 128, 128] : Fin 3 → Nat) a ≤ S1x1024x1536.size a)
    (is : ∀ g : Fin 6, ∀ a, (![cy / 768 * 6 + g.val] : Fin 1 → Nat) a + (![1] : Fin 1 → Nat) a ≤ S12.size a)
    (i1 : ∀ a, (![0, 0, cy / 768 * 128] : Fin 3 → Nat) a + (![1, 128, 128] : Fin 3 → Nat) a ≤ S1x128x256.size a)
    (i2 : ∀ a, (![0, 0, cy / 768 * 128] : Fin 3 → Nat) a + (![1, 1024, 128] : Fin 3 → Nat) a ≤ S1x1024x256.size a)
    (h1 : 0 < S1.numel) (hs : S1152x128.Slices ![r0, 0] S256x128) (hs2 : S768x128.Slices ![cy % 768, 0] S128x128) : FVec Ideal S1x128x128 .bf16 :=
  shapeCast S1x128x128 (truncf .bf16 (extractStridedSlice S128x128 ![cy % 768, 0]
      (attend (scores
          (concatenate S768x128 0 [⟨S128x128, (shapeCast S128x128 (View.ld x1 (Rect.unit (s := S1x1024x1536) ![0, r0, cy / 768 * 768 + 128 * 0] ![1, 128, 128] (iq 0)) : FVec Ideal S1x128x128 .bf16) shapeCasts_S1x128x128_S128x128)⟩, ⟨S128x128, (shapeCast S128x128 (View.ld x1 (Rect.unit (s := S1x1024x1536) ![0, r0, cy / 768 * 768 + 128 * 1] ![1, 128, 128] (iq 1)) : FVec Ideal S1x128x128 .bf16) shapeCasts_S1x128x128_S128x128)⟩, ⟨S128x128, (shapeCast S128x128 (View.ld x1 (Rect.unit (s := S1x1024x1536) ![0, r0, cy / 768 * 768 + 128 * 2] ![1, 128, 128] (iq 2)) : FVec Ideal S1x128x128 .bf16) shapeCasts_S1x128x128_S128x128)⟩, ⟨S128x128, (shapeCast S128x128 (View.ld x1 (Rect.unit (s := S1x1024x1536) ![0, r0, cy / 768 * 768 + 128 * 3] ![1, 128, 128] (iq 3)) : FVec Ideal S1x128x128 .bf16) shapeCasts_S1x128x128_S128x128)⟩, ⟨S128x128, (shapeCast S128x128 (View.ld x1 (Rect.unit (s := S1x1024x1536) ![0, r0, cy / 768 * 768 + 128 * 4] ![1, 128, 128] (iq 4)) : FVec Ideal S1x128x128 .bf16) shapeCasts_S1x128x128_S128x128)⟩, ⟨S128x128, (shapeCast S128x128 (View.ld x1 (Rect.unit (s := S1x1024x1536) ![0, r0, cy / 768 * 768 + 128 * 5] ![1, 128, 128] (iq 5)) : FVec Ideal S1x128x128 .bf16) shapeCasts_S1x128x128_S128x128)⟩] concatenates_S128x128_S128x128_S128x128_S128x128_S128x128_S128x128_S768x128_d0 : FVec Ideal S768x128 .bf16)
          (extractStridedSlice S256x128 ![r0, 0] (concatenate S1152x128 0 [⟨S128x128, (shapeCast S128x128 (View.ld x2 (Rect.unit (s := S1x128x256) ![0, 0, cy / 768 * 128] ![1, 128, 128] i1) : FVec Ideal S1x128x128 .bf16) shapeCasts_S1x128x128_S128x128)⟩, ⟨S1024x128, (shapeCast S1024x128 (View.ld x3 (Rect.unit (s := S1x1024x256) ![0, 0, cy / 768 * 128] ![1, 1024, 128] i2) : FVec Ideal S1x1024x128 .bf16) shapeCasts_S1x1024x128_S1024x128)⟩] concatenates_S128x128_S1024x128_S1152x128_d0 : FVec Ideal S1152x128 .bf16) hs) (mask (Scalar.addi w (BitVec.ofNat 32 (r0 + 4294967168))) (Scalar.addi w (BitVec.ofNat 32 r0))))
        (concatenate S768x1 0 [⟨S128x1, broadcast S128x1 (Scalar.mulf (View.ld x0 (Rect.unit (s := S12) ![cy / 768 * 6 + 0] ![1] (is 0)) (Shape.Idx.first h1)) (Named.named (F := Ideal) (φ := .f32) κ "log2e" 0x3FB8AA3B#32))⟩, ⟨S128x1, broadcast S128x1 (Scalar.mulf (View.ld x0 (Rect.unit (s := S12) ![cy / 768 * 6 + 1] ![1] (is 1)) (Shape.Idx.first h1)) (Named.named (F := Ideal) (φ := .f32) κ "log2e" 0x3FB8AA3B#32))⟩, ⟨S128x1, broadcast S128x1 (Scalar.mulf (View.ld x0 (Rect.unit (s := S12) ![cy / 768 * 6 + 2] ![1] (is 2)) (Shape.Idx.first h1)) (Named.named (F := Ideal) (φ := .f32) κ "log2e" 0x3FB8AA3B#32))⟩, ⟨S128x1, broadcast S128x1 (Scalar.mulf (View.ld x0 (Rect.unit (s := S12) ![cy / 768 * 6 + 3] ![1] (is 3)) (Shape.Idx.first h1)) (Named.named (F := Ideal) (φ := .f32) κ "log2e" 0x3FB8AA3B#32))⟩, ⟨S128x1, broadcast S128x1 (Scalar.mulf (View.ld x0 (Rect.unit (s := S12) ![cy / 768 * 6 + 4] ![1] (is 4)) (Shape.Idx.first h1)) (Named.named (F := Ideal) (φ := .f32) κ "log2e" 0x3FB8AA3B#32))⟩, ⟨S128x1, broadcast S128x1 (Scalar.mulf (View.ld x0 (Rect.unit (s := S12) ![cy / 768 * 6 + 5] ![1] (is 5)) (Shape.Idx.first h1)) (Named.named (F := Ideal) (φ := .f32) κ "log2e" 0x3FB8AA3B#32))⟩] concatenates_S128x1_S128x1_S128x1_S128x1_S128x1_S128x1_S768x1_d0 : FVec Ideal S768x1 .f32)
        (extractStridedSlice S256x128 ![r0, 0] (concatenate S1152x128 0 [⟨S128x128, (shapeCast S128x128 (View.ld x4 (Rect.unit (s := S1x128x256) ![0, 0, cy / 768 * 128] ![1, 128, 128] i1) : FVec Ideal S1x128x128 .bf16) shapeCasts_S1x128x128_S128x128)⟩, ⟨S1024x128, (shapeCast S1024x128 (View.ld x5 (Rect.unit (s := S1x1024x256) ![0, 0, cy / 768 * 128] ![1, 1024, 128] i2) : FVec Ideal S1x1024x128 .bf16) shapeCasts_S1x1024x128_S1024x128)⟩] concatenates_S128x128_S1024x128_S1152x128_d0 : FVec Ideal S1152x128 .bf16) hs))
      hs2) bitsLt_bf16_f32) shapeCasts_S128x128_S1x128x128

/-- A stored tile at an index holds the block's attention output at the tile's rows and columns. -/
theorem tile_apply (x0 : Vec Ideal S12 .f32) (x1 : Vec Ideal S1x1024x1536 .bf16) (x2 : Vec Ideal S1x128x256 .bf16) (x3 : Vec Ideal S1x1024x256 .bf16)
    (x4 : Vec Ideal S1x128x256 .bf16) (x5 : Vec Ideal S1x1024x256 .bf16) (w : BitVec 32) (r0 cy : Nat)
    (iq : ∀ g : Fin 6, ∀ a, (![0, r0, cy / 768 * 768 + 128 * g.val] : Fin 3 → Nat) a + (![1, 128, 128] : Fin 3 → Nat) a ≤ S1x1024x1536.size a)
    (is : ∀ g : Fin 6, ∀ a, (![cy / 768 * 6 + g.val] : Fin 1 → Nat) a + (![1] : Fin 1 → Nat) a ≤ S12.size a)
    (i1 : ∀ a, (![0, 0, cy / 768 * 128] : Fin 3 → Nat) a + (![1, 128, 128] : Fin 3 → Nat) a ≤ S1x128x256.size a)
    (i2 : ∀ a, (![0, 0, cy / 768 * 128] : Fin 3 → Nat) a + (![1, 1024, 128] : Fin 3 → Nat) a ≤ S1x1024x256.size a)
    (h1 : 0 < S1.numel) (hs : S1152x128.Slices ![r0, 0] S256x128) (hs2 : S768x128.Slices ![cy % 768, 0] S128x128)
    (x : S1x128x128.Idx) (y1 y2 : Nat) (hy1 : y1 = r0 + (x 1).val) (hx1 : (x 1).val < 128) (hx2 : (x 2).val < 128)
    (hr : r0 % 128 = 0) (ho : cy % 128 = 0) (hy2 : y2 = cy + (x 2).val) :
    tile x0 x1 x2 x3 x4 x5 w r0 cy iq is i1 i2 h1 hs hs2 x = blockOut x0 x1 x2 x3 x4 x5 w y1 (y2 / 128) (y2 % 128) := by
  unfold tile
  have hw : ∀ (v : FVec Ideal S1152x128 .bf16) (j : Fin 256) (d : Fin 128), r0 + j.val < 1152 ∧
      (∀ hh, extractStridedSlice S256x128 ![r0, 0] v hs (ix2 j d) = v (ix2 ⟨r0 + j.val, hh⟩ d)) := by
    intro v j d
    have hb' := hs.2 0
    have hj := j.isLt
    have hh : r0 + j.val < 1152 := by have h : r0 + 256 ≤ 1152 := hb'; omega
    refine ⟨hh, fun _ => ?_⟩
    pointwise
  refine (shapeCast_addUnit_apply ![128, 128] _ shapeCasts_S128x128_S1x128x128 x).trans ?_
  have e1 : ∀ v : FVec Ideal S768x128 .f32, (truncf .bf16 (extractStridedSlice S128x128 ![cy % 768, 0] v hs2) bitsLt_bf16_f32 : FVec Ideal S128x128 .bf16) (fun a => x a.succ)
      = v (ix2 ⟨cy % 768 + (x 1).val, by omega⟩ (x 2)) := by
    intro v
    pointwise
    rfl
  refine (e1 _).trans ?_
  refine (attend_apply _ _ _ _ _).trans ?_
  unfold blockOut
  generalize 4294967168 = K
  have hdiv : y1 / 128 * 128 = r0 := by omega
  have hmod : y1 % 128 = (x 1).val := by omega
  congr 1
  · funext j
    refine (scores_apply _ _ _ _ _).trans ?_
    congr 1
    · refine congrArg (· * _) (Finset.sum_congr rfl fun d _ => ?_)
      congr 1
      · refine (queryCat_apply _ _ _ iq _ _).trans ?_
        congr 1 <;> simp only [] <;> omega
      · obtain ⟨hh, he⟩ := hw (concatenate S1152x128 0 [⟨S128x128, (shapeCast S128x128 (View.ld x2 (Rect.unit (s := S1x128x256) ![0, 0, cy / 768 * 128] ![1, 128, 128] i1) : FVec Ideal S1x128x128 .bf16) shapeCasts_S1x128x128_S128x128)⟩, ⟨S1024x128, (shapeCast S1024x128 (View.ld x3 (Rect.unit (s := S1x1024x256) ![0, 0, cy / 768 * 128] ![1, 1024, 128] i2) : FVec Ideal S1x1024x128 .bf16) shapeCasts_S1x1024x128_S1024x128)⟩] concatenates_S128x128_S1024x128_S1152x128_d0 : FVec Ideal S1152x128 .bf16) j d
        refine (he hh).trans ?_
        refine (keyCat_apply x2 x3 (cy / 768 * 128) i1 i2 (y2 / 128 / 6) (by omega) _ _).trans ?_
        rw [hdiv]
    · rw [hdiv]
      exact congrArg (fun p => mask _ _ (ix2 p j)) (Fin.ext (by show (cy % 768 + (x 1).val) % 128 = y1 % 128; omega))
  · refine (sinkCat_apply x0 (cy / 768 * 6) _ is h1 _).trans ?_
    congr 2
    show cy / 768 * 6 + (cy % 768 + (x 1).val) / 128 = y2 / 128
    omega
  · funext j
    obtain ⟨hh, he⟩ := hw (concatenate S1152x128 0 [⟨S128x128, (shapeCast S128x128 (View.ld x4 (Rect.unit (s := S1x128x256) ![0, 0, cy / 768 * 128] ![1, 128, 128] i1) : FVec Ideal S1x128x128 .bf16) shapeCasts_S1x128x128_S128x128)⟩, ⟨S1024x128, (shapeCast S1024x128 (View.ld x5 (Rect.unit (s := S1x1024x256) ![0, 0, cy / 768 * 128] ![1, 1024, 128] i2) : FVec Ideal S1x1024x128 .bf16) shapeCasts_S1x1024x128_S1024x128)⟩] concatenates_S128x128_S1024x128_S1152x128_d0 : FVec Ideal S1152x128 .bf16) j (x 2)
    refine (he hh).trans ?_
    refine (keyCat_apply x4 x5 (cy / 768 * 128) i1 i2 (y2 / 128 / 6) (by omega) _ _).trans ?_
    rw [hdiv]
    congr 1
    show (x 2).val = y2 % 128
    omega

end Cert.SwaTile
-- ==== Proof.SwaBlock.lean ====
module
public import proofs.«01_k».proof.Proof.Gen.SwaIdeal.Frame
public import proofs.«01_k».proof.Proof.SwaTile
@[expose] public section
set_option maxRecDepth 65536
noncomputable section
namespace Cert.SwaTile
open Idealize.ShloMosaic Idealize.ShloMosaic.TcCoe Idealize.SL Idealize.SL.Sem
open Cert.SwaIdeal Cert.SwaIdeal.Gen

theorem attend_congr {s s' : FVec Ideal S768x256 .f32} {c c' : FVec Ideal S768x1 .f32} {v v' : FVec Ideal S256x128 .bf16}
  (h1 : s = s') (h2 : c = c') (h3 : v = v') : attend s c v = attend s' c' v' := by rw [h1, h2, h3]
theorem scores_congr {q q' : FVec Ideal S768x128 .bf16} {k k' : FVec Ideal S256x128 .bf16} {b b' : FVec Ideal S128x256 .f32}
  (h1 : q = q') (h2 : k = k') (h3 : b = b') : scores q k b = scores q' k' b' := by rw [h1, h2, h3]

set_option maxHeartbeats 8000000 in
theorem out_apply (c : Dev nD) (i : grid0.Coords) (arg2 : Memref sig .tc .smem S12 .f32) (harg2 : arg2.IsWhole) (arg3 : Memref sig .tc .vmem S1x1024x1536 .bf16) (harg3 : arg3.IsWhole) (arg4 : Memref sig .tc .vmem S1x128x256 .bf16) (harg4 : arg4.IsWhole) (arg5 : Memref sig .tc .vmem S1x1024x256 .bf16) (harg5 : arg5.IsWhole) (arg6 : Memref sig .tc .vmem S1x128x256 .bf16) (harg6 : arg6.IsWhole) (arg7 : Memref sig .tc .vmem S1x1024x256 .bf16) (harg7 : arg7.IsWhole) (arg8 : Memref sig .tc .vmem S1x1024x1536 .bf16) (harg8 : arg8.IsWhole)
    (x0 : Vec Ideal S12 .f32) (x1 : Vec Ideal S1x1024x1536 .bf16) (x2 : Vec Ideal S1x128x256 .bf16) (x3 : Vec Ideal S1x1024x256 .bf16) (x4 : Vec Ideal S1x128x256 .bf16) (x5 : Vec Ideal S1x1024x256 .bf16) (y : S1x1024x1536.Idx) :
   out0_A_6 (F := Ideal) c i arg2 harg2 arg3 harg3 arg4 harg4 arg5 harg5 arg6 harg6 arg7 harg7 arg8 harg8 x0 x1 x2 x3 x4 x5 y
     = blockOut x0 x1 x2 x3 x4 x5 (Scalar.muli (BitVec.ofNat 32 (i 1).val) 1024#32) (y 1).val ((y 2).val / 128) ((y 2).val % 128) := by
  have e : ∀ F : Vec Ideal S1x1024x1536 .bf16 → Vec Ideal S1x128x256 .bf16 → Vec Ideal S1x1024x256 .bf16 → Vec Ideal S1x128x256 .bf16 → Vec Ideal S1x1024x256 .bf16 → EReal,
      F (arg3.view.read (Elt Ideal) (harg3.unread x1)) (arg4.view.read (Elt Ideal) (harg4.unread x2)) (arg5.view.read (Elt Ideal) (harg5.unread x3))
          (arg6.view.read (Elt Ideal) (harg6.unread x4)) (arg7.view.read (Elt Ideal) (harg7.unread x5)) = F x1 x2 x3 x4 x5 := by
    intro F
    rw [harg3.read_unread, harg4.read_unread, harg5.read_unread, harg6.read_unread, harg7.read_unread]
  have T : ∀ (P : EReal) (x : S1x128x128.Idx) (y1 y2 r0 cy : Nat) (_ : y1 = r0 + (x 1).val) (_ : y2 = cy + (x 2).val) (_ : (x 1).val < 128) (_ : (x 2).val < 128)
      (_ : r0 % 128 = 0) (_ : cy % 128 = 0)
      (iq : ∀ g : Fin 6, ∀ a, (![0, r0, cy / 768 * 768 + 128 * g.val] : Fin 3 → Nat) a + (![1, 128, 128] : Fin 3 → Nat) a ≤ S1x1024x1536.size a)
      (is : ∀ g : Fin 6, ∀ a, (![cy / 768 * 6 + g.val] : Fin 1 → Nat) a + (![1] : Fin 1 → Nat) a ≤ S12.size a)
      (i1 : ∀ a, (![0, 0, cy / 768 * 128] : Fin 3 → Nat) a + (![1, 128, 128] : Fin 3 → Nat) a ≤ S1x128x256.size a)
      (i2 : ∀ a, (![0, 0, cy / 768 * 128] : Fin 3 → Nat) a + (![1, 1024, 128] : Fin 3 → Nat) a ≤ S1x1024x256.size a)
      (hs : S1152x128.Slices ![r0, 0] S256x128) (hs2 : S768x128.Slices ![cy % 768, 0] S128x128)
      (_ : P = tile x0 (arg3.view.read (Elt Ideal) (harg3.unread x1)) (arg4.view.read (Elt Ideal) (harg4.unread x2)) (arg5.view.read (Elt Ideal) (harg5.unread x3)) (arg6.view.read (Elt Ideal) (harg6.unread x4)) (arg7.view.read (Elt Ideal) (harg7.unread x5)) (Scalar.muli (BitVec.ofNat 32 (i 1).val) 1024#32) r0 cy iq is i1 i2 (by decide) hs hs2 x),
      P = blockOut x0 x1 x2 x3 x4 x5 (Scalar.muli (BitVec.ofNat 32 (i 1).val) 1024#32) y1 (y2 / 128) (y2 % 128) := by
    intro P x y1 y2 r0 cy a1 a2 a3 a4 a5 a6 iq is i1 i2 hs hs2 a7
    exact (a7.trans (e fun b1 b2 b3 b4 b5 => tile x0 b1 b2 b3 b4 b5 (Scalar.muli (BitVec.ofNat 32 (i 1).val) 1024#32) r0 cy iq is i1 i2 (by decide) hs hs2 x)).trans
      (tile_apply _ _ _ _ _ _ _ _ _ _ _ _ _ _ _ _ x _ _ a1 a3 a4 a5 a6 a2)
  frame_out
  canon_tiles x h
  all_goals
    first
    | refine T _ x _ _ _ _ h1 h2 x1_lt x2_lt (by decide) (by decide) (by decide) (by decide) (by decide) (by decide) (by decide) (by decide) ?_
    | refine T _ x _ _ _ _ (h1.trans (Nat.zero_add _).symm) h2 x1_lt x2_lt (by decide) (by decide) (by decide) (by decide) (by decide) (by decide) (by decide) (by decide) ?_
    | refine T _ x _ _ _ _ h1 (h2.trans (Nat.zero_add _).symm) x1_lt x2_lt (by decide) (by decide) (by decide) (by decide) (by decide) (by decide) (by decide) (by decide) ?_
    | refine T _ x _ _ _ _ (h1.trans (Nat.zero_add _).symm) (h2.trans (Nat.zero_add _).symm) x1_lt x2_lt (by decide) (by decide) (by decide) (by decide) (by decide) (by decide) (by decide) (by decide) ?_
    unfold tile
    refine congrFun (congrArg (fun v => shapeCast S1x128x128 v shapeCasts_S128x128_S1x128x128) (congrArg (fun v => truncf .bf16 v bitsLt_bf16_f32) (congrArg (fun v => extractStridedSlice S128x128 _ v _) ?_))) x
    refine attend_congr (scores_congr ?_ ?_ ?_) ?_ ?_
    all_goals
      first
      | with_reducible rfl
      | rfl
      | (rw [harg6.read_unread, harg7.read_unread]; first | done | rfl)
      | (rw [harg4.read_unread, harg5.read_unread]; first | done | rfl)
      | (rw [harg3.read_unread]; first | done | rfl)
end Cert.SwaTile
-- ==== Proof.SwaMath.lean ====
module
public import proofs.«01_k».proof.Proof.SwaTile
@[expose] public section
noncomputable section
/-! Softmax with a sink over masked scores, in base two with its largest score taken off and in base e with any real taken off:
    both are the same quotient of real sums. -/
namespace Cert.SwaMath
open Idealize.ShloMosaic Cert.SwaTile

/-- A sum of reals, read as extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The quotient of two reals, the denominator positive. -/
theorem div_real (a b : ℝ) (hb : 0 < b) : Ideal.div (a : EReal) (b : EReal) = ((a / b : ℝ) : EReal) := by
  rw [Ideal.div_coe hb.ne', ← EReal.coe_mul, mul_one_div]

/-- Two to a score in base two. -/
theorem two_rpow (x r : ℝ) : Real.rpow 2 (x * (Real.log 2)⁻¹ - r) = Real.exp x * Real.rpow 2 (-r) := by
  have h2 : (0 : ℝ) < 2 := by norm_num
  have hl : Real.log 2 ≠ 0 := (Real.log_pos (by norm_num)).ne'
  show (2 : ℝ) ^ (x * (Real.log 2)⁻¹ - r) = Real.exp x * (2 : ℝ) ^ (-r)
  rw [Real.rpow_def_of_pos h2, Real.rpow_def_of_pos h2, ← Real.exp_add]
  congr 1
  field_simp
  ring

/-- The weight of a key: the exponential of its score, nothing where it is masked. -/
def weight (vis : Fin 256 → Prop) [DecidablePred vis] (x : Fin 256 → ℝ) (j : Fin 256) : ℝ := if vis j then Real.exp (x j) else 0

/-- The weighted mean of the values, the sink's weight counted below. -/
def mean (vis : Fin 256 → Prop) [DecidablePred vis] (x : Fin 256 → ℝ) (c : ℝ) (v : Fin 256 → ℝ) : ℝ :=
  (∑ j, weight vis x j * v j) / (∑ j, weight vis x j + Real.exp c)

theorem weight_nonneg (vis : Fin 256 → Prop) [DecidablePred vis] (x : Fin 256 → ℝ) (j : Fin 256) : 0 ≤ weight vis x j := by
  unfold weight
  split
  · exact (Real.exp_pos _).le
  · exact le_rfl

theorem total_pos (vis : Fin 256 → Prop) [DecidablePred vis] (x : Fin 256 → ℝ) (c : ℝ) : 0 < ∑ j, weight vis x j + Real.exp c :=
  add_pos_of_nonneg_of_pos (Finset.sum_nonneg fun j _ => weight_nonneg vis x j) (Real.exp_pos _)

/-- The mean reads only the values whose keys are visible. -/
theorem mean_congr (vis : Fin 256 → Prop) [DecidablePred vis] (x y : Fin 256 → ℝ) (c : ℝ) (v w : Fin 256 → ℝ)
    (hx : ∀ j, vis j → x j = y j) (hv : ∀ j, vis j → v j = w j) : mean vis x c v = mean vis y c w := by
  have hw : weight vis x = weight vis y := by
    funext j
    unfold weight
    split
    · rename_i h
      rw [hx j h]
    · rfl
  unfold mean
  rw [hw]
  congr 1
  refine Finset.sum_congr rfl fun j _ => ?_
  by_cases h : vis j
  · rw [hv j h]
  · simp only [weight, if_neg h, zero_mul]

/-- Scaling every weight, the sink's with them, leaves the mean. -/
theorem mean_scaled (vis : Fin 256 → Prop) [DecidablePred vis] (x : Fin 256 → ℝ) (c : ℝ) (v : Fin 256 → ℝ) (a : ℝ) (ha : 0 < a) :
    (∑ j, weight vis x j * a * v j) / (∑ j, weight vis x j * a + Real.exp c * a) = mean vis x c v := by
  unfold mean
  rw [← Finset.sum_mul, ← add_mul, show (∑ j, weight vis x j * a * v j) = (∑ j, weight vis x j * v j) * a from by
    rw [Finset.sum_mul]
    exact Finset.sum_congr rfl fun j _ => by ring]
  exact mul_div_mul_right _ _ ha.ne'

/-- The kernel's form: base two, masked scores at minus infinity, the largest score taken off. -/
theorem soft_real (vis : Fin 256 → Prop) [DecidablePred vis] (x : Fin 256 → ℝ) (c : ℝ) (v : Fin 256 → ℝ) :
    soft (fun j => (x j : EReal) * (((Real.log 2)⁻¹ : ℝ) : EReal) + (if vis j then 0 else ⊥)) ((c : EReal) * (((Real.log 2)⁻¹ : ℝ) : EReal))
        (fun j => (v j : EReal)) = ((mean vis x c v : ℝ) : EReal) := by
  have hs : ∀ j, (x j : EReal) * (((Real.log 2)⁻¹ : ℝ) : EReal) + (if vis j then 0 else ⊥)
      = if vis j then ((x j * (Real.log 2)⁻¹ : ℝ) : EReal) else ⊥ := by
    intro j
    split
    · rw [add_zero, EReal.coe_mul]
    · exact EReal.add_bot _
  simp only [hs]
  rw [← EReal.coe_mul]
  unfold soft
  obtain ⟨r, hr⟩ : ∃ r : ℝ, max (Finset.univ.fold max ⊥ fun j => if vis j then ((x j * (Real.log 2)⁻¹ : ℝ) : EReal) else ⊥) ((c * (Real.log 2)⁻¹ : ℝ) : EReal) = (r : EReal) := by
    refine ⟨_, (EReal.coe_toReal ?_ ?_).symm⟩
    · refine ne_of_lt (max_lt ((Finset.fold_max_lt _).mpr ⟨bot_lt_top, fun j _ => ?_⟩) (EReal.coe_lt_top _))
      split
      · exact EReal.coe_lt_top _
      · exact bot_lt_top
    · exact ne_of_gt (lt_max_of_lt_right (EReal.bot_lt_coe _))
  rw [hr]
  have he : ∀ j, Ideal.exp2 ((if vis j then ((x j * (Real.log 2)⁻¹ : ℝ) : EReal) else ⊥) - (r : EReal)) = ((weight vis x j * Real.rpow 2 (-r) : ℝ) : EReal) := by
    intro j
    unfold weight
    split
    · rw [← EReal.coe_sub, Ideal.exp2_coe, two_rpow]
    · rw [EReal.bot_sub, Ideal.exp2_bot, zero_mul, EReal.coe_zero]
  have hc : Ideal.exp2 (((c * (Real.log 2)⁻¹ : ℝ) : EReal) - (r : EReal)) = ((Real.exp c * Real.rpow 2 (-r) : ℝ) : EReal) := by
    rw [← EReal.coe_sub, Ideal.exp2_coe, two_rpow]
  have ha : (0 : ℝ) < Real.rpow 2 (-r) := Real.rpow_pos_of_pos (by norm_num) _
  simp only [he, hc, ← EReal.coe_mul]
  rw [← coe_sum, ← coe_sum, ← EReal.coe_add, div_real _ _ (by
    rw [← Finset.sum_mul, ← add_mul]
    exact mul_pos (total_pos vis x c) ha), mean_scaled vis x c v _ ha]

/-- The reference's form: base e, a real taken off every score, each weight divided by the total before the values are weighted. -/
theorem plain_real (vis : Fin 256 → Prop) [DecidablePred vis] (x : Fin 256 → ℝ) (c : ℝ) (v : Fin 256 → ℝ) (r : ℝ) :
    ∑ j : Fin 256, (v j : EReal) * Ideal.div (Ideal.exp ((if vis j then (x j : EReal) else ⊥) - (r : EReal)))
        (∑ k : Fin 256, Ideal.exp ((if vis k then (x k : EReal) else ⊥) - (r : EReal)) + Ideal.exp ((c : EReal) - (r : EReal)))
      = ((mean vis x c v : ℝ) : EReal) := by
  have he : ∀ j, Ideal.exp ((if vis j then (x j : EReal) else ⊥) - (r : EReal)) = ((weight vis x j * Real.exp (-r) : ℝ) : EReal) := by
    intro j
    unfold weight
    split
    · rw [← EReal.coe_sub, Ideal.exp_coe, sub_eq_add_neg, Real.exp_add]
    · rw [EReal.bot_sub, Ideal.exp_bot, zero_mul, EReal.coe_zero]
  have hc : Ideal.exp ((c : EReal) - (r : EReal)) = ((Real.exp c * Real.exp (-r) : ℝ) : EReal) := by
    rw [← EReal.coe_sub, Ideal.exp_coe, sub_eq_add_neg, Real.exp_add]
  have hp : 0 < ∑ j, weight vis x j * Real.exp (-r) + Real.exp c * Real.exp (-r) := by
    rw [← Finset.sum_mul, ← add_mul]
    exact mul_pos (total_pos vis x c) (Real.exp_pos _)
  simp only [he, hc]
  rw [← coe_sum, ← EReal.coe_add]
  simp only [div_real _ _ hp, ← EReal.coe_mul]
  rw [← coe_sum, ← mean_scaled vis x c v _ (Real.exp_pos (-r)), Finset.sum_div]
  refine congrArg _ (Finset.sum_congr rfl fun j _ => ?_)
  ring

/-- Which keys of its window a query sees: its own and the 127 before it, none before the sequence begins. -/
def vis (n p : Nat) (j : Fin 256) : Prop := (p < j.val ∧ j.val ≤ p + 128) ∧ (n ≠ 0 ∨ 128 ≤ j.val)
instance (n p : Nat) : DecidablePred (vis n p) := fun _ => instDecidableAnd

/-- A key's position as a word. -/
theorem key_toInt (q j b : Nat) (hq : q < 8) (hj : j < 256) (hb : b < 1024) :
    (IntOp.addi (Scalar.addi (Scalar.muli (BitVec.ofNat 32 q) 1024#32) (BitVec.ofNat 32 (b + 4294967168))) (BitVec.ofNat 32 j)).toInt
      = (q * 1024 + b + j : Int) - 128 := by
  obtain ⟨K, hK⟩ : ∃ K : Nat, K = 4294967168 := ⟨_, rfl⟩
  rw [← hK]
  show (BitVec.ofNat 32 q * 1024#32 + BitVec.ofNat 32 (b + K) + BitVec.ofNat 32 j).toInt = _
  rw [BitVec.toInt_eq_toNat_cond]
  simp only [BitVec.toNat_add, BitVec.toNat_mul, BitVec.toNat_ofNat]
  split <;> omega

/-- A query's position as a word. -/
theorem query_toInt (q b p : Nat) (hq : q < 8) (hb : b < 1024) (hp : p < 128) :
    (IntOp.addi (Scalar.addi (Scalar.muli (BitVec.ofNat 32 q) 1024#32) (BitVec.ofNat 32 b)) (BitVec.ofNat 32 p)).toInt
      = (q * 1024 + b + p : Int) := by
  show (BitVec.ofNat 32 q * 1024#32 + BitVec.ofNat 32 b + BitVec.ofNat 32 p).toInt = _
  rw [BitVec.toInt_eq_toNat_cond]
  simp only [BitVec.toNat_add, BitVec.toNat_mul, BitVec.toNat_ofNat]
  split <;> omega

/-- The position a window before the query's, as a word. -/
theorem floor_toInt (q b p : Nat) (hq : q < 8) (hb : b < 1024) (hp : p < 128) :
    (IntOp.subi (IntOp.addi (Scalar.addi (Scalar.muli (BitVec.ofNat 32 q) 1024#32) (BitVec.ofNat 32 b)) (BitVec.ofNat 32 p)) 128#32).toInt
      = (q * 1024 + b + p : Int) - 128 := by
  show (BitVec.ofNat 32 q * 1024#32 + BitVec.ofNat 32 b + BitVec.ofNat 32 p - 128#32).toInt = _
  rw [BitVec.toInt_eq_toNat_cond]
  simp only [BitVec.toNat_add, BitVec.toNat_mul, BitVec.toNat_ofNat, BitVec.toNat_sub]
  split <;> omega

/-- Three word comparisons taken together choose between two values. -/
theorem select_and3 (a b c : Prop) [Decidable a] [Decidable b] [Decidable c] (x y : EReal) :
    Scalar.select (IntOp.andi (IntOp.andi (BitVec.ofBool (decide a)) (BitVec.ofBool (decide b))) (BitVec.ofBool (decide c))) x y
      = if (a ∧ b) ∧ c then x else y := by
  by_cases ha : a <;> by_cases hb : b <;> by_cases hc : c <;> simp [ha, hb, hc, Scalar.select, IntOp.andi]

/-- The kernel's mask at a key, from the block's words. -/
theorem mask_apply (q : Fin 8) (row : Nat) (h : row < 1024) (j : Fin 256) :
    mask (Scalar.addi (Scalar.muli (BitVec.ofNat 32 q.val) 1024#32) (BitVec.ofNat 32 (row / 128 * 128 + 4294967168)))
        (Scalar.addi (Scalar.muli (BitVec.ofNat 32 q.val) 1024#32) (BitVec.ofNat 32 (row / 128 * 128))) (ix2 ⟨row % 128, Nat.mod_lt _ (by decide)⟩ j)
      = if vis (q.val * 8 + row / 128) (row % 128) j then 0 else ⊥ := by
  pointwise [mask]
  have hm : Named.named (F := Ideal) (φ := .f32) SwaIdeal.κ "mask" 4048155338#32 = ⊥ :=
    IdealRules.named_const.ideal_named_scalar _ _ _ _ rfl
  rw [hm]
  have e := select_and3 (0 ≤ (q.val * 1024 + row / 128 * 128 + j.val : Int) - 128)
    ((q.val * 1024 + row / 128 * 128 + j.val : Int) - 128 ≤ q.val * 1024 + row / 128 * 128 + row % 128)
    ((q.val * 1024 + row / 128 * 128 + row % 128 : Int) - 128 < (q.val * 1024 + row / 128 * 128 + j.val : Int) - 128) 0 ⊥
  refine Eq.trans ?_ (e.trans ?_)
  · have h1 := key_toInt q.val j.val (row / 128 * 128) q.isLt j.isLt (by omega)
    have h2 := query_toInt q.val (row / 128 * 128) (row % 128) q.isLt (by omega) (by omega)
    have h3 := floor_toInt q.val (row / 128 * 128) (row % 128) q.isLt (by omega) (by omega)
    generalize IntOp.addi (Scalar.addi (Scalar.muli (BitVec.ofNat 32 q.val) 1024#32) (BitVec.ofNat 32 (row / 128 * 128 + 4294967168))) (BitVec.ofNat 32 j.val) = A at h1 ⊢
    generalize IntOp.subi (IntOp.addi (Scalar.addi (Scalar.muli (BitVec.ofNat 32 q.val) 1024#32) (BitVec.ofNat 32 (row / 128 * 128))) (BitVec.ofNat 32 (row % 128))) 128#32 = C at h3 ⊢
    generalize IntOp.addi (Scalar.addi (Scalar.muli (BitVec.ofNat 32 q.val) 1024#32) (BitVec.ofNat 32 (row / 128 * 128))) (BitVec.ofNat 32 (row % 128)) = B at h2 ⊢
    have z : (0#32 : BitVec 32).toInt = 0 := by decide
    simp only [IntOp.cmpi, BitVec.sle, BitVec.slt, h1, h2, h3, z]
    push_cast
    rfl
  · refine if_congr ?_ rfl rfl
    unfold vis
    omega

end Cert.SwaMath
end
-- ==== Proof.SwaValue.lean ====
module
public import proofs.«01_k».proof.Proof.SwaBlock
public import proofs.«01_k».proof.Proof.SwaMath
public import proofs.«01_k».proof.Proof.Gen.SwaIdeal.Value
public import Idealize.ShloMosaic.Lib.Pipeline.ValueKit
public import Idealize.ShloMosaic.Lib.Pointwise
@[expose] public section
noncomputable section
/-! The sliding-window attention at the ideal instance: what the kernel leaves in its result array. -/
namespace Cert.SwaValue
open Idealize.ShloMosaic Idealize.ShloMosaic.TcCoe Idealize.SL.Sem
open Cert.SwaIdeal Cert.SwaIdeal.Gen Cert.SwaTile Cert.SwaMath

variable (m : (ℓ : Loc nD τ sig) → Buf (Elt Ideal) ℓ) (ρ : Dev nD → PrngReg)

/-- The scale of the queries. -/
def scale : EReal := Ideal.ofBits .f32 0x3DB504F3#32

/-- The entry of a whole array at a batch, a row and a column, 0 outside it. -/
def rd (X : S2x8192x6144.Idx → EReal) (b r k : Nat) : EReal :=
  if h : b < 2 ∧ r < 8192 ∧ k < 6144 then X (ix3 ⟨b, h.1⟩ ⟨r, h.2.1⟩ ⟨k, h.2.2⟩) else 0

/-- The scaled array: its query columns times the scale, the others as they were. -/
def scaled (X : S2x8192x6144.Idx → EReal) (b r k : Nat) : EReal := if k < 3072 then rd X b r k * scale else rd X b r k

/-- The host's lines before the kernel. -/
def hostValue (X : FVec Ideal S2x8192x6144 .f32) : FVec Ideal S2x8192x6144 .bf16 :=
  truncf .bf16 (concatenate S2x8192x6144 2 [⟨S2x8192x3072, mulf (extractStridedSlice S2x8192x3072 ![0, 0, 0] X slices_S2x8192x6144_S2x8192x3072_0_0_0)
        (broadcastInDim S2x8192x3072 ![] bcast_S_S2x8192x3072 (constant S_ .f32 0x3DB504F3#32))⟩,
      ⟨S2x8192x3072, extractStridedSlice S2x8192x3072 ![0, 0, 3072] X slices_S2x8192x6144_S2x8192x3072_0_0_3072⟩] concatenates_S2x8192x3072_S2x8192x3072_S2x8192x6144_d2) bitsLt_bf16_f32

/-- What the host leaves for the kernel. -/
theorem V_eq (c : Dev nD) : V m c main_v5 = hostValue (m ((c : Thread nD τ).loc main_arg0)) := by
  unfold_abbrev_sides
  after_results
  rfl

theorem hostValue_apply (X : FVec Ideal S2x8192x6144 .f32) (b : Fin 2) (r : Fin 8192) (k : Fin 6144) :
    hostValue X (ix3 b r k) = scaled X b.val r.val k.val := by
  unfold scaled scale rd
  rw [dif_pos ⟨b.isLt, r.isLt, k.isLt⟩]
  pointwise [hostValue]
  split
  · rfl
  · rename_i h
    refine congrArg X (congrArg (ix3 b r) (Fin.ext ?_))
    show 3072 + (k.val - 3072) = k.val
    omega

theorem V_apply (c : Dev nD) (b : Fin 2) (r : Fin 8192) (k : Fin 6144) :
    V m c main_v5 (ix3 b r k) = scaled (m ((c : Thread nD τ).loc main_arg0)) b.val r.val k.val := by
  rw [V_eq]
  exact hostValue_apply _ b r k

theorem index0 : ∀ t : Fin cfg0.N, win0_0.index t = ![0] := (by decide +kernel : ∀ t : Fin grid0.N, _)
theorem index1 : ∀ t : Fin cfg0.N, win0_1.index t = ![t.val / 8, t.val % 8, 0] := (by decide +kernel : ∀ t : Fin grid0.N, _)
theorem index2 : ∀ t : Fin cfg0.N, win0_2.index t = ![t.val / 8, t.val % 8 * 8 - 1, 16] := (by decide +kernel : ∀ t : Fin grid0.N, _)
theorem index3 : ∀ t : Fin cfg0.N, win0_3.index t = ![t.val / 8, t.val % 8, 16] := (by decide +kernel : ∀ t : Fin grid0.N, _)
theorem index4 : ∀ t : Fin cfg0.N, win0_4.index t = ![t.val / 8, t.val % 8 * 8 - 1, 22] := (by decide +kernel : ∀ t : Fin grid0.N, _)
theorem index5 : ∀ t : Fin cfg0.N, win0_5.index t = ![t.val / 8, t.val % 8, 22] := (by decide +kernel : ∀ t : Fin grid0.N, _)
theorem index6 : ∀ t : Fin cfg0.N, win0_6.index t = ![t.val / 8, t.val % 8, 0] := (by decide +kernel : ∀ t : Fin grid0.N, _)
theorem coord1 : ∀ t : Fin cfg0.N, (grid0.coords t 1).val = t.val % 8 := (by decide +kernel : ∀ t : Fin grid0.N, _)

/-- Each block's entries, in the array. -/
theorem read1 (c : Dev nD) (t : Fin cfg0.N) (r k : Nat) (hr : r < 1024) (hk : k < 1536) :
    at3 (iblk m c 1 t) r k = rd (m ((c : Thread nD τ).loc main_arg0)) (t.val / 8) (t.val % 8 * 1024 + r) k * scale := by
  have ht : t.val < 16 := lt_of_lt_of_eq t.isLt (show cfg0.N = 16 from N_0)
  unfold at3
  rw [dif_pos ⟨hr, hk⟩]
  refine Eq.trans ?_ ((V_apply m c ⟨t.val / 8, by omega⟩ ⟨t.val % 8 * 1024 + r, by omega⟩ ⟨k, by omega⟩).trans (if_pos (by show k < 3072; omega)))
  blk_simp [iblk]
  refine congrArg (V m c main_v5) ?_
  blk_ext [index1]
theorem read2 (c : Dev nD) (t : Fin cfg0.N) (r k : Nat) (hr : r < 128) (hk : k < 256) :
    at3 (iblk m c 2 t) r k = rd (m ((c : Thread nD τ).loc main_arg0)) (t.val / 8) ((t.val % 8 * 8 - 1) * 128 + r) (4096 + k) := by
  have ht : t.val < 16 := lt_of_lt_of_eq t.isLt (show cfg0.N = 16 from N_0)
  unfold at3
  rw [dif_pos ⟨hr, hk⟩]
  refine Eq.trans ?_ ((V_apply m c ⟨t.val / 8, by omega⟩ ⟨(t.val % 8 * 8 - 1) * 128 + r, by omega⟩ ⟨4096 + k, by omega⟩).trans (if_neg (by show ¬ 4096 + k < 3072; omega)))
  blk_simp [iblk]
  refine congrArg (V m c main_v5) ?_
  blk_ext [index2]
theorem read3 (c : Dev nD) (t : Fin cfg0.N) (r k : Nat) (hr : r < 1024) (hk : k < 256) :
    at3 (iblk m c 3 t) r k = rd (m ((c : Thread nD τ).loc main_arg0)) (t.val / 8) (t.val % 8 * 1024 + r) (4096 + k) := by
  have ht : t.val < 16 := lt_of_lt_of_eq t.isLt (show cfg0.N = 16 from N_0)
  unfold at3
  rw [dif_pos ⟨hr, hk⟩]
  refine Eq.trans ?_ ((V_apply m c ⟨t.val / 8, by omega⟩ ⟨t.val % 8 * 1024 + r, by omega⟩ ⟨4096 + k, by omega⟩).trans (if_neg (by show ¬ 4096 + k < 3072; omega)))
  blk_simp [iblk]
  refine congrArg (V m c main_v5) ?_
  blk_ext [index3]
theorem read4 (c : Dev nD) (t : Fin cfg0.N) (r k : Nat) (hr : r < 128) (hk : k < 256) :
    at3 (iblk m c 4 t) r k = rd (m ((c : Thread nD τ).loc main_arg0)) (t.val / 8) ((t.val % 8 * 8 - 1) * 128 + r) (5632 + k) := by
  have ht : t.val < 16 := lt_of_lt_of_eq t.isLt (show cfg0.N = 16 from N_0)
  unfold at3
  rw [dif_pos ⟨hr, hk⟩]
  refine Eq.trans ?_ ((V_apply m c ⟨t.val / 8, by omega⟩ ⟨(t.val % 8 * 8 - 1) * 128 + r, by omega⟩ ⟨5632 + k, by omega⟩).trans (if_neg (by show ¬ 5632 + k < 3072; omega)))
  blk_simp [iblk]
  refine congrArg (V m c main_v5) ?_
  blk_ext [index4]
theorem read5 (c : Dev nD) (t : Fin cfg0.N) (r k : Nat) (hr : r < 1024) (hk : k < 256) :
    at3 (iblk m c 5 t) r k = rd (m ((c : Thread nD τ).loc main_arg0)) (t.val / 8) (t.val % 8 * 1024 + r) (5632 + k) := by
  have ht : t.val < 16 := lt_of_lt_of_eq t.isLt (show cfg0.N = 16 from N_0)
  unfold at3
  rw [dif_pos ⟨hr, hk⟩]
  refine Eq.trans ?_ ((V_apply m c ⟨t.val / 8, by omega⟩ ⟨t.val % 8 * 1024 + r, by omega⟩ ⟨5632 + k, by omega⟩).trans (if_neg (by show ¬ 5632 + k < 3072; omega)))
  blk_simp [iblk]
  refine congrArg (V m c main_v5) ?_
  blk_ext [index5]
theorem read0 (c : Dev nD) (t : Fin cfg0.N) (k : Nat) (hk : k < 12) :
    at1 (iblk m c 0 t) k = at1 (m ((c : Thread nD τ).loc main_arg1)) k := by
  unfold at1
  rw [dif_pos hk, dif_pos hk]
  refine Eq.trans ?_ (congrFun (V_main_arg1 m c) (ix1 ⟨k, hk⟩))
  blk_simp [iblk]
  refine congrArg (V m c main_arg1) ?_
  blk_ext [index0]

/-- The position a window's key is read from: `j` before the end of the block before, the sequence's own start standing in for what is before it. -/
def keyPos (n j : Nat) : Nat := if n = 0 ∧ j < 128 then j else n * 128 + j - 128

theorem rd_row (X : S2x8192x6144.Idx → EReal) (b k : Nat) {r r' : Nat} (h : r = r') : rd X b r k = rd X b r' k := by rw [h]

theorem key_eq (c : Dev nD) (t : Fin cfg0.N) (h row j d : Nat) (hh : h < 2) (hr : row < 1024) (hj : j < 256) (hd : d < 128) :
    keyAt (iblk m c 2 t) (iblk m c 3 t) h (row / 128 * 128 + j) d
      = rd (m ((c : Thread nD τ).loc main_arg0)) (t.val / 8) (keyPos (t.val % 8 * 8 + row / 128) j) (4096 + (h * 128 + d)) := by
  unfold keyAt keyPos
  split
  · rw [read2 m c t _ _ (by omega) (by omega)]
    refine rd_row _ _ _ ?_
    split <;> omega
  · rw [read3 m c t _ _ (by omega) (by omega)]
    refine rd_row _ _ _ ?_
    split <;> omega
theorem value_eq (c : Dev nD) (t : Fin cfg0.N) (h row j d : Nat) (hh : h < 2) (hr : row < 1024) (hj : j < 256) (hd : d < 128) :
    keyAt (iblk m c 4 t) (iblk m c 5 t) h (row / 128 * 128 + j) d
      = rd (m ((c : Thread nD τ).loc main_arg0)) (t.val / 8) (keyPos (t.val % 8 * 8 + row / 128) j) (5632 + (h * 128 + d)) := by
  unfold keyAt keyPos
  split
  · rw [read4 m c t _ _ (by omega) (by omega)]
    refine rd_row _ _ _ ?_
    split <;> omega
  · rw [read5 m c t _ _ (by omega) (by omega)]
    refine rd_row _ _ _ ?_
    split <;> omega

/-- One entry of the attention's result, from the whole arrays: batch `b`, row `r`, query head `hd`, lane `d`. -/
def entry (X : S2x8192x6144.Idx → EReal) (Y : S12.Idx → EReal) (b r hd d : Nat) : EReal :=
  soft (fun j => (∑ d' : Fin 128, rd X b r (hd * 128 + d'.val) * scale * rd X b (keyPos (r / 128) j.val) (4096 + (hd / 6 * 128 + d'.val)))
          * (((Real.log 2)⁻¹ : ℝ) : EReal) + (if vis (r / 128) (r % 128) j then 0 else ⊥))
    (at1 Y hd * (((Real.log 2)⁻¹ : ℝ) : EReal))
    (fun j => rd X b (keyPos (r / 128) j.val) (5632 + (hd / 6 * 128 + d)))

/-- The block of results a grid point leaves. -/
theorem block_apply (c : Dev nD) (t : Fin cfg0.N) (y : S1x1024x1536.Idx) (b r k : Nat) (hb : b = t.val / 8)
    (hr : r = t.val % 8 * 1024 + (y 1).val) (hk : k = (y 2).val) :
    outsAt0 m c t y = entry (m ((c : Thread nD τ).loc main_arg0)) (m ((c : Thread nD τ).loc main_arg1)) b r (k / 128) (k % 128) := by
  have ht : t.val < 16 := lt_of_lt_of_eq t.isLt (show cfg0.N = 16 from N_0)
  have hy1 : (y 1).val < 1024 := (y 1).isLt
  have hy2 : (y 2).val < 1536 := (y 2).isLt
  subst hk hb
  unfold outsAt0
  rw [out_apply]
  unfold blockOut entry
  have hlog : Named.named (F := Ideal) (φ := .f32) κ "log2e" 0x3FB8AA3B#32 = (((Real.log 2)⁻¹ : ℝ) : EReal) :=
    IdealRules.named_const.ideal_named_scalar _ _ _ _ rfl
  rw [hlog, coord1 t, read0 m c t _ (by omega)]
  have e1 : r / 128 = t.val % 8 * 8 + (y 1).val / 128 := by omega
  have e2 : r % 128 = (y 1).val % 128 := by omega
  congr 1
  · funext j
    rw [mask_apply ⟨t.val % 8, by omega⟩ (y 1).val hy1 j, e1, e2]
    refine congrArg (fun s => s * _ + _) (Finset.sum_congr rfl fun d' _ => ?_)
    rw [read1 m c t _ _ hy1 (by omega), key_eq m c t _ _ _ _ (by omega) hy1 j.isLt d'.isLt, ← hr]
  · funext j
    rw [value_eq m c t _ _ _ _ (by omega) hy1 j.isLt (by omega), e1]

/-- The kernel's result array. -/
def result (X : S2x8192x6144.Idx → EReal) (Y : S12.Idx → EReal) (i : S2x8192x1536.Idx) : EReal :=
  entry X Y (i 0).val (i 1).val ((i 2).val / 128) ((i 2).val % 128)

theorem final_o (c : Dev nD) : (dats m 0 c).arrAt 6 cfg0.N = result (m ((c : Thread nD τ).loc main_arg0)) (m ((c : Thread nD τ).loc main_arg1)) := by
  refine (dats m 0 c).arrAt_eq_of_covers 6 _ (by decide +kernel) fun t hf y => ?_
  blk_simp
  rw [after0_6]
  have hy0 : (y 0).val < 1 := (y 0).isLt
  refine block_apply m c t y _ _ _ ?_ ?_ ?_
  · blk_simp [index6]
    try omega
  · blk_simp [index6]
    try omega
  · blk_simp [index6]
    try omega
end Cert.SwaValue
end
-- ==== Proof.SwaRef.lean ====
module
public import proofs.«01_k».proof.Defs
public import proofs.«01_k».proof.Proof.SwaValue
public import proofs.«01_k».proof.Proof.Gen.SwaRefIdeal.Read
public import proofs.«01_k».proof.Proof.Gen.Pre_swa_finite
public import Idealize.ShloMosaic.Lib.Pipeline.ValueKit
public import Idealize.ShloMosaic.Lib.Pointwise
@[expose] public section
set_option maxRecDepth 65536
noncomputable section
/-! The sliding-window attention's reference at the ideal instance, one entry at a time. -/
namespace Cert.SwaRef
open Idealize.ShloMosaic Idealize.ShloMosaic.TcCoe Idealize.SL Idealize.SL.Sem
open Cert.SwaRefIdeal Cert.SwaRefIdeal.Gen Cert.SwaRefIdeal.Read
open Cert.SwaValue (rd rd_row scale keyPos)
open Cert.SwaTile (at1 soft)
open Cert.SwaMath

/-- The two argument arrays' types. -/
abbrev XT : Type := (⟨S2x8192x6144, .f32⟩ : BufTy).Contents (Elt Ideal)
abbrev YT : Type := (⟨S12, .f32⟩ : BufTy).Contents (Elt Ideal)

theorem rd_in (X : XT) (b : Fin 2) (r k : Nat) (hr : r < 8192) (hk : k < 6144) : rd X b.val r k = X (ix3 b ⟨r, hr⟩ ⟨k, hk⟩) := by
  unfold rd
  rw [dif_pos ⟨b.isLt, hr, hk⟩]

/-- A key of a window: nothing before the sequence begins. -/
theorem key_apply (X : XT) (b : Fin 2) (n : Fin 64) (j : Fin 256) (h : Fin 2) (d : Fin 128) :
    val_main_v7 X (ix5 b n j h d) = if n.val = 0 ∧ j.val < 128 then 0 else rd X b.val (keyPos n.val j.val) (4096 + (h.val * 128 + d.val)) := by
  have hn := n.isLt
  have hj := j.isLt
  have hh := h.isLt
  have hd := d.isLt
  have hk : 4096 + (h.val * 128 + d.val) < 6144 := by omega
  pointwise [val_main_v7, val_main_v6, val_main_v5, val_main_v4, val_main_v1, val_main_call0_v0, val_main_c]
  split
  · split
    · rename_i h1 h2
      refine (rd_in X b _ _ (by omega) hk).symm.trans ((rd_row X _ _ ?_).trans (if_neg (by omega)).symm)
      unfold keyPos
      rw [if_neg (by omega)]
      omega
    · rename_i h1 h2
      refine Eq.trans ?_ (if_pos (by omega)).symm
      show (((0#32 : BitVec 32).toInt : ℝ) : EReal) = 0
      simp
  · rename_i h1
    refine (rd_in X b _ _ (by omega) hk).symm.trans ((rd_row X _ _ ?_).trans (if_neg (by omega)).symm)
    unfold keyPos
    rw [if_neg (by omega)]
    omega

/-- A value of a window. -/
theorem value_apply (X : XT) (b : Fin 2) (n : Fin 64) (j : Fin 256) (h : Fin 2) (d : Fin 128) :
    val_main_v11 X (ix5 b n j h d) = if n.val = 0 ∧ j.val < 128 then 0 else rd X b.val (keyPos n.val j.val) (5632 + (h.val * 128 + d.val)) := by
  have hn := n.isLt
  have hj := j.isLt
  have hh := h.isLt
  have hd := d.isLt
  have hk : 5632 + (h.val * 128 + d.val) < 6144 := by omega
  pointwise [val_main_v11, val_main_v10, val_main_v9, val_main_v8, val_main_v2, val_main_call1_v0, val_main_c_0]
  split
  · split
    · rename_i h1 h2
      refine (rd_in X b _ _ (by omega) hk).symm.trans ((rd_row X _ _ ?_).trans (if_neg (by omega)).symm)
      unfold keyPos
      rw [if_neg (by omega)]
      omega
    · rename_i h1 h2
      refine Eq.trans ?_ (if_pos (by omega)).symm
      show (((0#32 : BitVec 32).toInt : ℝ) : EReal) = 0
      simp
  · rename_i h1
    refine (rd_in X b _ _ (by omega) hk).symm.trans ((rd_row X _ _ ?_).trans (if_neg (by omega)).symm)
    unfold keyPos
    rw [if_neg (by omega)]
    omega

/-- A query. -/
theorem query_apply (X : XT) (b : Fin 2) (n : Fin 64) (p : Fin 128) (h : Fin 2) (g : Fin 6) (d : Fin 128) :
    val_main_v3 X (ix6 b n p h g d) = rd X b.val (n.val * 128 + p.val) ((h.val * 6 + g.val) * 128 + d.val) := by
  have hn := n.isLt
  have hp := p.isLt
  have hg := g.isLt
  have hh := h.isLt
  have hd := d.isLt
  rw [rd_in X b _ _ (by omega) (by omega)]
  pointwise [val_main_v3, val_main_v0]
  refine congrArg X (congrArg (ix3 b _) (Fin.ext ?_))
  show h.val * 768 + g.val * 128 + d.val = (h.val * 6 + g.val) * 128 + d.val
  omega

/-- A query's distance from a key of its window, as a word. -/
theorem distance_toInt (p j : Nat) (hp : p < 128) (hj : j < 256) :
    (IntOp.subi (IntOp.addi (BitVec.ofNat 32 p) 128#32) (BitVec.ofNat 32 j)).toInt = (p : Int) + 128 - j := by
  show (BitVec.ofNat 32 p + 128#32 - BitVec.ofNat 32 j).toInt = _
  rw [BitVec.toInt_eq_toNat_cond]
  simp only [BitVec.toNat_add, BitVec.toNat_sub, BitVec.toNat_ofNat]
  split <;> omega
theorem slot_toInt (j : Nat) (hj : j < 256) : (BitVec.ofNat 32 j).toInt = (j : Int) := by
  rw [BitVec.toInt_eq_toNat_cond]
  simp only [BitVec.toNat_ofNat]
  split <;> omega
theorem block_eq (n : Nat) (hn : n < 64) : (BitVec.ofNat 32 n == 0#32) = decide (n = 0) := by
  rw [Bool.eq_iff_iff, beq_iff_eq, decide_eq_true_iff, ← BitVec.toNat_inj]
  simp only [BitVec.toNat_ofNat]
  omega
theorem and_or (a b c d : Prop) [Decidable a] [Decidable b] [Decidable c] [Decidable d] :
    IntOp.andi (IntOp.andi (BitVec.ofBool (decide a)) (BitVec.ofBool (decide b))) (IntOp.ori (~~~ BitVec.ofBool (decide c)) (BitVec.ofBool (decide d)))
      = BitVec.ofBool (decide ((a ∧ b) ∧ (¬ c ∨ d))) := by
  by_cases ha : a <;> by_cases hb : b <;> by_cases hc : c <;> by_cases hd : d <;> simp [ha, hb, hc, hd, IntOp.andi, IntOp.ori]

/-- The reference's mask. -/
theorem seen_apply (b : Fin 1) (n : Fin 64) (h : Fin 1) (g : Fin 1) (p : Fin 128) (j : Fin 256) :
    val_main_v45 (F := Ideal) (ix6 b n h g p j) = BitVec.ofBool (decide (vis n.val p.val j)) := by
  pointwise [val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_c_1, val_main_c_2, val_main_c_3, val_main_c_4, val_main_c_5]
  refine Eq.trans ?_ ((and_or (0 ≤ (p.val : Int) + 128 - j.val) ((p.val : Int) + 128 - j.val < 128) (n.val = 0) (128 ≤ (j.val : Int))).trans ?_)
  · have h1 := distance_toInt p.val j.val p.isLt j.isLt
    have h2 := slot_toInt j.val j.isLt
    have h3 := block_eq n.val n.isLt
    generalize IntOp.subi (IntOp.addi (BitVec.ofNat 32 p.val) 128#32) (BitVec.ofNat 32 j.val) = A at h1 ⊢
    generalize BitVec.ofNat 32 j.val = B at h2 ⊢
    have z : (0#32 : BitVec 32).toInt = 0 := by decide
    have z' : (128#32 : BitVec 32).toInt = 128 := by decide
    simp only [IntOp.cmpi, BitVec.sle, BitVec.slt, h1, h2, h3, z, z']
  · refine congrArg _ (decide_eq_decide.2 ?_)
    unfold vis
    omega

/-- A score, masked. -/
theorem score_apply (X : XT) (b : Fin 2) (n : Fin 64) (h : Fin 2) (g : Fin 6) (p : Fin 128) (j : Fin 256) :
    val_main_v46 X (ix6 b n h g p j) = if vis n.val p.val j then
      (∑ d : Fin 128, rd X b.val (keyPos n.val j.val) (4096 + (h.val * 128 + d.val)) * rd X b.val (n.val * 128 + p.val) ((h.val * 6 + g.val) * 128 + d.val)) * scale
      else ⊥ := by
  pointwise [val_main_v46, val_main_v15, val_main_v14, val_main_v13, val_main_cst, val_main_call2_v0, val_main_call2_v1, val_main_call2_v2, val_main_cst_6]
  rw [seen_apply, val_main_v12_apply]
  have hbot : Ideal.ofBits .f32 0xFF800000#32 = ⊥ := by decide
  by_cases hv : vis n.val p.val j
  · simp only [hv, decide_true, if_true]
    refine Eq.trans (b := (∑ k, val_main_v7 X (lidx_main_v12 (ix6 b n h j p g) k) * val_main_v3 X (ridx_main_v12 (ix6 b n h j p g) k)) * scale) rfl ?_
    refine congrArg (fun s : EReal => s * scale) (Finset.sum_congr rfl fun d _ => ?_)
    rw [show lidx_main_v12 (ix6 b n h j p g) d = ix5 b n j h d from by
        funext a; match a with | ⟨0, _⟩ => rfl | ⟨1, _⟩ => rfl | ⟨2, _⟩ => rfl | ⟨3, _⟩ => rfl | ⟨4, _⟩ => rfl,
      show ridx_main_v12 (ix6 b n h j p g) d = ix6 b n p h g d from by
        funext a; match a with | ⟨0, _⟩ => rfl | ⟨1, _⟩ => rfl | ⟨2, _⟩ => rfl | ⟨3, _⟩ => rfl | ⟨4, _⟩ => rfl | ⟨5, _⟩ => rfl,
      query_apply, key_apply, if_neg]
    unfold vis at hv
    omega
  · simp only [hv, decide_false, if_false]
    exact hbot

/-- The scores with the sink's after them. -/
theorem all_apply (X : XT) (Y : YT) (b : Fin 2) (n : Fin 64) (h : Fin 2) (g : Fin 6) (p : Fin 128) (j : Fin 257) :
    val_main_v49 X Y (ix6 b n h g p j) = if hj : j.val < 256 then val_main_v46 X (ix6 b n h g p ⟨j.val, hj⟩) else at1 Y (h.val * 6 + g.val) := by
  have hg := g.isLt
  have hh := h.isLt
  pointwise [val_main_v49, val_main_v48, val_main_v47]
  unfold at1
  rw [dif_pos (show h.val * 6 + g.val < 12 by omega)]

/-- The greatest of scores below ⊤ the last of which is above ⊥ is a real. -/
theorem greatest_real (f : Fin 257 → EReal) (ht : ∀ j, f j < ⊤) (hb : ⊥ < f (Fin.last 256)) :
    ∃ r : ℝ, max ⊥ ((Finset.univ : Finset (Fin 257)).fold max ⊥ f) = (r : EReal) := by
  have h1 : (Finset.univ : Finset (Fin 257)).fold max ⊥ f < ⊤ := (Finset.fold_max_lt _).2 ⟨bot_lt_top, fun j _ => ht j⟩
  have h2 : f (Fin.last 256) ≤ (Finset.univ : Finset (Fin 257)).fold max ⊥ f := (Finset.le_fold_max _).2 (Or.inr ⟨_, Finset.mem_univ _, le_rfl⟩)
  rw [max_eq_right bot_le]
  exact ⟨_, (EReal.coe_toReal h1.ne (lt_of_lt_of_le hb h2).ne').symm⟩

/-- The greatest score, as the reference takes it. -/
theorem greatest_apply (X : XT) (Y : YT) (b : Fin 2) (n : Fin 64) (h : Fin 2) (g : Fin 6) (p : Fin 128) :
    val_main_v52 X Y (ix5 b n h g p) = max ⊥ ((Finset.univ : Finset (Fin 257)).fold max ⊥ fun j => val_main_v49 X Y (ix6 b n h g p j)) := by
  have hbot : Ideal.ofBits .f32 0xFF800000#32 = ⊥ := by decide
  rw [val_main_v52_apply, val_main_v51_apply, val_main_cst_8_apply]
  unfold val_main_v50
  generalize val_main_v49 X Y = y
  have e := Host.reduce_eq_fold_single (FloatOps.maximumf (F := Ideal) (φ := .f32)) y (val_main_cst_7 (F := Ideal)) reducesTo_S2x64x2x6x128x257_S2x64x2x6x128_d5 (by decide) h_S_ (ix5 b n h g p)
  rw [e, val_main_cst_7_apply]
  show max (Ideal.ofBits .f32 0xFF800000#32) ((Finset.univ : Finset (Fin 257)).fold max (Ideal.ofBits .f32 0xFF800000#32) _) = _
  rw [hbot]
  refine congrArg (fun f => max ⊥ ((Finset.univ : Finset (Fin 257)).fold max ⊥ f)) (funext fun k => ?_)
  exact congrArg y (funext fun a => Fin.ext (by match a with | ⟨0, _⟩ => rfl | ⟨1, _⟩ => rfl | ⟨2, _⟩ => rfl | ⟨3, _⟩ => rfl | ⟨4, _⟩ => rfl | ⟨5, _⟩ => rfl))

/-- A weight of the reference's softmax. -/
theorem weight_apply (X : XT) (Y : YT) (b : Fin 2) (n : Fin 64) (h : Fin 2) (g : Fin 6) (p : Fin 128) (j : Fin 256) :
    val_main_v61 X Y (ix6 b n h g p j) = Ideal.div
      (Ideal.exp (val_main_v49 X Y (ix6 b n h g p j.castSucc) - val_main_v52 X Y (ix5 b n h g p)))
      (∑ k : Fin 257, Ideal.exp (val_main_v49 X Y (ix6 b n h g p k) - val_main_v52 X Y (ix5 b n h g p))) := by
  pointwise [val_main_v61, val_main_v60, val_main_v59, val_main_v58, val_main_v56, val_main_v55, val_main_v54, val_main_v53]
  rw [val_main_v57_apply, val_main_cst_9_apply]
  refine congrArg (Ideal.div _) (((congrArg (· + _) Ideal.ofBits_zero_f32).trans (zero_add _)).trans (Finset.sum_congr rfl fun k _ => ?_))
  rw [show idx_main_v57 (ix5 b n h g p) k = ix6 b n h g p k from by
    funext a; match a with | ⟨0, _⟩ => rfl | ⟨1, _⟩ => rfl | ⟨2, _⟩ => rfl | ⟨3, _⟩ => rfl | ⟨4, _⟩ => rfl | ⟨5, _⟩ => rfl]
  pointwise [val_main_v56, val_main_v55, val_main_v54, val_main_v53]

/-- An entry of the reference's result. -/
theorem entry_apply (X : XT) (Y : YT) (b : Fin 2) (r : Fin 8192) (c : Fin 1536) :
    val_main_v65 X Y (ix3 b r c) = ∑ j : Fin 256,
      val_main_v11 X (ix5 b ⟨r.val / 128, by omega⟩ j ⟨c.val / 768, by omega⟩ ⟨c.val % 128, by omega⟩)
      * val_main_v61 X Y (ix6 b ⟨r.val / 128, by omega⟩ ⟨c.val / 768, by omega⟩ ⟨c.val / 128 % 6, by omega⟩ ⟨r.val % 128, by omega⟩ j) := by
  pointwise [val_main_v65, val_main_v64, val_main_v63]
  rw [val_main_v62_apply]
  refine Finset.sum_congr rfl fun j _ => congrArg₂ (fun x y : EReal => x * y) (congrArg _ ?_) (congrArg _ ?_)
  · funext a; match a with | ⟨0, _⟩ => rfl | ⟨1, _⟩ => rfl | ⟨2, _⟩ => rfl | ⟨3, _⟩ => rfl | ⟨4, _⟩ => rfl
  · funext a; match a with | ⟨0, _⟩ => rfl | ⟨1, _⟩ => rfl | ⟨2, _⟩ => rfl | ⟨3, _⟩ => rfl | ⟨4, _⟩ => rfl | ⟨5, _⟩ => rfl

/-- A real array's entry, 0 outside it. -/
def rdReal (xr : S2x8192x6144.Idx → ℝ) (b r k : Nat) : ℝ :=
  if h : b < 2 ∧ r < 8192 ∧ k < 6144 then xr (ix3 ⟨b, h.1⟩ ⟨r, h.2.1⟩ ⟨k, h.2.2⟩) else 0
theorem rd_coe (xr : S2x8192x6144.Idx → ℝ) (b r k : Nat) : rd (fun i => (xr i : EReal)) b r k = (rdReal xr b r k : EReal) := by
  unfold rd rdReal
  split <;> rfl
/-- The scale of the queries is a real. -/
theorem scale_real : ∃ s : ℝ, scale = (s : EReal) := by
  refine ⟨scale.toReal, (EReal.coe_toReal ?_ ?_).symm⟩ <;> unfold scale <;> simp [Ideal.ofBits, Ideal.ieee, -EReal.coe_mul]

/-- A window's score, as a real: the query with the key, scaled. -/
def scoreReal (xr : S2x8192x6144.Idx → ℝ) (s : ℝ) (b n p h g : Nat) (j : Fin 256) : ℝ :=
  (∑ d : Fin 128, rdReal xr b (keyPos n j.val) (4096 + (h * 128 + d.val)) * rdReal xr b (n * 128 + p) ((h * 6 + g) * 128 + d.val)) * s

/-- A window's value, as a real. -/
def valueReal (xr : S2x8192x6144.Idx → ℝ) (b n h d : Nat) (j : Fin 256) : ℝ := rdReal xr b (keyPos n j.val) (5632 + (h * 128 + d))

/-- The reference's entry is the weighted mean of the values. -/
theorem reference_mean (xr : S2x8192x6144.Idx → ℝ) (yr : S12.Idx → ℝ) (s : ℝ) (hs : scale = (s : EReal))
    (b : Fin 2) (n : Fin 64) (p : Fin 128) (h : Fin 2) (g : Fin 6) (d : Fin 128) (y : ℝ)
    (hy : at1 (fun i => (yr i : EReal)) (h.val * 6 + g.val) = (y : EReal)) :
    ∑ j : Fin 256, val_main_v11 (F := Ideal) (fun i => (xr i : EReal)) (ix5 b n j h d)
        * val_main_v61 (F := Ideal) (fun i => (xr i : EReal)) (fun i => (yr i : EReal)) (ix6 b n h g p j)
      = ((mean (vis n.val p.val) (scoreReal xr s b.val n.val p.val h.val g.val) y (valueReal xr b.val n.val h.val d.val) : ℝ) : EReal) := by
  have hsc : ∀ j : Fin 256, val_main_v49 (F := Ideal) (fun i => (xr i : EReal)) (fun i => (yr i : EReal)) (ix6 b n h g p j.castSucc)
      = if vis n.val p.val j then (scoreReal xr s b.val n.val p.val h.val g.val j : EReal) else ⊥ := fun j => by
    rw [all_apply, dif_pos (show j.castSucc.val < 256 from j.isLt)]
    refine (score_apply _ b n h g p j).trans (if_congr Iff.rfl ?_ rfl)
    unfold scoreReal
    rw [hs, EReal.coe_mul, coe_sum]
    simp only [rd_coe, EReal.coe_mul]
  have hlast : val_main_v49 (F := Ideal) (fun i => (xr i : EReal)) (fun i => (yr i : EReal)) (ix6 b n h g p (Fin.last 256)) = (y : EReal) := by
    rw [all_apply, dif_neg (show ¬ (Fin.last 256).val < 256 from lt_irrefl 256), hy]
  obtain ⟨M, hM⟩ := greatest_real (fun j => val_main_v49 (F := Ideal) (fun i => (xr i : EReal)) (fun i => (yr i : EReal)) (ix6 b n h g p j))
    (fun j => by
      refine Fin.lastCases ?_ (fun j => ?_) j
      · exact lt_of_eq_of_lt hlast (EReal.coe_lt_top _)
      · refine lt_of_eq_of_lt (hsc j) ?_
        split
        · exact EReal.coe_lt_top _
        · exact bot_lt_top)
    (lt_of_lt_of_eq (EReal.bot_lt_coe _) hlast.symm)
  rw [← greatest_apply] at hM
  have hv : ∀ j : Fin 256, val_main_v11 (F := Ideal) (fun i => (xr i : EReal)) (ix5 b n j h d)
      = ((if n.val = 0 ∧ j.val < 128 then 0 else valueReal xr b.val n.val h.val d.val j : ℝ) : EReal) := fun j => by
    rw [value_apply, rd_coe]
    split
    · rfl
    · rfl
  simp only [weight_apply, hM, Fin.sum_univ_castSucc (n := 256), hsc, hlast, hv]
  refine (plain_real (vis n.val p.val) _ y _ M).trans (congrArg _ (mean_congr _ _ _ _ _ _ (fun _ _ => rfl) fun j hj => if_neg ?_))
  unfold vis at hj
  omega

/-- The kernel's entry is the weighted mean of the values. -/
theorem kernel_mean (xr : S2x8192x6144.Idx → ℝ) (yr : S12.Idx → ℝ) (s : ℝ) (hs : scale = (s : EReal))
    (b n p h g d : Nat) (hp : p < 128) (hg : g < 6) (y : ℝ) (hy : at1 (fun i => (yr i : EReal)) (h * 6 + g) = (y : EReal)) :
    Cert.SwaValue.entry (fun i => (xr i : EReal)) (fun i => (yr i : EReal)) b (n * 128 + p) (h * 6 + g) d
      = ((mean (vis n p) (scoreReal xr s b n p h g) y (valueReal xr b n h d) : ℝ) : EReal) := by
  unfold Cert.SwaValue.entry
  rw [hy, show (n * 128 + p) / 128 = n by omega, show (n * 128 + p) % 128 = p by omega, show (h * 6 + g) / 6 = h by omega]
  refine Eq.trans ?_ (soft_real (vis n p) (scoreReal xr s b n p h g) y (valueReal xr b n h d))
  refine congrArg₂ (fun x v => soft x _ v) (funext fun j => ?_) (funext fun j => rd_coe _ _ _ _)
  refine congrArg (fun x : EReal => x * _ + _) ?_
  unfold scoreReal
  rw [Finset.sum_mul, coe_sum]
  refine Finset.sum_congr rfl fun k _ => ?_
  rw [rd_coe, rd_coe, hs, ← EReal.coe_mul, ← EReal.coe_mul]
  refine congrArg _ ?_
  ring

/-- The two programs' entries agree. -/
theorem agree (xr : S2x8192x6144.Idx → ℝ) (yr : S12.Idx → ℝ) (i : S2x8192x1536.Idx) :
    Cert.SwaValue.result (fun i => (xr i : EReal)) (fun i => (yr i : EReal)) i
      = val_main_v65 (F := Ideal) (fun i => (xr i : EReal)) (fun i => (yr i : EReal)) i := by
  obtain ⟨b, r, c, rfl⟩ : ∃ (b : Fin 2) (r : Fin 8192) (c : Fin 1536), i = ix3 b r c :=
    ⟨i 0, i 1, i 2, by funext a; match a with | ⟨0, _⟩ => rfl | ⟨1, _⟩ => rfl | ⟨2, _⟩ => rfl⟩
  obtain ⟨s, hs⟩ := scale_real
  have hr := r.isLt
  have hc := c.isLt
  have hy : at1 (fun i => (yr i : EReal)) (c.val / 768 * 6 + c.val / 128 % 6) = ((yr (ix1 ⟨c.val / 768 * 6 + c.val / 128 % 6, by omega⟩) : ℝ) : EReal) := by
    unfold at1
    rw [dif_pos (show c.val / 768 * 6 + c.val / 128 % 6 < 12 by omega)]
  rw [entry_apply, reference_mean xr yr s hs b _ _ _ _ _ _ hy]
  show Cert.SwaValue.entry _ _ b.val r.val (c.val / 128) (c.val % 128) = _
  refine Eq.trans ?_ (kernel_mean xr yr s hs b.val (r.val / 128) (r.val % 128) (c.val / 768) (c.val / 128 % 6) (c.val % 128) (by omega) (by omega) _ hy)
  rw [show r.val / 128 * 128 + r.val % 128 = r.val by omega, show c.val / 768 * 6 + c.val / 128 % 6 = c.val / 128 by omega]

/-- An extended real whose absolute value is below ⊤ is a real. -/
theorem real_of_lt (x : EReal) (h : Ideal.cmp .olt (max x (-x)) (Ideal.ofBits .f32 0x7F800000#32) = 1#1) : x = ((x.toReal : ℝ) : EReal) := by
  have htop : Ideal.ofBits .f32 0x7F800000#32 = ⊤ := by decide
  rw [htop] at h
  refine (EReal.coe_toReal ?_ ?_).symm <;> rintro rfl
  · simp [Ideal.cmp] at h
  · simp [Ideal.cmp] at h

/-- The two programs' arrays agree on finite inputs. -/
theorem agree_of_finite (X : XT) (Y : YT) (hX : (Cert.Pre_swa_finite.fn (F := Ideal) X Y).1 = fun _ => 1#1)
    (hY : (Cert.Pre_swa_finite.fn (F := Ideal) X Y).2 = fun _ => 1#1) : val_main_v65 (F := Ideal) X Y = Cert.SwaValue.result X Y := by
  obtain ⟨xr, rfl⟩ : ∃ xr : S2x8192x6144.Idx → ℝ, X = fun i => (xr i : EReal) :=
    ⟨fun i => EReal.toReal (X i), funext fun i => real_of_lt (X i) (congrFun hX i)⟩
  obtain ⟨yr, rfl⟩ : ∃ yr : S12.Idx → ℝ, Y = fun i => (yr i : EReal) :=
    ⟨fun i => EReal.toReal (Y i), funext fun i => real_of_lt (Y i) (congrFun hY i)⟩
  funext i
  exact (agree xr yr i).symm

/-- At the ideal instance, on finite inputs, the kernel's attention and the reference's agree. -/
theorem algebraic : Cert.algebraic_SwaIdeal_SwaRefIdeal_pre_swa_finite := by
  pair_intro
  · run_from Cert.SwaIdeal.Value.run_blocks m g
  · run_from Cert.SwaRefIdeal.Value.run m' g'
    rw [Cert.SwaValue.final_o m c, val_main_v65_eq, (hagree c).1, (hagree c).2]
    exact agree_of_finite _ _ (hpre c).1 (hpre c).2
end Cert.SwaRef
end
-- ==== Proof.FfnValue.lean ====
module
public import proofs.«01_k».proof.Proof.Gen.FfnIdeal.Value
public import Idealize.ShloMosaic.Lib.Pipeline.ValueKit
public import Idealize.ShloMosaic.Lib.Claim
public import Idealize.ShloMosaic.Lib.Pointwise
@[expose] public section
noncomputable section
/-! The feed-forward block's up-projection at the ideal instance: what the kernel leaves in its result array. -/
namespace Cert.FfnUp
open Idealize.ShloMosaic Idealize.ShloMosaic.TcCoe Idealize.SL.Sem
open Cert.FfnIdeal Cert.FfnIdeal.Gen

/-- The gated product of a gate and an up value. -/
def gated (g u : EReal) : EReal := g * Ideal.logistic g * u

/-- One entry of the weight product: row `r` of the activations against column `c` of the weights of layer `l`. -/
def col (l : Fin 2) (x : S16384x4096.Idx → EReal) (w : S2x4096x22016.Idx → EReal) (r : Fin 16384) (c : Nat) : EReal :=
  if h : c < 22016 then ∑ k : Fin 4096, x (ix2 r k) * w (ix3 l k ⟨c, h⟩) else 0

/-- The hidden activations: gate column `c` and up column `11008 + c`, with zeros in the 256 columns of padding. -/
def hidden (l : Fin 2) (x : S16384x4096.Idx → EReal) (w : S2x4096x22016.Idx → EReal) (i : S16384x11264.Idx) : EReal :=
  if (i 1).val < 11008 then gated (col l x w (i 0) (i 1).val) (col l x w (i 0) (11008 + (i 1).val)) else 0

/-- One half of a block of hidden activations, at an index. -/
theorem pay1_apply (x : Vec Ideal S1024x4096 .bf16) (wg wu : Vec Ideal S1x4096x256 .bf16) (y : S1024x256.Idx) :
    k0_pay1 (F := Ideal) x wg wu y
      = gated (∑ k : Fin 4096, x (ix2 (y 0) k) * wg (ix3 0 k (y 1))) (∑ k : Fin 4096, x (ix2 (y 0) k) * wu (ix3 0 k (y 1))) := by
  unfold k0_pay1 gated
  pointwise

theorem pay2_apply (x : Vec Ideal S1024x4096 .bf16) (wg wu : Vec Ideal S1x4096x256 .bf16) (y : S1024x256.Idx) :
    k0_pay2 (F := Ideal) x wg wu y
      = gated (∑ k : Fin 4096, x (ix2 (y 0) k) * wg (ix3 0 k (y 1))) (∑ k : Fin 4096, x (ix2 (y 0) k) * wu (ix3 0 k (y 1))) :=
  pay1_apply x wg wu y

theorem pay3_apply (x : Vec Ideal S1024x4096 .bf16) (wg wu : Vec Ideal S1x4096x256 .bf16) (y : S1024x256.Idx) :
    k0_pay3 (F := Ideal) x wg wu y
      = gated (∑ k : Fin 4096, x (ix2 (y 0) k) * wg (ix3 0 k (y 1))) (∑ k : Fin 4096, x (ix2 (y 0) k) * wu (ix3 0 k (y 1))) :=
  pay1_apply x wg wu y

theorem pay4_apply (y : S1024x256.Idx) : k0_pay4 (F := Ideal) y = 0 := by
  unfold k0_pay4
  pointwise

variable (m : (ℓ : Loc nD τ sig) → Buf (Elt Ideal) ℓ) (ρ : Dev nD → PrngReg)

/-- The two column halves of a block where both are live. -/
theorem block_A (c : Dev nD) (i : grid0.Coords) (arg2 : Memref sig .tc .vmem S1024x4096 .bf16) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x4096x256 .bf16) (harg6 : arg6.IsWhole) (arg7 : Memref sig .tc .vmem S1024x512 .bf16) (harg7 : arg7.IsWhole) (hc0 : cond0_0 i) (hc1 : ¬cond0_1 i) (hc2 : ¬cond0_2 i)
    (x0 : Vec Ideal S1024x4096 .bf16) (x1 : Vec Ideal S1x4096x256 .bf16) (x2 : Vec Ideal S1x4096x256 .bf16) (x3 : Vec Ideal S1x4096x256 .bf16) (x4 : Vec Ideal S1x4096x256 .bf16) (y : S1024x512.Idx) :
    out0_A_5 (F := Ideal) c i arg2 harg2 arg3 harg3 arg4 harg4 arg5 harg5 arg6 harg6 arg7 harg7 hc0 hc1 hc2 x0 x1 x2 x3 x4 y
      = if h : (y 1).val < 256 then k0_pay1 x0 x1 x3 (ix2 (y 0) ⟨(y 1).val, h⟩)
        else k0_pay2 x0 x2 x4 (ix2 (y 0) ⟨(y 1).val - 256, by idx_bounds y; omega⟩) := by
  frame_out
  canon_tiles x h
  · rw [dif_neg (by omega)]
    refine congrArg (k0_pay2 x0 x2 x4) (funext fun a => Fin.ext ?_)
    match a with
    | ⟨0, _⟩ => exact h0.symm
    | ⟨1, _⟩ => show (x 1).val = (y 1).val - 256; omega
  · rw [dif_pos (by omega)]
    refine congrArg (k0_pay1 x0 x1 x3) (funext fun a => Fin.ext ?_)
    match a with
    | ⟨0, _⟩ => exact h0.symm
    | ⟨1, _⟩ => show (x 1).val = (y 1).val; omega

/-- The two column halves of the block the padding begins in. -/
theorem block_B (c : Dev nD) (i : grid0.Coords) (arg2 : Memref sig .tc .vmem S1024x4096 .bf16) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x4096x256 .bf16) (harg6 : arg6.IsWhole) (arg7 : Memref sig .tc .vmem S1024x512 .bf16) (harg7 : arg7.IsWhole) (hc0 : ¬cond0_0 i) (hc1 : cond0_1 i) (hc2 : ¬cond0_2 i)
    (x0 : Vec Ideal S1024x4096 .bf16) (x1 : Vec Ideal S1x4096x256 .bf16) (x2 : Vec Ideal S1x4096x256 .bf16) (x3 : Vec Ideal S1x4096x256 .bf16) (x4 : Vec Ideal S1x4096x256 .bf16) (y : S1024x512.Idx) :
    out0_B_5 (F := Ideal) c i arg2 harg2 arg3 harg3 arg4 harg4 arg5 harg5 arg6 harg6 arg7 harg7 hc0 hc1 hc2 x0 x1 x2 x3 x4 y
      = if h : (y 1).val < 256 then k0_pay3 x0 x1 x3 (ix2 (y 0) ⟨(y 1).val, h⟩) else 0 := by
  frame_out
  canon_tiles x h
  · rw [dif_neg (by omega)]
    exact pay4_apply x
  · rw [dif_pos (by omega)]
    refine congrArg (k0_pay3 x0 x1 x3) (funext fun a => Fin.ext ?_)
    match a with
    | ⟨0, _⟩ => exact h0.symm
    | ⟨1, _⟩ => show (x 1).val = (y 1).val; omega

/-- The window indices over the grid. -/
theorem index0 : ∀ t : Fin cfg0.N, win0_0.index t = ![t.val / 22, 0] := (by decide +kernel : ∀ t : Fin grid0.N, _)
theorem index1 : ∀ t : Fin cfg0.N, win0_1.index t = ![0, 0, min (2 * (t.val % 22)) 85] := (by decide +kernel : ∀ t : Fin grid0.N, _)
theorem index2 : ∀ t : Fin cfg0.N, win0_2.index t = ![0, 0, min (2 * (t.val % 22) + 1) 85] := (by decide +kernel : ∀ t : Fin grid0.N, _)
theorem index3 : ∀ t : Fin cfg0.N, win0_3.index t = ![0, 0, min (43 + 2 * (t.val % 22)) 85] := (by decide +kernel : ∀ t : Fin grid0.N, _)
theorem index4 : ∀ t : Fin cfg0.N, win0_4.index t = ![0, 0, min (43 + 2 * (t.val % 22) + 1) 85] := (by decide +kernel : ∀ t : Fin grid0.N, _)
theorem index5 : ∀ t : Fin cfg0.N, win0_5.index t = ![t.val / 22, t.val % 22] := (by decide +kernel : ∀ t : Fin grid0.N, _)

/-- An entry of an activation block, in the array. -/
theorem read0 (c : Dev nD) (t : Fin cfg0.N) (x : S1024x4096.Idx) (r : Fin 16384) (h : r.val = t.val / 22 * 1024 + (x 0).val) :
    iblk m c 0 t x = m ((c : Thread nD τ).loc main_arg0) (ix2 r (x 1)) := by
  blk_simp [iblk, V]
  refine congrArg (m ((c : Thread nD τ).loc main_arg0)) ?_
  blk_ext [index0]

/-- An entry of each weight block, in the array. -/
theorem read1 (c : Dev nD) (t : Fin cfg0.N) (k : Fin 4096) (j : Fin 256) (r : Fin 22016) (h : r.val = min (2 * (t.val % 22)) 85 * 256 + j.val) :
    iblk m c 1 t (ix3 0 k j) = m ((c : Thread nD τ).loc main_arg1) (ix3 0 k r) := by
  blk_simp [iblk, V]
  refine congrArg (m ((c : Thread nD τ).loc main_arg1)) ?_
  blk_ext [index1]
theorem read2 (c : Dev nD) (t : Fin cfg0.N) (k : Fin 4096) (j : Fin 256) (r : Fin 22016) (h : r.val = min (2 * (t.val % 22) + 1) 85 * 256 + j.val) :
    iblk m c 2 t (ix3 0 k j) = m ((c : Thread nD τ).loc main_arg1) (ix3 0 k r) := by
  blk_simp [iblk, V]
  refine congrArg (m ((c : Thread nD τ).loc main_arg1)) ?_
  blk_ext [index2]
theorem read3 (c : Dev nD) (t : Fin cfg0.N) (k : Fin 4096) (j : Fin 256) (r : Fin 22016) (h : r.val = min (43 + 2 * (t.val % 22)) 85 * 256 + j.val) :
    iblk m c 3 t (ix3 0 k j) = m ((c : Thread nD τ).loc main_arg1) (ix3 0 k r) := by
  blk_simp [iblk, V]
  refine congrArg (m ((c : Thread nD τ).loc main_arg1)) ?_
  blk_ext [index3]
theorem read4 (c : Dev nD) (t : Fin cfg0.N) (k : Fin 4096) (j : Fin 256) (r : Fin 22016) (h : r.val = min (43 + 2 * (t.val % 22) + 1) 85 * 256 + j.val) :
    iblk m c 4 t (ix3 0 k j) = m ((c : Thread nD τ).loc main_arg1) (ix3 0 k r) := by
  blk_simp [iblk, V]
  refine congrArg (m ((c : Thread nD τ).loc main_arg1)) ?_
  blk_ext [index4]

/-- A gated pair of block products is the gated pair of whole columns it is cut from. -/
theorem gated_col (l : Fin 2) (x : S16384x4096.Idx → EReal) (w : S2x4096x22016.Idx → EReal) (r : Fin 16384) (cg cu : Fin 22016)
    (X G U : Fin 4096 → EReal) (hX : ∀ k, X k = x (ix2 r k)) (hG : ∀ k, G k = w (ix3 l k cg)) (hU : ∀ k, U k = w (ix3 l k cu)) :
    gated (∑ k, X k * G k) (∑ k, X k * U k) = gated (col l x w r cg.val) (col l x w r cu.val) := by
  unfold col
  simp only [hX, hG, hU, dif_pos cg.isLt, dif_pos cu.isLt]

/-- The block of hidden activations a grid point leaves. -/
theorem out_apply (c : Dev nD) (t : Fin cfg0.N) (y : S1024x512.Idx) (i : S16384x11264.Idx)
    (h0 : (i 0).val = t.val / 22 * 1024 + (y 0).val) (h1 : (i 1).val = t.val % 22 * 512 + (y 1).val) :
    outsAt0 m c t.val t.isLt y = hidden 0 (m ((c : Thread nD τ).loc main_arg0)) (m ((c : Thread nD τ).loc main_arg1)) i := by
  have ht : t.val < 352 := lt_of_lt_of_eq t.isLt (show cfg0.N = 352 from N_0)
  idx_bounds y
  unfold hidden
  by_cases hA : t.val % 22 ≤ 20
  · rw [outsAt0_A m c t hA (by omega), block_A, if_pos (by omega)]
    split
    · rename_i hy
      rw [pay1_apply]
      exact gated_col 0 _ _ (i 0) ⟨(i 1).val, by omega⟩ ⟨11008 + (i 1).val, by omega⟩ _ _ _ (fun k => read0 m c t _ _ h0)
        (fun k => read1 m c t k _ _ (by show (i 1).val = _ + (y 1).val; omega)) (fun k => read3 m c t k _ _ (by show 11008 + (i 1).val = _ + (y 1).val; omega))
    · rename_i hy
      rw [pay2_apply]
      exact gated_col 0 _ _ (i 0) ⟨(i 1).val, by omega⟩ ⟨11008 + (i 1).val, by omega⟩ _ _ _ (fun k => read0 m c t _ _ h0)
        (fun k => read2 m c t k _ _ (by show (i 1).val = _ + ((y 1).val - 256); omega)) (fun k => read4 m c t k _ _ (by show 11008 + (i 1).val = _ + ((y 1).val - 256); omega))
  · rw [outsAt0_B m c t hA (by omega), block_B]
    split
    · rename_i hy
      rw [pay3_apply, if_pos (by omega)]
      exact gated_col 0 _ _ (i 0) ⟨(i 1).val, by omega⟩ ⟨11008 + (i 1).val, by omega⟩ _ _ _ (fun k => read0 m c t _ _ h0)
        (fun k => read1 m c t k _ _ (by show (i 1).val = _ + (y 1).val; omega)) (fun k => read3 m c t k _ _ (by show 11008 + (i 1).val = _ + (y 1).val; omega))
    · rw [if_neg (by omega)]

/-- The kernel's result array. -/
theorem final_o (c : Dev nD) : (dats m 0 c).arrAt 5 cfg0.N = hidden 0 (m ((c : Thread nD τ).loc main_arg0)) (m ((c : Thread nD τ).loc main_arg1)) := by
  refine (dats m 0 c).arrAt_eq_of_covers 5 _ (by decide +kernel) fun t hf y => ?_
  blk_simp
  rw [after0_5]
  refine out_apply m c t y _ ?_ ?_
  · blk_simp [index5]
  · blk_simp [index5]

end Cert.FfnUp
end
-- ==== Proof.FfnRef.lean ====
module
public import proofs.«01_k».proof.Defs
public import proofs.«01_k».proof.Proof.FfnValue
public import proofs.«01_k».proof.Proof.Gen.FfnRefIdeal.Read
@[expose] public section
noncomputable section
/-! The feed-forward block's up-projection: the reference's result, and the two programs' agreement. -/
namespace Cert.FfnUp
open Idealize.ShloMosaic Idealize.ShloMosaic.TcCoe Idealize.SL.Sem
open Cert.FfnRefIdeal Cert.FfnRefIdeal.Read

/-- An entry of the reference's weight product. -/
theorem product_apply (x : S16384x4096.Idx → EReal) (w : S2x4096x22016.Idx → EReal) (r : Fin 16384) (c : Fin 22016) :
    val_main_v4 (F := Ideal) x w (ix2 r c) = col 0 x w r c.val := by
  rw [val_main_v4_apply, col, dif_pos c.isLt]
  refine Finset.sum_congr rfl fun k _ => ?_
  have hw : val_main_v3 (F := Ideal) w (ridx_main_v4 (ix2 r c) k) = w (ix3 0 k c) := by
    rw [show ridx_main_v4 (ix2 r c) k = ix2 k c from by funext a; match a with | ⟨0, _⟩ => rfl | ⟨1, _⟩ => rfl]
    pointwise [val_main_v3, val_main_v2, val_main_v1]
  have hx : val_main_v0 (F := Ideal) x (lidx_main_v4 (ix2 r c) k) = x (ix2 r k) := by
    rw [show lidx_main_v4 (ix2 r c) k = ix2 r k from by funext a; match a with | ⟨0, _⟩ => rfl | ⟨1, _⟩ => rfl]
    pointwise [val_main_v0]
  rw [hw, hx]

/-- The reference's result array. -/
theorem reference_apply (x : S16384x4096.Idx → EReal) (w : S2x4096x22016.Idx → EReal) (i : S16384x11264.Idx) :
    val_main_v10 (F := Ideal) x w i = hidden 0 x w i := by
  obtain ⟨r, j, rfl⟩ : ∃ (r : Fin 16384) (j : Fin 11264), i = ix2 r j := ⟨i 0, i 1, by funext a; match a with | ⟨0, _⟩ => rfl | ⟨1, _⟩ => rfl⟩
  unfold hidden gated
  pointwise [val_main_v10, val_main_v9, val_main_call1_v0, val_main_c, val_main_v8, val_main_v7, val_main_v6, val_main_v5, val_main_call0_v5, val_main_call0_v4, val_main_call0_cst_0, val_main_call0_v3, val_main_call0_v2, val_main_call0_cst, val_main_call0_v1, val_main_call0_v0]
  split
  · rename_i h
    rw [product_apply, product_apply]
    rfl
  · show (((0#32 : BitVec 32).toInt : ℝ) : EReal) = 0
    simp

/-- At the ideal instance the kernel's hidden activations and the reference's agree. -/
theorem algebraic : Cert.algebraic_FfnIdeal_FfnRefIdeal := by
  pair_intro
  · run_from Cert.FfnIdeal.Value.run_blocks m g
  · run_from Cert.FfnRefIdeal.Value.run m' g'
    rw [Cert.FfnUp.final_o m c, val_main_v10_eq]
    funext i
    exact reference_apply _ _ i
end Cert.FfnUp
end
-- ==== Proof.ProjMath.lean ====
module
public import proofs.«01_k».proof.Proof.Gen.QkvIdeal.Value
public import Idealize.ShloMosaic.Lib.Pipeline.ValueKit
public import Idealize.ShloMosaic.Lib.Claim
public import Idealize.ShloMosaic.Lib.Pointwise
@[expose] public section
noncomputable section
/-! The input projection's rotary position embedding at the ideal instance: the stacked factors, and what they do to a head. -/
namespace Cert.ProjMath
open Idealize.ShloMosaic Idealize.ShloMosaic.TcCoe Idealize.SL.Sem
open Cert.QkvIdeal Cert.QkvIdeal.Gen

/-- The angle of row `r`'s position at lane `d` of a half. -/
def angle (P : S2x8192.Idx → BitVec 32) (r : Fin 16384) (d : Nat) : EReal :=
  FloatOps.sitofp (F := Ideal) FTy.f32 (P (ix2 ⟨r.val / 8192, by omega⟩ ⟨r.val % 8192, by omega⟩))
    * Ideal.pow (Ideal.ofBits .f32 0x461C4000#32)
        (Ideal.div (-(Ideal.ofBits .f32 0x40000000#32 * FloatOps.sitofp (F := Ideal) FTy.f32 (BitVec.ofNat 32 d))) (Ideal.ofBits .f32 0x43000000#32))

/-- The scale of the queries. -/
def scale : EReal := Ideal.ofBits .f32 0x3E0293EE#32

/-- The angles, as the host computes them. -/
def angles (P : IVec S2x8192 32) : FVec Ideal S16384x64 .f32 :=
  mulf (broadcastInDim S16384x64 ![0, 1] bcast_S16384x1_S16384x64_0_1 (shapeCast S16384x1 (sitofp .f32 P : FVec Ideal S2x8192 .f32) shapeCasts_S2x8192_S16384x1))
    (broadcastInDim S16384x64 ![0, 1] bcast_S1x64_S16384x64_0_1 (broadcastInDim S1x64 ![1] bcast_S64_S1x64_1
      (Host.powf (broadcastInDim S64 ![] bcast_S_S64 (constant S_ .f32 0x461C4000#32))
        (Host.divf (Host.negf (addf (broadcastInDim S64 ![] bcast_S_S64 (constant S_ .f32 0x00000000#32))
            (mulf (broadcastInDim S64 ![] bcast_S_S64 (constant S_ .f32 0x40000000#32)) (sitofp .f32 (iotaInDim S64 32 0)))))
          (broadcastInDim S64 ![] bcast_S_S64 (constant S_ .f32 0x43000000#32))))))

theorem angles_apply (P : IVec S2x8192 32) (r : Fin 16384) (d : Fin 64) : angles P (ix2 r d) = angle P r d.val := by
  unfold angle
  pointwise [angles]

/-- The first of the stacked factors: both halves' cosines, then both halves' signed sines. -/
def factors (P : IVec S2x8192 32) : FVec Ideal S16384x256 .f32 :=
  concatenate S16384x256 1 [⟨S16384x64, Host.cos (angles P)⟩, ⟨S16384x64, Host.cos (angles P)⟩, ⟨S16384x64, Host.negf (Host.sin (angles P))⟩,
    ⟨S16384x64, Host.sin (angles P)⟩] concatenates_S16384x64_S16384x64_S16384x64_S16384x64_S16384x256_d1

/-- The factors that change nothing. -/
def keeps : FVec Ideal S16384x256 .f32 :=
  broadcastInDim S16384x256 ![1] bcast_S256_S16384x256_1
    (concatenate S256 0 [⟨S128, broadcastInDim S128 ![] bcast_S_S128 (constant S_ .f32 0x3F800000#32)⟩,
      ⟨S128, broadcastInDim S128 ![] bcast_S_S128 (constant S_ .f32 0x00000000#32)⟩] concatenates_S128_S128_S256_d0)

/-- The three sets of factors: plain, scaled, and those that change nothing. -/
def stacked (P : IVec S2x8192 32) : FVec Ideal S3x16384x256 .f32 :=
  concatenate S3x16384x256 0 [⟨S1x16384x256, broadcastInDim S1x16384x256 ![1, 2] bcast_S16384x256_S1x16384x256_1_2 (factors P)⟩,
    ⟨S1x16384x256, broadcastInDim S1x16384x256 ![1, 2] bcast_S16384x256_S1x16384x256_1_2
      (mulf (factors P) (broadcastInDim S16384x256 ![] bcast_S_S16384x256 (constant S_ .f32 0x3E0293EE#32)))⟩,
    ⟨S1x16384x256, broadcastInDim S1x16384x256 ![1, 2] bcast_S16384x256_S1x16384x256_1_2 keeps⟩] concatenates_S1x16384x256_S1x16384x256_S1x16384x256_S3x16384x256_d0

/-- The cosine factor and the signed sine factor of a lane. -/
def cosAt (P : S2x8192.Idx → BitVec 32) (r : Fin 16384) (d : Nat) : EReal :=
  if d < 64 then Ideal.cos (angle P r d) else Ideal.cos (angle P r (d - 64))
def sinAt (P : S2x8192.Idx → BitVec 32) (r : Fin 16384) (d : Nat) : EReal :=
  if d < 64 then -Ideal.sin (angle P r d) else Ideal.sin (angle P r (d - 64))

theorem factors_cos (P : IVec S2x8192 32) (r : Fin 16384) (d : Nat) (hd : d < 128) :
    factors P (ix2 r ⟨d, by omega⟩) = cosAt P r d := by
  unfold cosAt
  pointwise [factors]
  simp only [angles_apply]
  split
  · rfl
  · exact dif_pos (show d - 64 < 64 by omega)

theorem factors_sin (P : IVec S2x8192 32) (r : Fin 16384) (d : Nat) (hd : d < 128) :
    factors P (ix2 r ⟨128 + d, by omega⟩) = sinAt P r d := by
  unfold sinAt
  pointwise [factors]
  simp only [angles_apply]
  rw [dif_neg (show ¬128 + d < 64 by omega), dif_neg (show ¬128 + d - 64 < 64 by omega)]
  split
  · rw [if_pos (show d < 64 by omega), show 128 + d - 64 - 64 = d by omega]
  · rw [if_neg (show ¬d < 64 by omega), show 128 + d - 64 - 64 - 64 = d - 64 by omega]

/-- A set of factors: what lane `d` is multiplied by, and what its partner is multiplied by. -/
def own (P : S2x8192.Idx → BitVec 32) (T : Nat) (r : Fin 16384) (d : Nat) : EReal :=
  if T = 0 then cosAt P r d else if T = 1 then cosAt P r d * scale else 1
def partner (P : S2x8192.Idx → BitVec 32) (T : Nat) (r : Fin 16384) (d : Nat) : EReal :=
  if T = 0 then sinAt P r d else if T = 1 then sinAt P r d * scale else 0

theorem stacked_own (P : IVec S2x8192 32) (T : Fin 3) (r : Fin 16384) (d : Nat) (hd : d < 128) :
    stacked P (ix3 T r ⟨d, by omega⟩) = own P T.val r d := by
  have hT := T.isLt
  unfold own scale
  pointwise [stacked]
  split
  · rw [if_pos (show T.val = 0 by omega), factors_cos P r d hd]
  · rw [if_neg (show ¬T.val = 0 by omega)]
    split
    · rw [if_pos (show T.val = 1 by omega), factors_cos P r d hd]
    · rw [if_neg (show ¬T.val = 1 by omega)]
      pointwise [keeps]
      exact if_pos hd

theorem stacked_partner (P : IVec S2x8192 32) (T : Fin 3) (r : Fin 16384) (d : Nat) (hd : d < 128) :
    stacked P (ix3 T r ⟨128 + d, by omega⟩) = partner P T.val r d := by
  have hT := T.isLt
  unfold partner scale
  pointwise [stacked]
  split
  · rw [if_pos (show T.val = 0 by omega), factors_sin P r d hd]
  · rw [if_neg (show ¬T.val = 0 by omega)]
    split
    · rw [if_pos (show T.val = 1 by omega), factors_sin P r d hd]
    · rw [if_neg (show ¬T.val = 1 by omega)]
      pointwise [keeps]

/-- A head's lane times its own factor, plus its partner's lane, half a head away, times the partner's. -/
def mixed (A : Nat → EReal) (a b : EReal) (d : Nat) : EReal := A d * a + A ((d + 128 - 64) % 128) * b

theorem mixed_mk {A : Nat → EReal} (a b : EReal) {d : Nat} {X Y : EReal} (h1 : X = A d) (h2 : Y = A ((d + 128 - 64) % 128)) :
    X * a + Y * b = mixed A a b d := by
  rw [h1, h2]
  rfl
theorem mixed_congr {A B : Nat → EReal} (a b : EReal) {d : Nat} (hd : d < 128) (h : ∀ e, e < 128 → A e = B e) : mixed A a b d = mixed B a b d := by
  unfold mixed
  rw [h d hd, h _ (by omega)]

/-- A head's lane under the rotary embedding. -/
def roped (A : Nat → EReal) (P : S2x8192.Idx → BitVec 32) (r : Fin 16384) (d : Nat) : EReal :=
  if d < 64 then A d * Ideal.cos (angle P r d) - A (64 + d) * Ideal.sin (angle P r d)
  else A d * Ideal.cos (angle P r (d - 64)) + A (d - 64) * Ideal.sin (angle P r (d - 64))

theorem mixed_plain (A : Nat → EReal) (P : S2x8192.Idx → BitVec 32) (r : Fin 16384) (d : Nat) (hd : d < 128) :
    mixed A (own P 0 r d) (partner P 0 r d) d = roped A P r d := by
  unfold mixed own partner roped cosAt sinAt
  rw [if_pos rfl, if_pos rfl]
  split
  · rw [show (d + 128 - 64) % 128 = 64 + d by omega, mul_neg, sub_eq_add_neg]
  · rw [show (d + 128 - 64) % 128 = d - 64 by omega]

theorem scale_nonneg : 0 ≤ scale := by
  unfold scale
  simp [Ideal.ofBits, Ideal.ieee, -EReal.coe_mul]
theorem scale_ne_top : scale ≠ ⊤ := by
  unfold scale
  simp [Ideal.ofBits, Ideal.ieee, -EReal.coe_mul]

theorem mixed_scaled (A : Nat → EReal) (P : S2x8192.Idx → BitVec 32) (r : Fin 16384) (d : Nat) (hd : d < 128) :
    mixed A (own P 1 r d) (partner P 1 r d) d = roped A P r d * scale := by
  rw [← mixed_plain A P r d hd]
  unfold mixed own partner
  rw [if_neg (by omega), if_pos rfl, if_neg (by omega), if_pos rfl, if_pos rfl, if_pos rfl,
    EReal.right_distrib_of_nonneg_of_ne_top scale_nonneg scale_ne_top, mul_assoc, mul_assoc]

theorem mixed_kept (A : Nat → EReal) (P : S2x8192.Idx → BitVec 32) (r : Fin 16384) (d : Nat) :
    mixed A (own P 2 r d) (partner P 2 r d) d = A d := by
  unfold mixed own partner
  rw [if_neg (by omega), if_neg (by omega), if_neg (by omega), if_neg (by omega), mul_one, mul_zero, add_zero]
end Cert.ProjMath
end
-- ==== Proof.QkvValue.lean ====
module
public import proofs.«01_k».proof.Proof.ProjMath
public import proofs.«01_k».proof.Proof.Gen.QkvIdeal.Value
@[expose] public section
noncomputable section
/-! The input projection's query, key and value columns at the ideal instance: what the kernel leaves in its result array. -/
namespace Cert.QkvCols
open Idealize.ShloMosaic Idealize.ShloMosaic.TcCoe Idealize.SL.Sem
open Cert.QkvIdeal Cert.QkvIdeal.Gen Cert.ProjMath

/-- The set of factors the columns of head `h` take. -/
def setOf (h : Nat) : Nat := if h < 24 then 1 else if h < 36 then 0 else 2

/-- A column of the weight product, over the whole arrays and over a block. -/
def col (x : S16384x4096.Idx → EReal) (w : S4096x6144.Idx → EReal) (r : Fin 16384) (c : Nat) : EReal :=
  if h : c < 6144 then ∑ k : Fin 4096, x (ix2 r k) * w (ix2 k ⟨c, h⟩) else 0
def colB (x : S1024x4096.Idx → EReal) (w : S4096x512.Idx → EReal) (r : Fin 1024) (c : Nat) : EReal :=
  if h : c < 512 then ∑ k : Fin 4096, x (ix2 r k) * w (ix2 k ⟨c, h⟩) else 0

/-- The result: each head's columns by its set of factors. -/
def result (x : S16384x4096.Idx → EReal) (w : S4096x6144.Idx → EReal) (P : S2x8192.Idx → BitVec 32) (i : S16384x6144.Idx) : EReal :=
  mixed (fun e => col x w (i 0) ((i 1).val / 128 * 128 + e)) (own P (setOf ((i 1).val / 128)) (i 0) ((i 1).val % 128))
    (partner P (setOf ((i 1).val / 128)) (i 0) ((i 1).val % 128)) ((i 1).val % 128)

/-- One head of a block. -/
theorem product_apply (x : Vec Ideal S1024x4096 .bf16) (w : Vec Ideal S4096x512 .bf16) (r : Fin 1024) (c : Fin 512) :
    k0_pay2 (F := Ideal) x w (ix2 r c) = colB x w r c.val := by
  unfold k0_pay2 colB
  rw [dif_pos c.isLt]
  pointwise

theorem head0_apply (x : Vec Ideal S1024x4096 .bf16) (w : Vec Ideal S4096x512 .bf16) (a b : Vec Ideal S1x1024x128 .f32) (y : S1024x128.Idx) :
    k0_pay5 (F := Ideal) x w a b y
      = mixed (fun e => colB x w (y 0) (0 + e)) (a (ix3 0 (y 0) (y 1))) (b (ix3 0 (y 0) (y 1))) (y 1).val := by
  idx_bounds y
  have h1 := product_apply x w (y 0) ⟨0 + (y 1).val, by omega⟩
  have h2 := product_apply x w (y 0) ⟨0 + ((y 1).val + 128 - 64) % 128, by omega⟩
  refine Eq.trans ?_ (mixed_mk _ _ h1 h2)
  unfold k0_pay5 k0_pay3 k0_pay4
  pointwise [k0_pay2]

theorem head128_apply (x : Vec Ideal S1024x4096 .bf16) (w : Vec Ideal S4096x512 .bf16) (a b : Vec Ideal S1x1024x128 .f32) (y : S1024x128.Idx) :
    k0_pay6 (F := Ideal) x w a b y
      = mixed (fun e => colB x w (y 0) (128 + e)) (a (ix3 0 (y 0) (y 1))) (b (ix3 0 (y 0) (y 1))) (y 1).val := by
  idx_bounds y
  have h1 := product_apply x w (y 0) ⟨128 + (y 1).val, by omega⟩
  have h2 := product_apply x w (y 0) ⟨128 + ((y 1).val + 128 - 64) % 128, by omega⟩
  refine Eq.trans ?_ (mixed_mk _ _ h1 h2)
  unfold k0_pay6 k0_pay3 k0_pay4
  pointwise [k0_pay2]

theorem head256_apply (x : Vec Ideal S1024x4096 .bf16) (w : Vec Ideal S4096x512 .bf16) (a b : Vec Ideal S1x1024x128 .f32) (y : S1024x128.Idx) :
    k0_pay7 (F := Ideal) x w a b y
      = mixed (fun e => colB x w (y 0) (256 + e)) (a (ix3 0 (y 0) (y 1))) (b (ix3 0 (y 0) (y 1))) (y 1).val := by
  idx_bounds y
  have h1 := product_apply x w (y 0) ⟨256 + (y 1).val, by omega⟩
  have h2 := product_apply x w (y 0) ⟨256 + ((y 1).val + 128 - 64) % 128, by omega⟩
  refine Eq.trans ?_ (mixed_mk _ _ h1 h2)
  unfold k0_pay7 k0_pay3 k0_pay4
  pointwise [k0_pay2]

theorem head384_apply (x : Vec Ideal S1024x4096 .bf16) (w : Vec Ideal S4096x512 .bf16) (a b : Vec Ideal S1x1024x128 .f32) (y : S1024x128.Idx) :
    k0_pay1 (F := Ideal) (k0_pay2 x w) (k0_pay3 a) (k0_pay4 b) y
      = mixed (fun e => colB x w (y 0) (384 + e)) (a (ix3 0 (y 0) (y 1))) (b (ix3 0 (y 0) (y 1))) (y 1).val := by
  idx_bounds y
  have h1 := product_apply x w (y 0) ⟨384 + (y 1).val, by omega⟩
  have h2 := product_apply x w (y 0) ⟨384 + ((y 1).val + 128 - 64) % 128, by omega⟩
  refine Eq.trans ?_ (mixed_mk _ _ h1 h2)
  unfold k0_pay1 k0_pay3 k0_pay4
  pointwise [k0_pay2]

theorem ld_eq (x : Vec Ideal S3x1024x256 .f32) (off : Fin 3 → Nat) (inb : ∀ a, off a + S1x1024x128.size a ≤ S3x1024x256.size a) (T : Fin 3) (o : Nat) (h : off = ![T.val, 0, o])
    (r : Fin 1024) (d : Fin 128) (j : Fin 256) (hj : j.val = o + d.val) :
    View.ld x (Rect.unit (s := S3x1024x256) off S1x1024x128.size inb) (ix3 0 r d) = x (ix3 T r j) := by
  subst h
  rw [View.ld_unit]
  refine congrArg x (funext fun a => Fin.ext ?_)
  match a with
  | ⟨0, _⟩ => rfl
  | ⟨1, _⟩ => exact Nat.zero_add _
  | ⟨2, _⟩ => exact hj.symm

/-- An entry of a block: its head's product columns by the factors of set `T`. -/
def blockOut (x0 : Vec Ideal S1024x4096 .bf16) (x1 : Vec Ideal S4096x512 .bf16) (x2 : Vec Ideal S3x1024x256 .f32) (T : Fin 3) (r : Fin 1024) (c : Nat) : EReal :=
  mixed (fun e => colB x0 x1 r (c / 128 * 128 + e)) (x2 (ix3 T r ⟨c % 128, by omega⟩)) (x2 (ix3 T r ⟨128 + c % 128, by omega⟩)) (c % 128)

/-- One head's share of a block is the block's entries there. -/
theorem head_eq (x0 : Vec Ideal S1024x4096 .bf16) (x1 : Vec Ideal S4096x512 .bf16) (x2 : Vec Ideal S3x1024x256 .f32) (T : Fin 3) (o1 o2 : Fin 3 → Nat)
    (i1 : ∀ a, o1 a + S1x1024x128.size a ≤ S3x1024x256.size a) (i2 : ∀ a, o2 a + S1x1024x128.size a ≤ S3x1024x256.size a)
    (h1 : o1 = ![T.val, 0, 0]) (h2 : o2 = ![T.val, 0, 128]) (q : Nat) (hq : q % 128 = 0) (y : S1024x512.Idx) (x : S1024x128.Idx)
    (e0 : (y 0).val = (x 0).val) (e1 : (y 1).val = q + (x 1).val) :
    mixed (fun e => colB x0 x1 (x 0) (q + e)) (View.ld x2 (Rect.unit (s := S3x1024x256) o1 S1x1024x128.size i1) (ix3 0 (x 0) (x 1)))
        (View.ld x2 (Rect.unit (s := S3x1024x256) o2 S1x1024x128.size i2) (ix3 0 (x 0) (x 1))) (x 1).val
      = blockOut x0 x1 x2 T (y 0) (y 1).val := by
  have hx : (x 1).val < 128 := (x 1).isLt
  have hr : (x 0 : Fin 1024) = (y 0 : Fin 1024) := Fin.ext e0.symm
  have hb : (y 1).val / 128 * 128 = q := by omega
  have hd : (y 1).val % 128 = (x 1).val := by omega
  unfold blockOut
  rw [ld_eq x2 o1 i1 T 0 h1 (x 0) (x 1) ⟨(y 1).val % 128, by omega⟩ (by show (y 1).val % 128 = _; omega),
    ld_eq x2 o2 i2 T 128 h2 (x 0) (x 1) ⟨128 + (y 1).val % 128, by omega⟩ (by show 128 + (y 1).val % 128 = _; omega), hr, hb, ← hd]

theorem block (c : Dev nD) (i : grid0.Coords) (arg2 : Memref sig .tc .vmem S1024x4096 .bf16) (harg2 : arg2.IsWhole) (arg3 : Memref sig .tc .vmem S4096x512 .bf16) (harg3 : arg3.IsWhole) (arg4 : Memref sig .tc .vmem S3x1024x256 .f32) (harg4 : arg4.IsWhole) (arg5 : Memref sig .tc .vmem S1024x512 .bf16) (harg5 : arg5.IsWhole)
    (x0 : Vec Ideal S1024x4096 .bf16) (x1 : Vec Ideal S4096x512 .bf16) (x2 : Vec Ideal S3x1024x256 .f32) (T : Fin 3) (h1 : k0_off1 i = ![T.val, 0, 0]) (h2 : k0_off2 i = ![T.val, 0, 128]) (y : S1024x512.Idx) :
    out0_A_3 (F := Ideal) c i arg2 harg2 arg3 harg3 arg4 harg4 arg5 harg5 x0 x1 x2 y = blockOut x0 x1 x2 T (y 0) (y 1).val := by
  rename' h1 => o1, h2 => o2
  frame_out
  canon_tiles x h
  · refine (head384_apply _ _ _ _ _).trans ?_
    exact head_eq x0 x1 x2 T _ _ _ _ o1 o2 384 rfl y x h0 h1
  · refine (head256_apply _ _ _ _ _).trans ?_
    exact head_eq x0 x1 x2 T _ _ _ _ o1 o2 256 rfl y x h0 h1
  · refine (head128_apply _ _ _ _ _).trans ?_
    exact head_eq x0 x1 x2 T _ _ _ _ o1 o2 128 rfl y x h0 h1
  · refine (head0_apply _ _ _ _ _).trans ?_
    exact head_eq x0 x1 x2 T _ _ _ _ o1 o2 0 rfl y x h0 (by omega)

/-- The window indices and the set of factors over the grid. -/
theorem index0 : ∀ t : Fin cfg0.N, win0_0.index t = ![t.val / 12, 0] := (by decide +kernel : ∀ t : Fin grid0.N, _)
theorem index1 : ∀ t : Fin cfg0.N, win0_1.index t = ![0, t.val % 12] := (by decide +kernel : ∀ t : Fin grid0.N, _)
theorem index2 : ∀ t : Fin cfg0.N, win0_2.index t = ![0, t.val / 12, 0] := (by decide +kernel : ∀ t : Fin grid0.N, _)
theorem index3 : ∀ t : Fin cfg0.N, win0_3.index t = ![t.val / 12, t.val % 12] := (by decide +kernel : ∀ t : Fin grid0.N, _)
theorem set1 : ∀ t : Fin cfg0.N, k0_off1 (grid0.coords t) = ![setOf (t.val % 12 * 4), 0, 0] := (by decide +kernel : ∀ t : Fin grid0.N, _)
theorem set2 : ∀ t : Fin cfg0.N, k0_off2 (grid0.coords t) = ![setOf (t.val % 12 * 4), 0, 128] := (by decide +kernel : ∀ t : Fin grid0.N, _)
theorem set_lt (h : Nat) : setOf h < 3 := by
  unfold setOf
  split
  · omega
  · split <;> omega
theorem set_eq (n h : Nat) (e : h / 4 = n) : setOf h = setOf (n * 4) := by
  unfold setOf
  split_ifs <;> omega

variable (m : (ℓ : Loc nD τ sig) → Buf (Elt Ideal) ℓ) (ρ : Dev nD → PrngReg)

/-- What the host leaves for the kernel. -/
theorem V_eq (c : Dev nD) : V m c main_v29 = stacked (m ((c : Thread nD τ).loc main_arg2)) := by
  unfold_abbrev_sides
  after_results
  rfl

theorem read0 (c : Dev nD) (t : Fin cfg0.N) (x : S1024x4096.Idx) (r : Fin 16384) (h : r.val = t.val / 12 * 1024 + (x 0).val) :
    iblk m c 0 t x = m ((c : Thread nD τ).loc main_arg0) (ix2 r (x 1)) := by
  refine Eq.trans ?_ (congrFun (V_main_arg0 m c) _)
  blk_simp [iblk]
  refine congrArg (V m c main_arg0) ?_
  blk_ext [index0]
theorem read1 (c : Dev nD) (t : Fin cfg0.N) (x : S4096x512.Idx) (r : Fin 6144) (h : r.val = t.val % 12 * 512 + (x 1).val) :
    iblk m c 1 t x = m ((c : Thread nD τ).loc main_arg1) (ix2 (x 0) r) := by
  refine Eq.trans ?_ (congrFun (V_main_arg1 m c) _)
  blk_simp [iblk]
  refine congrArg (V m c main_arg1) ?_
  blk_ext [index1]
theorem read2 (c : Dev nD) (t : Fin cfg0.N) (T : Fin 3) (x : Fin 1024) (d : Fin 256) (r : Fin 16384) (h : r.val = t.val / 12 * 1024 + x.val) :
    iblk m c 2 t (ix3 T x d) = stacked (m ((c : Thread nD τ).loc main_arg2)) (ix3 T r d) := by
  refine Eq.trans ?_ (congrFun (V_eq m c) _)
  blk_simp [iblk]
  refine congrArg (V m c main_v29) ?_
  blk_ext [index2]

/-- The block of results a grid point leaves. -/
theorem out_apply (c : Dev nD) (t : Fin cfg0.N) (y : S1024x512.Idx) (i : S16384x6144.Idx)
    (h0 : (i 0).val = t.val / 12 * 1024 + (y 0).val) (h1 : (i 1).val = t.val % 12 * 512 + (y 1).val) :
    outsAt0 m c t y = result (m ((c : Thread nD τ).loc main_arg0)) (m ((c : Thread nD τ).loc main_arg1)) (m ((c : Thread nD τ).loc main_arg2)) i := by
  idx_bounds y
  have hd : (y 1).val % 128 = (i 1).val % 128 := by omega
  have hs : setOf ((i 1).val / 128) = setOf (t.val % 12 * 4) := set_eq _ _ (by omega)
  unfold outsAt0
  rw [block c _ _ _ _ _ _ _ _ _ _ _ _ ⟨setOf (t.val % 12 * 4), set_lt _⟩ (set1 t) (set2 t) y]
  unfold blockOut result
  rw [read2 m c t _ (y 0) _ (i 0) h0, read2 m c t _ (y 0) _ (i 0) h0, stacked_own _ _ (i 0) _ (by omega), stacked_partner _ _ (i 0) _ (by omega), hs, hd]
  have hc : ∀ e, e < 128 → colB (iblk m c 0 t) (iblk m c 1 t) (y 0) ((y 1).val / 128 * 128 + e)
      = col (m ((c : Thread nD τ).loc main_arg0)) (m ((c : Thread nD τ).loc main_arg1)) (i 0) ((i 1).val / 128 * 128 + e) := fun e he => by
    have hi : (i 1).val < 6144 := (i 1).isLt
    unfold colB col
    rw [dif_pos (show (y 1).val / 128 * 128 + e < 512 by omega), dif_pos (show (i 1).val / 128 * 128 + e < 6144 by omega)]
    exact Finset.sum_congr rfl fun k _ => congrArg₂ (· * ·) (read0 m c t (ix2 (y 0) k) (i 0) h0)
      (read1 m c t (ix2 k ⟨(y 1).val / 128 * 128 + e, by omega⟩) ⟨(i 1).val / 128 * 128 + e, by omega⟩ (by show (i 1).val / 128 * 128 + e = _ + ((y 1).val / 128 * 128 + e); omega))
  exact mixed_congr _ _ (by omega) hc

/-- The kernel's result array. -/
theorem final_o (c : Dev nD) : (dats m 0 c).arrAt 3 cfg0.N
    = result (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  refine out_apply m c t y _ ?_ ?_
  · blk_simp [index3]
  · blk_simp [index3]
end Cert.QkvCols
end
-- ==== Proof.QkvRef.lean ====
module
public import proofs.«01_k».proof.Defs
public import proofs.«01_k».proof.Proof.QkvValue
public import proofs.«01_k».proof.Proof.Gen.QkvRefIdeal.Read
@[expose] public section
noncomputable section
/-! The input projection's query, key and value columns: the reference's result, and the two programs' agreement. -/
namespace Cert.QkvCols
open Idealize.ShloMosaic Idealize.ShloMosaic.TcCoe Idealize.SL.Sem
open Cert.QkvRefIdeal Cert.QkvRefIdeal.Read Cert.ProjMath

/-- The reference's angles. -/
theorem angle_apply (P : S2x8192.Idx → BitVec 32) (r : Fin 16384) (d : Fin 64) : val_main_v21 (F := Ideal) P (ix2 r d) = angle P r d.val := by
  unfold angle
  pointwise [val_main_v21, val_main_v20, val_main_v19, val_main_v18, val_main_v17, val_main_v16, val_main_v15, val_main_v14, val_main_v13, val_main_v12, val_main_v11, val_main_v10,
    val_main_v9, val_main_v8, val_main_v7, val_main_v6, val_main_v5, val_main_cst, val_main_cst_0, val_main_cst_1, val_main_cst_2]

/-- The reference's product, a head at a time. -/
theorem heads_apply (x : S16384x4096.Idx → EReal) (w : S4096x6144.Idx → EReal) (r : Fin 16384) (h : Fin 48) (d : Fin 128) :
    val_main_v3 (F := Ideal) x w (ix3 r h d) = col x w r (h.val * 128 + d.val) := by
  have hh := h.isLt
  have hd := d.isLt
  unfold col
  rw [val_main_v3_apply, val_main_v2_apply, dif_pos (by omega)]
  refine Finset.sum_congr rfl fun k _ => congrArg₂ (· * ·) (congrArg x ?_) (congrArg w ?_)
  · funext a
    match a with
    | ⟨0, _⟩ => exact Fin.ext (show ((r.val * 48 + h.val) * 128 + d.val) / 6144 = r.val by omega)
    | ⟨1, _⟩ => rfl
  · funext a
    match a with
    | ⟨0, _⟩ => rfl
    | ⟨1, _⟩ => exact Fin.ext (show ((r.val * 48 + h.val) * 128 + d.val) % 6144 = h.val * 128 + d.val by omega)

/-- The reference's rotated heads. -/
theorem roped_apply (x : S16384x4096.Idx → EReal) (w : S4096x6144.Idx → EReal) (P : S2x8192.Idx → BitVec 32) (r : Fin 16384) (h : Fin 36) (d : Fin 128) :
    val_main_v38 (F := Ideal) x w P (ix3 r h d) = roped (fun e => col x w r (h.val * 128 + e)) P r d.val := by
  have hd := d.isLt
  unfold roped
  pointwise [val_main_v38, val_main_v37, val_main_v36, val_main_v35, val_main_v34, val_main_v33, val_main_v32, val_main_v31, val_main_v30, val_main_v29, val_main_v28,
    val_main_v27, val_main_v26, val_main_v25, val_main_v24, val_main_v23, val_main_v22, val_main_v4]
  simp only [heads_apply, angle_apply]
  split
  · rfl
  · rename_i hn
    rw [show 64 + (d.val - 64) = d.val by omega]

theorem reference_apply (x : S16384x4096.Idx → EReal) (w : S4096x6144.Idx → EReal) (P : S2x8192.Idx → BitVec 32) (r : Fin 16384) (c : Fin 6144) :
    val_main_v46 (F := Ideal) x w P (ix2 r c) = result x w P (ix2 r c) := by
  have hc := c.isLt
  unfold result
  pointwise [val_main_v46, val_main_v45, val_main_v44, val_main_v43, val_main_v42, val_main_v41, val_main_v40, val_main_v39, val_main_cst_3]
  split
  · rename_i h1
    rw [roped_apply, show setOf (c.val / 128) = 1 from if_pos h1, mixed_scaled _ _ _ _ (by omega)]
    rfl
  · rename_i h1
    split
    · rename_i h2
      rw [roped_apply, show setOf (c.val / 128) = 0 from (if_neg h1).trans (if_pos (by omega)), mixed_plain _ _ _ _ (by omega)]
      simp only [show 24 + (c.val / 128 - 24) = c.val / 128 by omega]
    · rename_i h2
      rw [heads_apply, show setOf (c.val / 128) = 2 from (if_neg h1).trans (if_neg (by omega)), mixed_kept]
      simp only [show 36 + (c.val / 128 - 24 - 12) = c.val / 128 by omega]

/-- At the ideal instance the kernel's columns and the reference's agree. -/
theorem algebraic : Cert.algebraic_QkvIdeal_QkvRefIdeal := by
  pair_intro
  · run_from Cert.QkvIdeal.Value.run_blocks m g
  · run_from Cert.QkvRefIdeal.Value.run m' g'
    rw [Cert.QkvCols.final_o m c, val_main_v46_eq]
    funext i
    obtain ⟨r, j, rfl⟩ : ∃ (r : Fin 16384) (j : Fin 6144), i = ix2 r j := ⟨i 0, i 1, by funext a; match a with | ⟨0, _⟩ => rfl | ⟨1, _⟩ => rfl⟩
    rw [(hagree c).1, (hagree c).2.1, (hagree c).2.2]
    exact reference_apply _ _ _ r j
end Cert.QkvCols
end
-- ==== Proof.CmpValue.lean ====
module
public import proofs.«01_k».proof.Proof.ProjMath
public import proofs.«01_k».proof.Proof.Gen.CmpIdeal.Value
@[expose] public section
noncomputable section
/-! The input projection's columns for compression at the ideal instance: what the kernel leaves in its result array. -/
namespace Cert.CmpCols
open Idealize.ShloMosaic Idealize.ShloMosaic.TcCoe Idealize.SL.Sem
open Cert.CmpIdeal Cert.CmpIdeal.Gen Cert.ProjMath

/-- The set of factors the columns of head `h` take. -/
def setOf (h : Nat) : Nat := if h < 4 then 0 else 2

/-- A column of the weight product, over the whole arrays and over a block. -/
def col (x : S16384x4096.Idx → EReal) (w : S4096x1024.Idx → EReal) (r : Fin 16384) (c : Nat) : EReal :=
  if h : c < 1024 then ∑ k : Fin 4096, x (ix2 r k) * w (ix2 k ⟨c, h⟩) else 0
def colB (x : S1024x4096.Idx → EReal) (w : S4096x512.Idx → EReal) (r : Fin 1024) (c : Nat) : EReal :=
  if h : c < 512 then ∑ k : Fin 4096, x (ix2 r k) * w (ix2 k ⟨c, h⟩) else 0

/-- The result: each head's columns by its set of factors. -/
def result (x : S16384x4096.Idx → EReal) (w : S4096x1024.Idx → EReal) (P : S2x8192.Idx → BitVec 32) (i : S16384x1024.Idx) : EReal :=
  mixed (fun e => col x w (i 0) ((i 1).val / 128 * 128 + e)) (own P (setOf ((i 1).val / 128)) (i 0) ((i 1).val % 128))
    (partner P (setOf ((i 1).val / 128)) (i 0) ((i 1).val % 128)) ((i 1).val % 128)

/-- One head of a block. -/
theorem product_apply (x : Vec Ideal S1024x4096 .bf16) (w : Vec Ideal S4096x512 .bf16) (r : Fin 1024) (c : Fin 512) :
    k0_pay2 (F := Ideal) x w (ix2 r c) = colB x w r c.val := by
  unfold k0_pay2 colB
  rw [dif_pos c.isLt]
  pointwise

theorem head0_apply (x : Vec Ideal S1024x4096 .bf16) (w : Vec Ideal S4096x512 .bf16) (a b : Vec Ideal S1x1024x128 .f32) (y : S1024x128.Idx) :
    k0_pay5 (F := Ideal) x w a b y
      = mixed (fun e => colB x w (y 0) (0 + e)) (a (ix3 0 (y 0) (y 1))) (b (ix3 0 (y 0) (y 1))) (y 1).val := by
  idx_bounds y
  have h1 := product_apply x w (y 0) ⟨0 + (y 1).val, by omega⟩
  have h2 := product_apply x w (y 0) ⟨0 + ((y 1).val + 128 - 64) % 128, by omega⟩
  refine Eq.trans ?_ (mixed_mk _ _ h1 h2)
  unfold k0_pay5 k0_pay3 k0_pay4
  pointwise [k0_pay8, k0_pay2]

theorem head128_apply (x : Vec Ideal S1024x4096 .bf16) (w : Vec Ideal S4096x512 .bf16) (a b : Vec Ideal S1x1024x128 .f32) (y : S1024x128.Idx) :
    k0_pay6 (F := Ideal) x w a b y
      = mixed (fun e => colB x w (y 0) (128 + e)) (a (ix3 0 (y 0) (y 1))) (b (ix3 0 (y 0) (y 1))) (y 1).val := by
  idx_bounds y
  have h1 := product_apply x w (y 0) ⟨128 + (y 1).val, by omega⟩
  have h2 := product_apply x w (y 0) ⟨128 + ((y 1).val + 128 - 64) % 128, by omega⟩
  refine Eq.trans ?_ (mixed_mk _ _ h1 h2)
  unfold k0_pay6 k0_pay3 k0_pay4
  pointwise [k0_pay8, k0_pay2]

theorem head256_apply (x : Vec Ideal S1024x4096 .bf16) (w : Vec Ideal S4096x512 .bf16) (a b : Vec Ideal S1x1024x128 .f32) (y : S1024x128.Idx) :
    k0_pay7 (F := Ideal) x w a b y
      = mixed (fun e => colB x w (y 0) (256 + e)) (a (ix3 0 (y 0) (y 1))) (b (ix3 0 (y 0) (y 1))) (y 1).val := by
  idx_bounds y
  have h1 := product_apply x w (y 0) ⟨256 + (y 1).val, by omega⟩
  have h2 := product_apply x w (y 0) ⟨256 + ((y 1).val + 128 - 64) % 128, by omega⟩
  refine Eq.trans ?_ (mixed_mk _ _ h1 h2)
  unfold k0_pay7 k0_pay3 k0_pay4
  pointwise [k0_pay8, k0_pay2]

theorem head384_apply (x : Vec Ideal S1024x4096 .bf16) (w : Vec Ideal S4096x512 .bf16) (a b : Vec Ideal S1x1024x128 .f32) (y : S1024x128.Idx) :
    k0_pay1 (F := Ideal) (k0_pay3 a) (k0_pay4 b) (k0_pay8 x w) y
      = mixed (fun e => colB x w (y 0) (384 + e)) (a (ix3 0 (y 0) (y 1))) (b (ix3 0 (y 0) (y 1))) (y 1).val := by
  idx_bounds y
  have h1 := product_apply x w (y 0) ⟨384 + (y 1).val, by omega⟩
  have h2 := product_apply x w (y 0) ⟨384 + ((y 1).val + 128 - 64) % 128, by omega⟩
  refine Eq.trans ?_ (mixed_mk _ _ h1 h2)
  unfold k0_pay1 k0_pay3 k0_pay4
  pointwise [k0_pay8, k0_pay2]

theorem ld_eq (x : Vec Ideal S3x1024x256 .f32) (off : Fin 3 → Nat) (inb : ∀ a, off a + S1x1024x128.size a ≤ S3x1024x256.size a) (T : Fin 3) (o : Nat) (h : off = ![T.val, 0, o])
    (r : Fin 1024) (d : Fin 128) (j : Fin 256) (hj : j.val = o + d.val) :
    View.ld x (Rect.unit (s := S3x1024x256) off S1x1024x128.size inb) (ix3 0 r d) = x (ix3 T r j) := by
  subst h
  rw [View.ld_unit]
  refine congrArg x (funext fun a => Fin.ext ?_)
  match a with
  | ⟨0, _⟩ => rfl
  | ⟨1, _⟩ => exact Nat.zero_add _
  | ⟨2, _⟩ => exact hj.symm

/-- An entry of a block: its head's product columns by the factors of set `T`. -/
def blockOut (x0 : Vec Ideal S1024x4096 .bf16) (x1 : Vec Ideal S4096x512 .bf16) (x2 : Vec Ideal S3x1024x256 .f32) (T : Fin 3) (r : Fin 1024) (c : Nat) : EReal :=
  mixed (fun e => colB x0 x1 r (c / 128 * 128 + e)) (x2 (ix3 T r ⟨c % 128, by omega⟩)) (x2 (ix3 T r ⟨128 + c % 128, by omega⟩)) (c % 128)

/-- One head's share of a block is the block's entries there. -/
theorem head_eq (x0 : Vec Ideal S1024x4096 .bf16) (x1 : Vec Ideal S4096x512 .bf16) (x2 : Vec Ideal S3x1024x256 .f32) (T : Fin 3) (o1 o2 : Fin 3 → Nat)
    (i1 : ∀ a, o1 a + S1x1024x128.size a ≤ S3x1024x256.size a) (i2 : ∀ a, o2 a + S1x1024x128.size a ≤ S3x1024x256.size a)
    (h1 : o1 = ![T.val, 0, 0]) (h2 : o2 = ![T.val, 0, 128]) (q : Nat) (hq : q % 128 = 0) (y : S1024x512.Idx) (x : S1024x128.Idx)
    (e0 : (y 0).val = (x 0).val) (e1 : (y 1).val = q + (x 1).val) :
    mixed (fun e => colB x0 x1 (x 0) (q + e)) (View.ld x2 (Rect.unit (s := S3x1024x256) o1 S1x1024x128.size i1) (ix3 0 (x 0) (x 1)))
        (View.ld x2 (Rect.unit (s := S3x1024x256) o2 S1x1024x128.size i2) (ix3 0 (x 0) (x 1))) (x 1).val
      = blockOut x0 x1 x2 T (y 0) (y 1).val := by
  have hx : (x 1).val < 128 := (x 1).isLt
  have hr : (x 0 : Fin 1024) = (y 0 : Fin 1024) := Fin.ext e0.symm
  have hb : (y 1).val / 128 * 128 = q := by omega
  have hd : (y 1).val % 128 = (x 1).val := by omega
  unfold blockOut
  rw [ld_eq x2 o1 i1 T 0 h1 (x 0) (x 1) ⟨(y 1).val % 128, by omega⟩ (by show (y 1).val % 128 = _; omega),
    ld_eq x2 o2 i2 T 128 h2 (x 0) (x 1) ⟨128 + (y 1).val % 128, by omega⟩ (by show 128 + (y 1).val % 128 = _; omega), hr, hb, ← hd]

theorem block (c : Dev nD) (i : grid0.Coords) (arg2 : Memref sig .tc .vmem S1024x4096 .bf16) (harg2 : arg2.IsWhole) (arg3 : Memref sig .tc .vmem S4096x512 .bf16) (harg3 : arg3.IsWhole) (arg4 : Memref sig .tc .vmem S3x1024x256 .f32) (harg4 : arg4.IsWhole) (arg5 : Memref sig .tc .vmem S1024x512 .f32) (harg5 : arg5.IsWhole)
    (x0 : Vec Ideal S1024x4096 .bf16) (x1 : Vec Ideal S4096x512 .bf16) (x2 : Vec Ideal S3x1024x256 .f32) (T : Fin 3) (h1 : k0_off1 i = ![T.val, 0, 0]) (h2 : k0_off2 i = ![T.val, 0, 128]) (y : S1024x512.Idx) :
    out0_A_3 (F := Ideal) c i arg2 harg2 arg3 harg3 arg4 harg4 arg5 harg5 x0 x1 x2 y = blockOut x0 x1 x2 T (y 0) (y 1).val := by
  rename' h1 => o1, h2 => o2
  frame_out
  canon_tiles x h
  · refine (head384_apply _ _ _ _ _).trans ?_
    exact head_eq x0 x1 x2 T _ _ _ _ o1 o2 384 rfl y x h0 h1
  · refine (head256_apply _ _ _ _ _).trans ?_
    exact head_eq x0 x1 x2 T _ _ _ _ o1 o2 256 rfl y x h0 h1
  · refine (head128_apply _ _ _ _ _).trans ?_
    exact head_eq x0 x1 x2 T _ _ _ _ o1 o2 128 rfl y x h0 h1
  · refine (head0_apply _ _ _ _ _).trans ?_
    exact head_eq x0 x1 x2 T _ _ _ _ o1 o2 0 rfl y x h0 (by omega)

/-- The window indices and the set of factors over the grid. -/
theorem index0 : ∀ t : Fin cfg0.N, win0_0.index t = ![t.val / 2, 0] := (by decide +kernel : ∀ t : Fin grid0.N, _)
theorem index1 : ∀ t : Fin cfg0.N, win0_1.index t = ![0, t.val % 2] := (by decide +kernel : ∀ t : Fin grid0.N, _)
theorem index2 : ∀ t : Fin cfg0.N, win0_2.index t = ![0, t.val / 2, 0] := (by decide +kernel : ∀ t : Fin grid0.N, _)
theorem index3 : ∀ t : Fin cfg0.N, win0_3.index t = ![t.val / 2, t.val % 2] := (by decide +kernel : ∀ t : Fin grid0.N, _)
theorem set1 : ∀ t : Fin cfg0.N, k0_off1 (grid0.coords t) = ![setOf (t.val % 2 * 4), 0, 0] := (by decide +kernel : ∀ t : Fin grid0.N, _)
theorem set2 : ∀ t : Fin cfg0.N, k0_off2 (grid0.coords t) = ![setOf (t.val % 2 * 4), 0, 128] := (by decide +kernel : ∀ t : Fin grid0.N, _)
theorem set_lt (h : Nat) : setOf h < 3 := by
  unfold setOf
  split <;> omega
theorem set_eq (n h : Nat) (e : h / 4 = n) : setOf h = setOf (n * 4) := by
  unfold setOf
  split_ifs <;> omega

variable (m : (ℓ : Loc nD τ sig) → Buf (Elt Ideal) ℓ) (ρ : Dev nD → PrngReg)

/-- What the host leaves for the kernel. -/
theorem V_eq (c : Dev nD) : V m c main_v29 = stacked (m ((c : Thread nD τ).loc main_arg2)) := by
  unfold_abbrev_sides
  after_results
  rfl

theorem read0 (c : Dev nD) (t : Fin cfg0.N) (x : S1024x4096.Idx) (r : Fin 16384) (h : r.val = t.val / 2 * 1024 + (x 0).val) :
    iblk m c 0 t x = m ((c : Thread nD τ).loc main_arg0) (ix2 r (x 1)) := by
  refine Eq.trans ?_ (congrFun (V_main_arg0 m c) _)
  blk_simp [iblk]
  refine congrArg (V m c main_arg0) ?_
  blk_ext [index0]
theorem read1 (c : Dev nD) (t : Fin cfg0.N) (x : S4096x512.Idx) (r : Fin 1024) (h : r.val = t.val % 2 * 512 + (x 1).val) :
    iblk m c 1 t x = m ((c : Thread nD τ).loc main_arg1) (ix2 (x 0) r) := by
  refine Eq.trans ?_ (congrFun (V_main_arg1 m c) _)
  blk_simp [iblk]
  refine congrArg (V m c main_arg1) ?_
  blk_ext [index1]
theorem read2 (c : Dev nD) (t : Fin cfg0.N) (T : Fin 3) (x : Fin 1024) (d : Fin 256) (r : Fin 16384) (h : r.val = t.val / 2 * 1024 + x.val) :
    iblk m c 2 t (ix3 T x d) = stacked (m ((c : Thread nD τ).loc main_arg2)) (ix3 T r d) := by
  refine Eq.trans ?_ (congrFun (V_eq m c) _)
  blk_simp [iblk]
  refine congrArg (V m c main_v29) ?_
  blk_ext [index2]

/-- The block of results a grid point leaves. -/
theorem out_apply (c : Dev nD) (t : Fin cfg0.N) (y : S1024x512.Idx) (i : S16384x1024.Idx)
    (h0 : (i 0).val = t.val / 2 * 1024 + (y 0).val) (h1 : (i 1).val = t.val % 2 * 512 + (y 1).val) :
    outsAt0 m c t y = result (m ((c : Thread nD τ).loc main_arg0)) (m ((c : Thread nD τ).loc main_arg1)) (m ((c : Thread nD τ).loc main_arg2)) i := by
  idx_bounds y
  have hd : (y 1).val % 128 = (i 1).val % 128 := by omega
  have hs : setOf ((i 1).val / 128) = setOf (t.val % 2 * 4) := set_eq _ _ (by omega)
  unfold outsAt0
  rw [block c _ _ _ _ _ _ _ _ _ _ _ _ ⟨setOf (t.val % 2 * 4), set_lt _⟩ (set1 t) (set2 t) y]
  unfold blockOut result
  rw [read2 m c t _ (y 0) _ (i 0) h0, read2 m c t _ (y 0) _ (i 0) h0, stacked_own _ _ (i 0) _ (by omega), stacked_partner _ _ (i 0) _ (by omega), hs, hd]
  have hc : ∀ e, e < 128 → colB (iblk m c 0 t) (iblk m c 1 t) (y 0) ((y 1).val / 128 * 128 + e)
      = col (m ((c : Thread nD τ).loc main_arg0)) (m ((c : Thread nD τ).loc main_arg1)) (i 0) ((i 1).val / 128 * 128 + e) := fun e he => by
    have hi : (i 1).val < 1024 := (i 1).isLt
    unfold colB col
    rw [dif_pos (show (y 1).val / 128 * 128 + e < 512 by omega), dif_pos (show (i 1).val / 128 * 128 + e < 1024 by omega)]
    exact Finset.sum_congr rfl fun k _ => congrArg₂ (· * ·) (read0 m c t (ix2 (y 0) k) (i 0) h0)
      (read1 m c t (ix2 k ⟨(y 1).val / 128 * 128 + e, by omega⟩) ⟨(i 1).val / 128 * 128 + e, by omega⟩ (by show (i 1).val / 128 * 128 + e = _ + ((y 1).val / 128 * 128 + e); omega))
  exact mixed_congr _ _ (by omega) hc

/-- The kernel's result array. -/
theorem final_o (c : Dev nD) : (dats m 0 c).arrAt 3 cfg0.N
    = result (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  refine out_apply m c t y _ ?_ ?_
  · blk_simp [index3]
  · blk_simp [index3]
end Cert.CmpCols
end
-- ==== Proof.CmpRef.lean ====
module
public import proofs.«01_k».proof.Defs
public import proofs.«01_k».proof.Proof.CmpValue
public import proofs.«01_k».proof.Proof.Gen.CmpRefIdeal.Read
@[expose] public section
noncomputable section
/-! The input projection's columns for compression: the reference's result, and the two programs' agreement. -/
namespace Cert.CmpCols
open Idealize.ShloMosaic Idealize.ShloMosaic.TcCoe Idealize.SL.Sem
open Cert.CmpRefIdeal Cert.CmpRefIdeal.Read Cert.ProjMath

/-- The reference's angles. -/
theorem angle_apply (P : S2x8192.Idx → BitVec 32) (r : Fin 16384) (d : Fin 64) : val_main_v21 (F := Ideal) P (ix2 r d) = angle P r d.val := by
  unfold angle
  pointwise [val_main_v21, val_main_v20, val_main_v19, val_main_v18, val_main_v17, val_main_v16, val_main_v15, val_main_v14, val_main_v13, val_main_v12, val_main_v11, val_main_v10,
    val_main_v9, val_main_v8, val_main_v7, val_main_v6, val_main_v5, val_main_cst, val_main_cst_0, val_main_cst_1, val_main_cst_2]

/-- The reference's product, a head at a time. -/
theorem heads_apply (x : S16384x4096.Idx → EReal) (w : S4096x1024.Idx → EReal) (r : Fin 16384) (h : Fin 8) (d : Fin 128) :
    val_main_v3 (F := Ideal) x w (ix3 r h d) = col x w r (h.val * 128 + d.val) := by
  have hh := h.isLt
  have hd := d.isLt
  unfold col
  rw [val_main_v3_apply, val_main_v2_apply, dif_pos (by omega)]
  refine Finset.sum_congr rfl fun k _ => congrArg₂ (· * ·) (congrArg x ?_) (congrArg w ?_)
  · funext a
    match a with
    | ⟨0, _⟩ => exact Fin.ext (show ((r.val * 8 + h.val) * 128 + d.val) / 1024 = r.val by omega)
    | ⟨1, _⟩ => rfl
  · funext a
    match a with
    | ⟨0, _⟩ => rfl
    | ⟨1, _⟩ => exact Fin.ext (show ((r.val * 8 + h.val) * 128 + d.val) % 1024 = h.val * 128 + d.val by omega)

/-- The reference's rotated heads. -/
theorem roped_apply (x : S16384x4096.Idx → EReal) (w : S4096x1024.Idx → EReal) (P : S2x8192.Idx → BitVec 32) (r : Fin 16384) (h : Fin 4) (d : Fin 128) :
    val_main_v38 (F := Ideal) x w P (ix3 r h d) = roped (fun e => col x w r (h.val * 128 + e)) P r d.val := by
  have hd := d.isLt
  unfold roped
  pointwise [val_main_v38, val_main_v37, val_main_v36, val_main_v35, val_main_v34, val_main_v33, val_main_v32, val_main_v31, val_main_v30, val_main_v29, val_main_v28,
    val_main_v27, val_main_v26, val_main_v25, val_main_v24, val_main_v23, val_main_v22, val_main_v4]
  simp only [heads_apply, angle_apply]
  split
  · rfl
  · rename_i hn
    rw [show 64 + (d.val - 64) = d.val by omega]

theorem reference_apply (x : S16384x4096.Idx → EReal) (w : S4096x1024.Idx → EReal) (P : S2x8192.Idx → BitVec 32) (r : Fin 16384) (c : Fin 1024) :
    val_main_v41 (F := Ideal) x w P (ix2 r c) = result x w P (ix2 r c) := by
  have hc := c.isLt
  unfold result
  pointwise [val_main_v41, val_main_v40, val_main_v39]
  split
  · rename_i h1
    rw [roped_apply, show setOf (c.val / 128) = 0 from if_pos h1, mixed_plain _ _ _ _ (by omega)]
  · rename_i h1
    rw [heads_apply, show setOf (c.val / 128) = 2 from if_neg h1, mixed_kept]
    simp only [show 4 + (c.val / 128 - 4) = c.val / 128 by omega]

/-- At the ideal instance the kernel's columns and the reference's agree. -/
theorem algebraic : Cert.algebraic_CmpIdeal_CmpRefIdeal := by
  pair_intro
  · run_from Cert.CmpIdeal.Value.run_blocks m g
  · run_from Cert.CmpRefIdeal.Value.run m' g'
    rw [Cert.CmpCols.final_o m c, val_main_v41_eq]
    funext i
    obtain ⟨r, j, rfl⟩ : ∃ (r : Fin 16384) (j : Fin 1024), i = ix2 r j := ⟨i 0, i 1, by funext a; match a with | ⟨0, _⟩ => rfl | ⟨1, _⟩ => rfl⟩
    rw [(hagree c).1, (hagree c).2.1, (hagree c).2.2]
    exact reference_apply _ _ _ r j
end Cert.CmpCols
end
-- ==== Proof.ConvValue.lean ====
module
public import proofs.«01_k».proof.Proof.Gen.ConvIdeal.Value
public import Idealize.ShloMosaic.Lib.Pipeline.ValueKit
public import Idealize.ShloMosaic.Lib.Claim
public import Idealize.ShloMosaic.Lib.Pointwise
@[expose] public section
noncomputable section
/-! The convolution's input columns at the ideal instance: what the kernel leaves in its result array. -/
namespace Cert.ConvCols
open Idealize.ShloMosaic Idealize.ShloMosaic.TcCoe Idealize.SL.Sem
open Cert.ConvIdeal Cert.ConvIdeal.Gen

/-- The product of the rows with the weights' columns. -/
def product (x : S16384x4096.Idx → EReal) (w : S4096x2560.Idx → EReal) (i : S16384x2560.Idx) : EReal :=
  ∑ k : Fin 4096, x (ix2 (i 0) k) * w (ix2 k (i 1))

theorem pay1_apply (x : Vec Ideal S1024x4096 .bf16) (w : Vec Ideal S4096x512 .bf16) (y : S1024x512.Idx) :
    k0_pay1 (F := Ideal) x w y = ∑ k : Fin 4096, x (ix2 (y 0) k) * w (ix2 k (y 1)) := by
  unfold k0_pay1
  pointwise

/-- A block of the result, from its blocks of rows and columns. -/
theorem out_eq (x0 : Vec Ideal S1024x4096 .bf16) (x1 : Vec Ideal S4096x512 .bf16) (x2 : Vec Ideal S3x1024x256 .f32) (y : S1024x512.Idx) :
    out0_3 (F := Ideal) x0 x1 x2 y = k0_pay1 x0 x1 y := by
  unfold out0_3
  canon_tiles x h
  rw [show View.ld x0 r0_0 = x0 from View.ld_unit_zero (by decide) _ x0, show View.ld x1 r0_1 = x1 from View.ld_unit_zero (by decide) _ x1]
  refine congrArg (k0_pay1 x0 x1) (funext fun a => Fin.ext ?_)
  match a with
  | ⟨0, _⟩ => exact h0.symm
  | ⟨1, _⟩ => exact h1.symm

variable (m : (ℓ : Loc nD τ sig) → Buf (Elt Ideal) ℓ) (ρ : Dev nD → PrngReg)

theorem index0 : ∀ t : Fin cfg0.N, win0_0.index t = ![t.val / 5, 0] := (by decide +kernel : ∀ t : Fin grid0.N, _)
theorem index1 : ∀ t : Fin cfg0.N, win0_1.index t = ![0, t.val % 5] := (by decide +kernel : ∀ t : Fin grid0.N, _)
theorem index3 : ∀ t : Fin cfg0.N, win0_3.index t = ![t.val / 5, t.val % 5] := (by decide +kernel : ∀ t : Fin grid0.N, _)

theorem read0 (c : Dev nD) (t : Fin cfg0.N) (x : S1024x4096.Idx) (r : Fin 16384) (h : r.val = t.val / 5 * 1024 + (x 0).val) :
    iblk m c 0 t x = m ((c : Thread nD τ).loc main_arg0) (ix2 r (x 1)) := by
  refine Eq.trans ?_ (congrFun (V_main_arg0 m c) _)
  blk_simp [iblk]
  refine congrArg (V m c main_arg0) ?_
  blk_ext [index0]
theorem read1 (c : Dev nD) (t : Fin cfg0.N) (x : S4096x512.Idx) (r : Fin 2560) (h : r.val = t.val % 5 * 512 + (x 1).val) :
    iblk m c 1 t x = m ((c : Thread nD τ).loc main_arg1) (ix2 (x 0) r) := by
  refine Eq.trans ?_ (congrFun (V_main_arg1 m c) _)
  blk_simp [iblk]
  refine congrArg (V m c main_arg1) ?_
  blk_ext [index1]

/-- The block of the result a grid point leaves. -/
theorem out_apply (c : Dev nD) (t : Fin cfg0.N) (y : S1024x512.Idx) (i : S16384x2560.Idx)
    (h0 : (i 0).val = t.val / 5 * 1024 + (y 0).val) (h1 : (i 1).val = t.val % 5 * 512 + (y 1).val) :
    out0_3 (iblk m c 0 t) (iblk m c 1 t) (iblk m c 2 t) y = product (m ((c : Thread nD τ).loc main_arg0)) (m ((c : Thread nD τ).loc main_arg1)) i := by
  rw [out_eq, pay1_apply]
  unfold product
  refine Finset.sum_congr rfl fun k _ => ?_
  exact congrArg₂ (· * ·) (read0 m c t (ix2 (y 0) k) (i 0) h0) (read1 m c t (ix2 k (y 1)) (i 1) h1)

/-- The kernel's result array. -/
theorem final_o (c : Dev nD) : (dats m 0 c).arrAt 3 cfg0.N = product (m ((c : Thread nD τ).loc main_arg0)) (m ((c : Thread nD τ).loc main_arg1)) := by
  refine (dats m 0 c).arrAt_eq_of_covers 3 _ (by decide +kernel) fun t hf y => ?_
  blk_simp
  rw [after0_3]
  refine out_apply m c t y _ ?_ ?_
  · blk_simp [index3]
  · blk_simp [index3]
end Cert.ConvCols
end
-- ==== Proof.ConvRef.lean ====
module
public import proofs.«01_k».proof.Defs
public import proofs.«01_k».proof.Proof.ConvValue
public import proofs.«01_k».proof.Proof.Gen.ConvRefIdeal.Read
@[expose] public section
noncomputable section
/-! The convolution's input columns: the reference's result, and the two programs' agreement. -/
namespace Cert.ConvCols
open Idealize.ShloMosaic Idealize.ShloMosaic.TcCoe Idealize.SL.Sem
open Cert.ConvRefIdeal Cert.ConvRefIdeal.Read

/-- The reference's result array. -/
theorem reference_apply (x : S16384x4096.Idx → EReal) (w : S4096x2560.Idx → EReal) (i : S16384x2560.Idx) :
    product x w i = val_main_v2 (F := Ideal) x w i := by
  rw [val_main_v2_apply]
  unfold product
  refine Finset.sum_congr rfl fun k _ => congrArg₂ (· * ·) (congrArg x ?_) (congrArg w ?_)
  · funext a
    match a with | ⟨0, _⟩ => rfl | ⟨1, _⟩ => rfl
  · funext a
    match a with | ⟨0, _⟩ => rfl | ⟨1, _⟩ => rfl

/-- At the ideal instance the kernel's columns and the reference's agree. -/
theorem algebraic : Cert.algebraic_ConvIdeal_ConvRefIdeal := by
  pair_intro
  · run_from Cert.ConvIdeal.Value.run_blocks m g
  · run_from Cert.ConvRefIdeal.Value.run m' g'
    rw [Cert.ConvCols.final_o m c]
    funext i
    exact (reference_apply _ _ i).symm
end Cert.ConvCols
end
-- ==== Proof.CompressValue.lean ====
module
public import proofs.«01_k».proof.Proof.Gen.CompressIdeal.Value
public import Idealize.ShloMosaic.Lib.Pipeline.ValueKit
public import Idealize.ShloMosaic.Lib.WholeRead
public import Idealize.ShloMosaic.Lib.Claim
public import Idealize.ShloMosaic.Lib.Pointwise
@[expose] public section
noncomputable section
/-! The compressed keys and values at the ideal instance: what the kernel leaves in its result array. -/
namespace Cert.CompressCols
open Idealize.ShloMosaic Idealize.ShloMosaic.TcCoe Idealize.SL.Sem
open Cert.CompressIdeal Cert.CompressIdeal.Gen

/-- An entry of an array of three axes, 0 outside it. -/
def rd {A B C : Nat} (X : (⟨3, ![A, B, C]⟩ : Shape).Idx → EReal) (a b c : Nat) : EReal :=
  if h : a < A ∧ b < B ∧ c < C then X (ix3 ⟨a, h.1⟩ ⟨b, h.2.1⟩ ⟨c, h.2.2⟩) else 0

theorem rd_eq {A B C : Nat} (X : (⟨3, ![A, B, C]⟩ : Shape).Idx → EReal) (i : (⟨3, ![A, B, C]⟩ : Shape).Idx) (a b c : Nat)
    (ha : (i 0).val = a) (hb : (i 1).val = b) (hc : (i 2).val = c) : rd X a b c = X i := by
  subst ha hb hc
  unfold rd
  rw [dif_pos ⟨(i 0).isLt, (i 1).isLt, (i 2).isLt⟩]
  refine congrArg X (funext fun n => ?_)
  match n with
  | ⟨0, _⟩ => rfl
  | ⟨1, _⟩ => rfl
  | ⟨2, _⟩ => rfl

theorem rd_at {A B C : Nat} (X : (⟨3, ![A, B, C]⟩ : Shape).Idx → EReal) (a b c : Nat) (ha : a < A) (hb : b < B) (hc : c < C) :
    rd X a b c = X (ix3 ⟨a, ha⟩ ⟨b, hb⟩ ⟨c, hc⟩) := dif_pos ⟨ha, hb, hc⟩

/-- One position's part of a block's first product: the token of row `r`, with the position's addend, times the position's weights. -/
def part {A B C A' C' A'' C'' : Nat} (X : (⟨3, ![A, B, C]⟩ : Shape).Idx → EReal) (P : (⟨3, ![A', 32, C']⟩ : Shape).Idx → EReal)
    (W : (⟨3, ![A'', 4096, C'']⟩ : Shape).Idx → EReal) (b kv col d r n : Nat) : EReal :=
  ∑ k : Fin 128, (rd X b r (col + k.val) + rd P kv n k.val) * rd W kv (n * 128 + k.val) d

section
variable (c : Dev nD) (arg3 : Memref sig .tc .vmem S1x8192x128 .f32) (harg3 : arg3.IsWhole) (arg4 : Memref sig .tc .vmem S1x32x128 .f32) (harg4 : arg4.IsWhole)
  (arg5 : Memref sig .tc .vmem S1x4096x128 .bf16) (harg5 : arg5.IsWhole)
  (x0 : Vec Ideal S1x8192x128 .f32) (x1 : Vec Ideal S1x32x128 .f32) (x2 : Vec Ideal S1x4096x128 .bf16)

theorem read_token (l : Nat) (inb) (p : Fin 512) (k : Fin 128) :
    View.readAt (Elt Ideal) arg3.view { off := ![0, l, 0], size := ![1, 512, 128], stride := ![1, 16, 1], inb := inb } (harg3.unread x0) (ix3 0 p k)
      = rd x0 0 (p.val * 16 + l) (0 + k.val) := by
  rw [harg3.readAt_unread]
  refine (rd_eq _ _ _ _ _ ?_ ?_ ?_).symm
  · rfl
  · show l + 16 * p.val = _
    omega
  · show 0 + 1 * k.val = _
    omega
theorem read_addend (n : Nat) (inb) (k : Fin 128) :
    View.readAt (Elt Ideal) arg4.view (Rect.unit (s := S1x32x128) ![0, n, 0] S1x1x128.size inb).toLoadRect (harg4.unread x1) (ix3 0 0 k) = rd x1 0 n k.val := by
  rw [harg4.readAt_unread]
  refine (rd_eq _ _ _ _ _ ?_ ?_ ?_).symm
  · rfl
  · show n + 1 * 0 = _
    omega
  · show 0 + 1 * k.val = _
    omega
theorem read_weight (n : Nat) (inb) (k d : Fin 128) :
    View.readAt (Elt Ideal) arg5.view (Rect.unit (s := S1x4096x128) ![0, n, 0] S1x128x128.size inb).toLoadRect (harg5.unread x2) (ix3 0 k d) = rd x2 0 (n + k.val) d.val := by
  rw [harg5.readAt_unread]
  refine (rd_eq _ _ _ _ _ ?_ ?_ ?_).symm
  · rfl
  · show n + 1 * k.val = _
    omega
  · show 0 + 1 * d.val = _
    omega

/-- One position's product, read from the blocks. -/
theorem position_eq (l n o : Nat) (ho : o = n * 128) (i3) (i4) (i5) (p : Fin 512) (d : Fin 128) :
    ∑ k : Fin 128, (View.readAt (Elt Ideal) arg3.view { off := ![0, l, 0], size := ![1, 512, 128], stride := ![1, 16, 1], inb := i3 } (harg3.unread x0) (ix3 0 p k)
        + View.readAt (Elt Ideal) arg4.view (Rect.unit (s := S1x32x128) ![0, n, 0] S1x1x128.size i4).toLoadRect (harg4.unread x1) (ix3 0 0 k))
        * View.readAt (Elt Ideal) arg5.view (Rect.unit (s := S1x4096x128) ![0, o, 0] S1x128x128.size i5).toLoadRect (harg5.unread x2) (ix3 0 k d)
      = part x0 x1 x2 0 0 0 d.val (p.val * 16 + l) n := by
  subst ho
  exact Finset.sum_congr rfl fun k _ => congrArg₂ (· * ·)
    (congrArg₂ (· + ·) (read_token arg3 harg3 x0 l i3 p k) (read_addend arg4 harg4 x1 n i4 k)) (read_weight arg5 harg5 x2 (n * 128) i5 k d)

/-- The first half of a block's first product. -/
theorem low_eq (p : Fin 512) (d : Fin 128) :
    kernelRun0_A.sl.r_32 c arg3 harg3 arg4 harg4 arg5 harg5 x0 x1 x2 (ix2 p d) = ∑ l ∈ Finset.range 16, part x0 x1 x2 0 0 0 d.val (p.val * 16 + l) l := by
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33]
  pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44]
  simp only [Finset.sum_range_succ, Finset.sum_range_zero, zero_add]
  iterate 15 refine congrArg₂ (· + ·) ?_ (position_eq arg3 harg3 arg4 harg4 arg5 harg5 x0 x1 x2 _ _ _ rfl _ _ _ p d)
  exact position_eq arg3 harg3 arg4 harg4 arg5 harg5 x0 x1 x2 _ _ _ rfl _ _ _ p d

/-- The second half, of the block one stride before. -/
theorem high_eq (p : Fin 512) (d : Fin 128) :
    kernelRun0_A.sl.r_33 c arg3 harg3 arg4 harg4 arg5 harg5 x0 x1 x2 (ix2 p d) = ∑ l ∈ Finset.range 16, part x0 x1 x2 0 0 0 d.val (p.val * 16 + l) (16 + l) := by
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33]
  pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44]
  simp only [Finset.sum_range_succ, Finset.sum_range_zero, zero_add]
  iterate 15 refine congrArg₂ (· + ·) ?_ (position_eq arg3 harg3 arg4 harg4 arg5 harg5 x0 x1 x2 _ _ _ rfl _ _ _ p d)
  exact position_eq arg3 harg3 arg4 harg4 arg5 harg5 x0 x1 x2 _ _ _ rfl _ _ _ p d
end

/-- The first product of block `p`: over its 32 tokens. -/
def hidden {A B C A' C' A'' C'' : Nat} (X : (⟨3, ![A, B, C]⟩ : Shape).Idx → EReal) (P : (⟨3, ![A', 32, C']⟩ : Shape).Idx → EReal)
    (W : (⟨3, ![A'', 4096, C'']⟩ : Shape).Idx → EReal) (b kv col p j : Nat) : EReal :=
  ∑ n ∈ Finset.range 32, part X P W b kv col j (p * 16 + n) n

/-- The entry of column `d` of block `p`: 0 for the last row, which no block fills. -/
def entry {A B C A' C' A'' C'' D E : Nat} (X : (⟨3, ![A, B, C]⟩ : Shape).Idx → EReal) (P : (⟨3, ![A', 32, C']⟩ : Shape).Idx → EReal)
    (W : (⟨3, ![A'', 4096, C'']⟩ : Shape).Idx → EReal) (V : (⟨3, ![D, 128, E]⟩ : Shape).Idx → EReal) (b kv col p d : Nat) : EReal :=
  if p < 511 then ∑ j : Fin 128, hidden X P W b kv col p j.val * Ideal.logistic (hidden X P W b kv col p j.val) * rd V kv j.val d else 0

theorem slt_511 (p : Fin 512) : IntOp.cmpi .slt (BitVec.ofNat 32 p.val) 511#32 = if p.val < 511 then 1#1 else 0#1 := by
  revert p
  decide +kernel

theorem halves_eq {A B C A' C' A'' C'' : Nat} (X : (⟨3, ![A, B, C]⟩ : Shape).Idx → EReal) (P : (⟨3, ![A', 32, C']⟩ : Shape).Idx → EReal)
    (W : (⟨3, ![A'', 4096, C'']⟩ : Shape).Idx → EReal) (b kv col p j : Nat) :
    ∑ l ∈ Finset.range 16, part X P W b kv col j (p * 16 + l) l + ∑ l ∈ Finset.range 16, part X P W b kv col j ((p + 1) * 16 + l) (16 + l)
      = hidden X P W b kv col p j := by
  unfold hidden
  rw [show (32 : Nat) = 16 + 16 from rfl, Finset.sum_range_add]
  refine congrArg₂ (· + ·) rfl (Finset.sum_congr rfl fun l _ => ?_)
  rw [show (p + 1) * 16 + l = p * 16 + (16 + l) by omega]

theorem pay1_apply (u v : FVec Ideal S512x128 .f32) (w : Vec Ideal S1x128x128 .bf16) (p : Fin 512) (d : Fin 128) :
    k0_pay1 (F := Ideal) u v (511#32) w (ix5 0 0 0 p d) = if h : p.val < 511 then ∑ j : Fin 128, (u (ix2 p j) + v (ix2 ⟨p.val + 1, by omega⟩ j)) * Ideal.logistic (u (ix2 p j) + v (ix2 ⟨p.val + 1, by omega⟩ j)) * w (ix3 0 j d) else 0 := by
  pointwise [k0_pay1]
  rw [slt_511]
  by_cases h : p.val < 511
  · rw [if_pos h, dif_pos h]
    have hq : ∀ hp, (⟨(p.val + 512 - 511) % 512, hp⟩ : Fin 512) = ⟨p.val + 1, Nat.succ_lt_succ h⟩ := fun hp =>
      Fin.ext (show (p.val + 512 - 511) % 512 = p.val + 1 by omega)
    simp only [hq]
    rfl
  · rw [if_neg h, dif_neg h]
    rfl

section
variable (c : Dev nD) (i : grid0.Coords) (arg3 : Memref sig .tc .vmem S1x8192x128 .f32) (harg3 : arg3.IsWhole) (arg4 : Memref sig .tc .vmem S1x32x128 .f32) (harg4 : arg4.IsWhole)
  (arg5 : Memref sig .tc .vmem S1x4096x128 .bf16) (harg5 : arg5.IsWhole) (arg6 : Memref sig .tc .vmem S1x128x128 .bf16) (harg6 : arg6.IsWhole)
  (x0 : Vec Ideal S1x8192x128 .f32) (x1 : Vec Ideal S1x32x128 .f32) (x2 : Vec Ideal S1x4096x128 .bf16) (x3 : Vec Ideal S1x128x128 .bf16)

theorem pay1_run (p : Fin 512) (d : Fin 128) (inb) :
    k0_pay1 (F := Ideal) (kernelRun0_A.sl.r_32 c arg3 harg3 arg4 harg4 arg5 harg5 x0 x1 x2) (kernelRun0_A.sl.r_33 c arg3 harg3 arg4 harg4 arg5 harg5 x0 x1 x2) (511#32)
      (View.readAt (Elt Ideal) arg6.view (Rect.unit (s := S1x128x128) ![0, 0, 0] S1x128x128.size inb).toLoadRect (harg6.unread x3)) (ix5 0 0 0 p d)
      = entry x0 x1 x2 x3 0 0 0 p.val d.val := by
  rw [pay1_apply]
  unfold entry
  by_cases h : p.val < 511
  · rw [dif_pos h, if_pos h]
    refine Finset.sum_congr rfl fun j _ => ?_
    rw [low_eq, high_eq, halves_eq, harg6.readAt_unread]
    refine congrArg₂ (· * ·) rfl (rd_eq _ _ _ _ _ ?_ ?_ ?_).symm
    · rfl
    · show 0 + 1 * j.val = _
      omega
    · show 0 + 1 * d.val = _
      omega
  · rw [dif_neg h, if_neg h]

end
/-- Equal tokens, addends and weights give an equal entry. -/
theorem entry_congr {A B C A' C' A'' C'' D E : Nat} {X : (⟨3, ![A, B, C]⟩ : Shape).Idx → EReal} {P : (⟨3, ![A', 32, C']⟩ : Shape).Idx → EReal}
    {W : (⟨3, ![A'', 4096, C'']⟩ : Shape).Idx → EReal} {V : (⟨3, ![D, 128, E]⟩ : Shape).Idx → EReal}
    {a b e a' e' a'' e'' u v : Nat} {X' : (⟨3, ![a, b, e]⟩ : Shape).Idx → EReal} {P' : (⟨3, ![a', 32, e']⟩ : Shape).Idx → EReal}
    {W' : (⟨3, ![a'', 4096, e'']⟩ : Shape).Idx → EReal} {V' : (⟨3, ![u, 128, v]⟩ : Shape).Idx → EReal} {b₁ kv₁ col₁ b₂ kv₂ col₂ p d : Nat}
    (hX : ∀ r < 8192, ∀ k < 128, rd X b₁ r (col₁ + k) = rd X' b₂ r (col₂ + k)) (hP : ∀ n < 32, ∀ k < 128, rd P kv₁ n k = rd P' kv₂ n k)
    (hW : ∀ n < 4096, ∀ j < 128, rd W kv₁ n j = rd W' kv₂ n j) (hV : ∀ j < 128, rd V kv₁ j d = rd V' kv₂ j d) :
    entry X P W V b₁ kv₁ col₁ p d = entry X' P' W' V' b₂ kv₂ col₂ p d := by
  unfold entry
  by_cases h : p < 511
  · rw [if_pos h, if_pos h]
    refine Finset.sum_congr rfl fun j _ => ?_
    have hh : hidden X P W b₁ kv₁ col₁ p j.val = hidden X' P' W' b₂ kv₂ col₂ p j.val := by
      refine Finset.sum_congr rfl fun n hn => Finset.sum_congr rfl fun k _ => ?_
      have hn' : n < 32 := Finset.mem_range.mp hn
      have hk := k.isLt
      rw [hX _ (by omega) k.val hk, hP n hn' k.val hk, hW _ (by omega) j.val j.isLt]
    rw [hh, hV j.val j.isLt]
  · rw [if_neg h, if_neg h]

variable (m : (ℓ : Loc nD τ sig) → Buf (Elt Ideal) ℓ) (ρ : Dev nD → PrngReg)

theorem outs_apply (c : Dev nD) (t : Fin cfg0.N) (p : Fin 512) (d : Fin 128) :
    outsAt0 m c t (ix5 0 0 0 p d) = entry (iblk m c 0 t) (iblk m c 1 t) (iblk m c 2 t) (iblk m c 3 t) 0 0 0 p.val d.val := by
  unfold outsAt0 out0_A_4
  rw [View.read_writes_eq_canon _ _ _ (cover0_A_4 c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) (iblk m c 3 t))]
  unfold kernelRun0_A
  dsimp only
  rw [View.canon_unit_zero (by decide) _ _]
  exact pay1_run c _ _ _ _ _ _ _ _ _ _ _ _ p d _

theorem index0 : ∀ t : Fin cfg0.N, win0_0.index t = ![t.val / 8, 0, t.val % 8] := (by decide +kernel : ∀ t : Fin grid0.N, _)
theorem index1 : ∀ t : Fin cfg0.N, win0_1.index t = ![t.val / 4 % 2, 0, 0] := (by decide +kernel : ∀ t : Fin grid0.N, _)
theorem index2 : ∀ t : Fin cfg0.N, win0_2.index t = ![t.val / 4 % 2, 0, 0] := (by decide +kernel : ∀ t : Fin grid0.N, _)
theorem index3 : ∀ t : Fin cfg0.N, win0_3.index t = ![t.val / 4 % 2, 0, 0] := (by decide +kernel : ∀ t : Fin grid0.N, _)
theorem index4 : ∀ t : Fin cfg0.N, win0_4.index t = ![t.val / 8, t.val / 4 % 2, t.val % 4, 0, 0] := (by decide +kernel : ∀ t : Fin grid0.N, _)

theorem read0 (c : Dev nD) (t : Fin cfg0.N) (r k : Nat) (hr : r < 8192) (hk : k < 128) :
    rd (iblk m c 0 t) 0 r (0 + k) = rd (m ((c : Thread nD τ).loc main_arg0)) (t.val / 8) r (t.val % 8 * 128 + k) := by
  have ht : t.val < 16 := t.isLt
  rw [Nat.zero_add, rd_at (iblk m c 0 t) 0 r k (by omega) hr hk,
    rd_at (m ((c : Thread nD τ).loc main_arg0)) (t.val / 8) r (t.val % 8 * 128 + k) (by omega) hr (by omega)]
  refine Eq.trans ?_ (congrFun (V_main_arg0 m c) _)
  blk_simp [iblk]
  refine congrArg (V m c main_arg0) ?_
  blk_ext [index0]
theorem read1 (c : Dev nD) (t : Fin cfg0.N) (n k : Nat) (hn : n < 32) (hk : k < 128) :
    rd (iblk m c 1 t) 0 n k = rd (m ((c : Thread nD τ).loc main_arg1)) (t.val / 4 % 2) n k := by
  rw [rd_at (iblk m c 1 t) 0 n k (by omega) hn hk,
    rd_at (m ((c : Thread nD τ).loc main_arg1)) (t.val / 4 % 2) n k (by omega) hn hk]
  refine Eq.trans ?_ (congrFun (V_main_arg1 m c) _)
  blk_simp [iblk]
  refine congrArg (V m c main_arg1) ?_
  blk_ext [index1]
theorem read2 (c : Dev nD) (t : Fin cfg0.N) (n k : Nat) (hn : n < 4096) (hk : k < 128) :
    rd (iblk m c 2 t) 0 n k = rd (m ((c : Thread nD τ).loc main_arg2)) (t.val / 4 % 2) n k := by
  rw [rd_at (iblk m c 2 t) 0 n k (by omega) hn hk,
    rd_at (m ((c : Thread nD τ).loc main_arg2)) (t.val / 4 % 2) n k (by omega) hn hk]
  refine Eq.trans ?_ (congrFun (V_main_arg2 m c) _)
  blk_simp [iblk]
  refine congrArg (V m c main_arg2) ?_
  blk_ext [index2]
theorem read3 (c : Dev nD) (t : Fin cfg0.N) (n k : Nat) (hn : n < 128) (hk : k < 128) :
    rd (iblk m c 3 t) 0 n k = rd (m ((c : Thread nD τ).loc main_arg3)) (t.val / 4 % 2) n k := by
  rw [rd_at (iblk m c 3 t) 0 n k (by omega) hn hk,
    rd_at (m ((c : Thread nD τ).loc main_arg3)) (t.val / 4 % 2) n k (by omega) hn hk]
  refine Eq.trans ?_ (congrFun (V_main_arg3 m c) _)
  blk_simp [iblk]
  refine congrArg (V m c main_arg3) ?_
  blk_ext [index3]

/-- The compressed keys (first) and values (second) of every batch row and head. -/
def compressed (x : S2x8192x1024.Idx → EReal) (pos : S2x32x128.Idx → EReal) (w : S2x4096x128.Idx → EReal) (v : S2x128x128.Idx → EReal)
    (i : S2x2x4x512x128.Idx) : EReal :=
  entry x pos w v (i 0).val (i 1).val (((i 1).val * 4 + (i 2).val) * 128) (i 3).val (i 4).val

/-- The block of the result a grid point leaves. -/
theorem out_apply (c : Dev nD) (t : Fin cfg0.N) (y : S1x1x1x512x128.Idx) (i : S2x2x4x512x128.Idx)
    (h0 : (i 0).val = t.val / 8 + (y 0).val) (h1 : (i 1).val = t.val / 4 % 2 + (y 1).val) (h2 : (i 2).val = t.val % 4 + (y 2).val)
    (h3 : (i 3).val = (y 3).val) (h4 : (i 4).val = (y 4).val) :
    outsAt0 m c t y = compressed (m ((c : Thread nD τ).loc main_arg0)) (m ((c : Thread nD τ).loc main_arg1)) (m ((c : Thread nD τ).loc main_arg2)) (m ((c : Thread nD τ).loc main_arg3)) i := by
  have hy0 : (y 0).val < 1 := (y 0).isLt
  have hy1 : (y 1).val < 1 := (y 1).isLt
  have hy2 : (y 2).val < 1 := (y 2).isLt
  have hd : (y 4).val < 128 := (y 4).isLt
  have hp : (y 3).val < 512 := (y 3).isLt
  have hy : y = ix5 0 0 0 (⟨(y 3).val, hp⟩ : Fin 512) (⟨(y 4).val, hd⟩ : Fin 128) := by
    funext a
    match a with
    | ⟨0, _⟩ => exact Fin.ext (show (y 0).val = 0 by omega)
    | ⟨1, _⟩ => exact Fin.ext (show (y 1).val = 0 by omega)
    | ⟨2, _⟩ => exact Fin.ext (show (y 2).val = 0 by omega)
    | ⟨3, _⟩ => rfl
    | ⟨4, _⟩ => rfl
  rw [hy, outs_apply]
  unfold compressed
  rw [show (i 0).val = t.val / 8 by omega, show ((i 1).val * 4 + (i 2).val) * 128 = t.val % 8 * 128 by omega, show (i 1).val = t.val / 4 % 2 by omega, h3, h4]
  exact entry_congr (fun r hr k hk => read0 m c t r k hr hk) (fun n hn k hk => read1 m c t n k hn hk) (fun n hn k hk => read2 m c t n k hn hk) (fun j hj => read3 m c t j _ hj hd)

/-- The kernel's result array. -/
theorem final_o (c : Dev nD) : (dats m 0 c).arrAt 4 cfg0.N = compressed (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  refine out_apply m c t y _ ?_ ?_ ?_ ?_ ?_ <;> blk_simp [index4]
end Cert.CompressCols
end
-- ==== Proof.CompressRef.lean ====
module
public import proofs.«01_k».proof.Defs
public import proofs.«01_k».proof.Proof.CompressValue
public import proofs.«01_k».proof.Proof.Gen.CompressRefIdeal.Read
public import proofs.«01_k».proof.Proof.Gen.CompressRefIdeal.Run
public import Idealize.ShloMosaic.Lib.KernelVsHost
@[expose] public section
noncomputable section
/-! The compressed keys and values: the reference's result, and the two programs' agreement. -/
namespace Cert.CompressCols
open Idealize.ShloMosaic Idealize.ShloMosaic.TcCoe Idealize.SL.Sem
open Cert.CompressRefIdeal Cert.CompressRefIdeal.Read

/-- The gather of the blocks' tokens, at an index: the operand at the clamped row. -/
theorem tokens_apply (x : S2x8192x4x128.Idx → EReal) (idx : IVec S511x32x1 32) (y : S2x511x32x4x128.Idx) (r : Fin 8192)
    (hr : r.val = min (idx (ix3 (y 1) (y 2) 0)).toInt.toNat 8191) :
    Host.gather gather_S2x8192x4x128_S511x32x1_S2x511x32x4x128_034_1_n_n_1_2_214128 x idx y = x (ix4 (y 0) r (y 3) (y 4)) := by
  unfold Host.gather
  refine congrArg x (funext fun a => Fin.ext ?_)
  match a with
  | ⟨0, _⟩ =>
    show GatherDims.start _ y idx 0 + GatherDims.batchCoord _ y 0 + GatherDims.offCoord _ y 0 = _
    rw [GatherDims.batchCoord_eq_zero _ _ _ List.not_mem_nil]
    unfold GatherDims.start
    rw [dif_neg (by decide)]
    simp only [Nat.add_zero, Nat.zero_add]
    rfl
  | ⟨1, _⟩ =>
    show GatherDims.start _ y idx 1 + GatherDims.batchCoord _ y 1 + GatherDims.offCoord _ y 1 = r.val
    rw [GatherDims.batchCoord_eq_zero _ _ _ List.not_mem_nil,
      GatherDims.offCoord_eq_zero _ _ _ (fun h => ((GatherDims.mem_sKept _ _).mp h).1 (List.mem_singleton.mpr rfl)), hr]
    simp only [Nat.add_zero]
    unfold GatherDims.start
    rw [dif_pos (by decide)]
    refine congrArg (fun z => min (idx z).toInt.toNat 8191) (funext fun b => Fin.ext ?_)
    match b with
    | ⟨0, _⟩ => rfl
    | ⟨1, _⟩ => rfl
    | ⟨2, _⟩ => rfl
  | ⟨2, _⟩ =>
    show GatherDims.start _ y idx 2 + GatherDims.batchCoord _ y 2 + GatherDims.offCoord _ y 2 = _
    rw [GatherDims.batchCoord_eq_zero _ _ _ List.not_mem_nil]
    unfold GatherDims.start
    rw [dif_neg (by decide)]
    simp only [Nat.add_zero, Nat.zero_add]
    rfl
  | ⟨3, _⟩ =>
    show GatherDims.start _ y idx 3 + GatherDims.batchCoord _ y 3 + GatherDims.offCoord _ y 3 = _
    rw [GatherDims.batchCoord_eq_zero _ _ _ List.not_mem_nil]
    unfold GatherDims.start
    rw [dif_neg (by decide)]
    simp only [Nat.add_zero, Nat.zero_add]
    rfl

theorem one_bits : Ideal.ofBits .f32 0x3F800000#32 = 1 := by
  simp [Ideal.ofBits, Ideal.ieee, -EReal.coe_mul]
  norm_num

theorem sum_split (f : Nat → Nat → EReal) :
    ∑ e : Fin 4096, f (e.val / 128) (e.val % 128) = ∑ n ∈ Finset.range 32, ∑ k : Fin 128, f n k.val := by
  rw [Finset.sum_range, ← Fintype.sum_prod_type' (fun (n : Fin 32) (k : Fin 128) => f n.val k.val)]
  refine (Fintype.sum_equiv (finProdFinEquiv (m := 32) (n := 128)) _ _ fun q => ?_).symm
  have hk := q.2.isLt
  show f q.1.val q.2.val = f ((q.2.val + 128 * q.1.val) / 128) ((q.2.val + 128 * q.1.val) % 128)
  rw [show (q.2.val + 128 * q.1.val) / 128 = q.1.val by omega, show (q.2.val + 128 * q.1.val) % 128 = q.2.val by omega]

theorem start_eq : ∀ (p : Fin 511) (l : Fin 32),
    min (Scalar.select (IntOp.cmpi .slt (IntOp.addi (IntOp.muli (BitVec.ofNat 32 p.val) 16#32) (BitVec.ofNat 32 l.val)) 0#32)
      (IntOp.addi (IntOp.addi (IntOp.muli (BitVec.ofNat 32 p.val) 16#32) (BitVec.ofNat 32 l.val)) 8192#32)
      (IntOp.addi (IntOp.muli (BitVec.ofNat 32 p.val) 16#32) (BitVec.ofNat 32 l.val))).toInt.toNat 8191 = p.val * 16 + l.val := by
  decide +kernel

theorem key_start (p : Fin 511) (l : Fin 32) : min (val_main_v22 (F := Ideal) (ix3 p l 0)).toInt.toNat 8191 = p.val * 16 + l.val := by
  rw [← start_eq p l]
  simp only [val_main_v22_apply, val_main_v21_apply, val_main_v20_apply, val_main_v19_apply, val_main_c_1_apply, val_main_v18_apply, val_main_v17_apply, val_main_c_0_apply, val_main_v16_apply, val_main_v15_apply, val_main_v14_apply, val_main_v13_apply, val_main_v12_apply, val_main_v11_apply, val_main_v10_apply, val_main_c_apply, val_main_v9_apply, val_main_v8_apply]
  rfl

theorem key_tokens (x : S2x8192x1024.Idx → EReal) (b : Fin 2) (p : Fin 511) (l : Fin 32) (h : Fin 4) (k : Fin 128) :
    val_main_v23 (F := Ideal) x (ix5 b p l h k) = rd x b.val (p.val * 16 + l.val) ((0 * 4 + h.val) * 128 + k.val) := by
  have hb := b.isLt
  have hp := p.isLt
  have hl := l.isLt
  have hh := h.isLt
  have hk := k.isLt
  unfold val_main_v23
  refine Eq.trans (tokens_apply _ (val_main_v22 (F := Ideal)) (ix5 b p l h k) (⟨p.val * 16 + l.val, by omega⟩ : Fin 8192) (key_start p l).symm) ?_
  rw [val_main_v1_apply, val_main_v0_apply]
  refine (rd_eq _ _ _ _ _ ?_ ?_ ?_).symm
  · show (((b.val * 8192 + (p.val * 16 + l.val)) * 8 + h.val) * 128 + k.val) / 8388608 = b.val
    omega
  · show (((b.val * 8192 + (p.val * 16 + l.val)) * 8 + h.val) * 128 + k.val) / 1024 % 8192 = _
    omega
  · show (((b.val * 8192 + (p.val * 16 + l.val)) * 8 + h.val) * 128 + k.val) % 1024 = _
    omega

/-- The reference's first product. -/
theorem key_hidden (x : S2x8192x1024.Idx → EReal) (pos : S2x32x128.Idx → EReal) (w : S2x4096x128.Idx → EReal) (i : S2x511x4x128.Idx) :
    val_main_v31 (F := Ideal) x pos w i = hidden x pos w (i 0).val 0 ((0 * 4 + (i 2).val) * 128) (i 1).val (i 3).val := by
  rw [val_main_v31_apply]
  unfold hidden part
  rw [← sum_split (fun n k => (rd x (i 0).val ((i 1).val * 16 + n) ((0 * 4 + (i 2).val) * 128 + k) + rd pos 0 n k) * rd w 0 (n * 128 + k) (i 3).val)]
  have h0 : (i 0).val < 2 := (i 0).isLt
  have h1 : (i 1).val < 511 := (i 1).isLt
  have h2 : (i 2).val < 4 := (i 2).isLt
  have h3 : (i 3).val < 128 := (i 3).isLt
  refine Finset.sum_congr rfl fun e _ => ?_
  have he := e.isLt
  refine congrArg₂ (· * ·) ?_ ?_
  · rw [val_main_v29_apply, val_main_v28_apply, val_main_v27_apply]
    refine congrArg₂ (· + ·) ?_ ?_
    · refine Eq.trans (congrArg (val_main_v23 (F := Ideal) x) (funext fun a => Fin.ext ?_))
        (key_tokens x ⟨(i 0).val, h0⟩ ⟨(i 1).val, h1⟩ ⟨e.val / 128, by omega⟩ ⟨(i 2).val, h2⟩ ⟨e.val % 128, by omega⟩)
      match a with
      | ⟨0, _⟩ => show ((((i 0).val * 511 + (i 1).val) * 4 + (i 2).val) * 4096 + e.val) / 8372224 = (i 0).val; omega
      | ⟨1, _⟩ => show ((((i 0).val * 511 + (i 1).val) * 4 + (i 2).val) * 4096 + e.val) / 16384 % 511 = (i 1).val; omega
      | ⟨2, _⟩ => show ((((i 0).val * 511 + (i 1).val) * 4 + (i 2).val) * 4096 + e.val) / 128 % 32 = e.val / 128; omega
      | ⟨3, _⟩ => show ((((i 0).val * 511 + (i 1).val) * 4 + (i 2).val) * 4096 + e.val) / 4096 % 4 = (i 2).val; omega
      | ⟨4, _⟩ => show ((((i 0).val * 511 + (i 1).val) * 4 + (i 2).val) * 4096 + e.val) % 128 = e.val % 128; omega
    · rw [val_main_v26_apply, val_main_v25_apply, val_main_v24_apply, val_main_v3_apply, val_main_v2_apply]
      refine (rd_eq _ _ _ _ _ ?_ ?_ ?_).symm
      · rfl
      · show (((((i 0).val * 511 + (i 1).val) * 4 + (i 2).val) * 4096 + e.val) / 128 % 32 * 128 + ((((i 0).val * 511 + (i 1).val) * 4 + (i 2).val) * 4096 + e.val) % 128) / 128 % 32 = e.val / 128
        omega
      · show (((((i 0).val * 511 + (i 1).val) * 4 + (i 2).val) * 4096 + e.val) / 128 % 32 * 128 + ((((i 0).val * 511 + (i 1).val) * 4 + (i 2).val) * 4096 + e.val) % 128) % 128 = e.val % 128
        omega
  · rw [val_main_v30_apply, val_main_v5_apply, val_main_v4_apply]
    show w _ = _
    refine (rd_eq _ _ _ _ _ ?_ ?_ ?_).symm
    · rfl
    · show (e.val * 128 + (i 3).val) / 128 % 4096 = e.val / 128 * 128 + e.val % 128
      omega
    · show (e.val * 128 + (i 3).val) % 128 = (i 3).val
      omega

/-- The reference's entry of a block. -/
theorem key_out (x : S2x8192x1024.Idx → EReal) (pos : S2x32x128.Idx → EReal) (w : S2x4096x128.Idx → EReal) (v : S2x128x128.Idx → EReal)
    (i : S2x511x4x128.Idx) :
    val_main_v34 (F := Ideal) x pos w v i = entry x pos w v (i 0).val 0 ((0 * 4 + (i 2).val) * 128) (i 1).val (i 3).val := by
  have h1 : (i 1).val < 511 := (i 1).isLt
  have h3 : (i 3).val < 128 := (i 3).isLt
  rw [val_main_v34_apply]
  unfold entry
  rw [if_pos h1]
  refine Finset.sum_congr rfl fun j _ => ?_
  have hj := j.isLt
  refine congrArg₂ (· * ·) ?_ ?_
  · rw [← key_hidden x pos w (lidx_main_v34 i j)]
    rw [val_main_v32_apply]
    refine congrArg₂ (· * ·) rfl ?_
    rw [val_main_call0_v5_apply, val_main_call0_v4_apply, val_main_call0_cst_0_apply, val_main_call0_v3_apply, val_main_call0_v2_apply, val_main_call0_cst_apply, val_main_call0_v1_apply, val_main_call0_v0_apply]
    show Ideal.div (Ideal.ofBits .f32 0x3F800000#32) (Ideal.ofBits .f32 0x3F800000#32 + Ideal.exp (-_)) = _
    rw [one_bits]
    rfl
  · rw [val_main_v33_apply, val_main_v7_apply, val_main_v6_apply]
    show v _ = _
    refine (rd_eq _ _ _ _ _ ?_ ?_ ?_).symm
    · rfl
    · show (j.val * 128 + (i 3).val) / 128 % 128 = j.val
      omega
    · show (j.val * 128 + (i 3).val) % 128 = (i 3).val
      omega

/-- The reference's entries with the empty last row. -/
theorem key_padded (x : S2x8192x1024.Idx → EReal) (pos : S2x32x128.Idx → EReal) (w : S2x4096x128.Idx → EReal) (v : S2x128x128.Idx → EReal)
    (i : S2x4x512x128.Idx) :
    val_main_v36 (F := Ideal) x pos w v i = entry x pos w v (i 0).val 0 ((0 * 4 + (i 1).val) * 128) (i 2).val (i 3).val := by
  unfold val_main_v36
  by_cases h : (i 2).val < 511
  · refine Eq.trans (pad_apply_of_inside (s := S2x4x511x128) (t := S2x4x512x128) ![0, 0, 0, 0] ![0, 0, 1, 0] ![0, 0, 0, 0] _ _ _ _ i
      (ix4 (i 0) (i 1) (⟨(i 2).val, h⟩ : Fin 511) (i 3)) (fun a => ?_)) ?_
    · match a with
      | ⟨0, _⟩ => show (i 0).val = 0 + (i 0).val * (0 + 1); omega
      | ⟨1, _⟩ => show (i 1).val = 0 + (i 1).val * (0 + 1); omega
      | ⟨2, _⟩ => show (i 2).val = 0 + (i 2).val * (0 + 1); omega
      | ⟨3, _⟩ => show (i 3).val = 0 + (i 3).val * (0 + 1); omega
    · rw [val_main_v35_apply, key_out]
      rfl
  · refine Eq.trans (pad_apply_of_not_inside (s := S2x4x511x128) (t := S2x4x512x128) ![0, 0, 0, 0] ![0, 0, 1, 0] ![0, 0, 0, 0] _ _ _ _ i 2 (fun hin => h ?_)) ?_
    · have h2 : ((i 2).val - 0) / (0 + 1) < 511 := hin.2.2
      omega
    · unfold entry
      rw [if_neg h]
      show ((((0#32 : BitVec 32).toInt : ℝ)) : EReal) = 0
      simp

theorem value_start (p : Fin 511) (l : Fin 32) : min (val_main_v58 (F := Ideal) (ix3 p l 0)).toInt.toNat 8191 = p.val * 16 + l.val := by
  rw [← start_eq p l]
  simp only [val_main_v58_apply, val_main_v57_apply, val_main_v56_apply, val_main_v55_apply, val_main_c_5_apply, val_main_v54_apply, val_main_v53_apply, val_main_c_4_apply, val_main_v52_apply, val_main_v51_apply, val_main_v50_apply, val_main_v49_apply, val_main_v48_apply, val_main_v47_apply, val_main_v46_apply, val_main_c_3_apply, val_main_v45_apply, val_main_v44_apply]
  rfl

theorem value_tokens (x : S2x8192x1024.Idx → EReal) (b : Fin 2) (p : Fin 511) (l : Fin 32) (h : Fin 4) (k : Fin 128) :
    val_main_v59 (F := Ideal) x (ix5 b p l h k) = rd x b.val (p.val * 16 + l.val) ((1 * 4 + h.val) * 128 + k.val) := by
  have hb := b.isLt
  have hp := p.isLt
  have hl := l.isLt
  have hh := h.isLt
  have hk := k.isLt
  unfold val_main_v59
  refine Eq.trans (tokens_apply _ (val_main_v58 (F := Ideal)) (ix5 b p l h k) (⟨p.val * 16 + l.val, by omega⟩ : Fin 8192) (value_start p l).symm) ?_
  rw [val_main_v37_apply, val_main_v0_apply]
  refine (rd_eq _ _ _ _ _ ?_ ?_ ?_).symm
  · show (((b.val * 8192 + (p.val * 16 + l.val)) * 8 + (4 + h.val)) * 128 + k.val) / 8388608 = b.val
    omega
  · show (((b.val * 8192 + (p.val * 16 + l.val)) * 8 + (4 + h.val)) * 128 + k.val) / 1024 % 8192 = _
    omega
  · show (((b.val * 8192 + (p.val * 16 + l.val)) * 8 + (4 + h.val)) * 128 + k.val) % 1024 = _
    omega

/-- The reference's first product. -/
theorem value_hidden (x : S2x8192x1024.Idx → EReal) (pos : S2x32x128.Idx → EReal) (w : S2x4096x128.Idx → EReal) (i : S2x511x4x128.Idx) :
    val_main_v67 (F := Ideal) x pos w i = hidden x pos w (i 0).val 1 ((1 * 4 + (i 2).val) * 128) (i 1).val (i 3).val := by
  rw [val_main_v67_apply]
  unfold hidden part
  rw [← sum_split (fun n k => (rd x (i 0).val ((i 1).val * 16 + n) ((1 * 4 + (i 2).val) * 128 + k) + rd pos 1 n k) * rd w 1 (n * 128 + k) (i 3).val)]
  have h0 : (i 0).val < 2 := (i 0).isLt
  have h1 : (i 1).val < 511 := (i 1).isLt
  have h2 : (i 2).val < 4 := (i 2).isLt
  have h3 : (i 3).val < 128 := (i 3).isLt
  refine Finset.sum_congr rfl fun e _ => ?_
  have he := e.isLt
  refine congrArg₂ (· * ·) ?_ ?_
  · rw [val_main_v65_apply, val_main_v64_apply, val_main_v63_apply]
    refine congrArg₂ (· + ·) ?_ ?_
    · refine Eq.trans (congrArg (val_main_v59 (F := Ideal) x) (funext fun a => Fin.ext ?_))
        (value_tokens x ⟨(i 0).val, h0⟩ ⟨(i 1).val, h1⟩ ⟨e.val / 128, by omega⟩ ⟨(i 2).val, h2⟩ ⟨e.val % 128, by omega⟩)
      match a with
      | ⟨0, _⟩ => show ((((i 0).val * 511 + (i 1).val) * 4 + (i 2).val) * 4096 + e.val) / 8372224 = (i 0).val; omega
      | ⟨1, _⟩ => show ((((i 0).val * 511 + (i 1).val) * 4 + (i 2).val) * 4096 + e.val) / 16384 % 511 = (i 1).val; omega
      | ⟨2, _⟩ => show ((((i 0).val * 511 + (i 1).val) * 4 + (i 2).val) * 4096 + e.val) / 128 % 32 = e.val / 128; omega
      | ⟨3, _⟩ => show ((((i 0).val * 511 + (i 1).val) * 4 + (i 2).val) * 4096 + e.val) / 4096 % 4 = (i 2).val; omega
      | ⟨4, _⟩ => show ((((i 0).val * 511 + (i 1).val) * 4 + (i 2).val) * 4096 + e.val) % 128 = e.val % 128; omega
    · rw [val_main_v62_apply, val_main_v61_apply, val_main_v60_apply, val_main_v39_apply, val_main_v38_apply]
      refine (rd_eq _ _ _ _ _ ?_ ?_ ?_).symm
      · rfl
      · show (((((i 0).val * 511 + (i 1).val) * 4 + (i 2).val) * 4096 + e.val) / 128 % 32 * 128 + ((((i 0).val * 511 + (i 1).val) * 4 + (i 2).val) * 4096 + e.val) % 128) / 128 % 32 = e.val / 128
        omega
      · show (((((i 0).val * 511 + (i 1).val) * 4 + (i 2).val) * 4096 + e.val) / 128 % 32 * 128 + ((((i 0).val * 511 + (i 1).val) * 4 + (i 2).val) * 4096 + e.val) % 128) % 128 = e.val % 128
        omega
  · rw [val_main_v66_apply, val_main_v41_apply, val_main_v40_apply]
    show w _ = _
    refine (rd_eq _ _ _ _ _ ?_ ?_ ?_).symm
    · rfl
    · show (e.val * 128 + (i 3).val) / 128 % 4096 = e.val / 128 * 128 + e.val % 128
      omega
    · show (e.val * 128 + (i 3).val) % 128 = (i 3).val
      omega

/-- The reference's entry of a block. -/
theorem value_out (x : S2x8192x1024.Idx → EReal) (pos : S2x32x128.Idx → EReal) (w : S2x4096x128.Idx → EReal) (v : S2x128x128.Idx → EReal)
    (i : S2x511x4x128.Idx) :
    val_main_v70 (F := Ideal) x pos w v i = entry x pos w v (i 0).val 1 ((1 * 4 + (i 2).val) * 128) (i 1).val (i 3).val := by
  have h1 : (i 1).val < 511 := (i 1).isLt
  have h3 : (i 3).val < 128 := (i 3).isLt
  rw [val_main_v70_apply]
  unfold entry
  rw [if_pos h1]
  refine Finset.sum_congr rfl fun j _ => ?_
  have hj := j.isLt
  refine congrArg₂ (· * ·) ?_ ?_
  · rw [← value_hidden x pos w (lidx_main_v70 i j)]
    rw [val_main_v68_apply]
    refine congrArg₂ (· * ·) rfl ?_
    rw [val_main_call2_v5_apply, val_main_call2_v4_apply, val_main_call2_cst_0_apply, val_main_call2_v3_apply, val_main_call2_v2_apply, val_main_call2_cst_apply, val_main_call2_v1_apply, val_main_call2_v0_apply]
    show Ideal.div (Ideal.ofBits .f32 0x3F800000#32) (Ideal.ofBits .f32 0x3F800000#32 + Ideal.exp (-_)) = _
    rw [one_bits]
    rfl
  · rw [val_main_v69_apply, val_main_v43_apply, val_main_v42_apply]
    show v _ = _
    refine (rd_eq _ _ _ _ _ ?_ ?_ ?_).symm
    · rfl
    · show (j.val * 128 + (i 3).val) / 128 % 128 = j.val
      omega
    · show (j.val * 128 + (i 3).val) % 128 = (i 3).val
      omega

/-- The reference's entries with the empty last row. -/
theorem value_padded (x : S2x8192x1024.Idx → EReal) (pos : S2x32x128.Idx → EReal) (w : S2x4096x128.Idx → EReal) (v : S2x128x128.Idx → EReal)
    (i : S2x4x512x128.Idx) :
    val_main_v72 (F := Ideal) x pos w v i = entry x pos w v (i 0).val 1 ((1 * 4 + (i 1).val) * 128) (i 2).val (i 3).val := by
  unfold val_main_v72
  by_cases h : (i 2).val < 511
  · refine Eq.trans (pad_apply_of_inside (s := S2x4x511x128) (t := S2x4x512x128) ![0, 0, 0, 0] ![0, 0, 1, 0] ![0, 0, 0, 0] _ _ _ _ i
      (ix4 (i 0) (i 1) (⟨(i 2).val, h⟩ : Fin 511) (i 3)) (fun a => ?_)) ?_
    · match a with
      | ⟨0, _⟩ => show (i 0).val = 0 + (i 0).val * (0 + 1); omega
      | ⟨1, _⟩ => show (i 1).val = 0 + (i 1).val * (0 + 1); omega
      | ⟨2, _⟩ => show (i 2).val = 0 + (i 2).val * (0 + 1); omega
      | ⟨3, _⟩ => show (i 3).val = 0 + (i 3).val * (0 + 1); omega
    · rw [val_main_v71_apply, value_out]
      rfl
  · refine Eq.trans (pad_apply_of_not_inside (s := S2x4x511x128) (t := S2x4x512x128) ![0, 0, 0, 0] ![0, 0, 1, 0] ![0, 0, 0, 0] _ _ _ _ i 2 (fun hin => h ?_)) ?_
    · have h2 : ((i 2).val - 0) / (0 + 1) < 511 := hin.2.2
      omega
    · unfold entry
      rw [if_neg h]
      show ((((0#32 : BitVec 32).toInt : ℝ)) : EReal) = 0
      simp

/-- The reference's result array. -/
theorem reference_apply (x : S2x8192x1024.Idx → EReal) (pos : S2x32x128.Idx → EReal) (w : S2x4096x128.Idx → EReal) (v : S2x128x128.Idx → EReal)
    (i : S2x2x4x512x128.Idx) : val_main_v76 (F := Ideal) x pos w v i = compressed x pos w v i := by
  rw [val_main_v76_apply]
  show val_main_v75 (F := Ideal) x pos w v i = _
  unfold val_main_v75 compressed
  have h1 : (i 1).val < 2 := (i 1).isLt
  by_cases h : (i 1).val = 0
  · rw [concatenate_pair_apply_left (t := S2x2x4x512x128) (s₁ := S2x1x4x512x128) (s₂ := S2x1x4x512x128) (1 : Fin 5) _ _ _ i rfl (ix5 (i 0) (0 : Fin 1) (i 2) (i 3) (i 4)) (fun b => by
      match b with
      | ⟨0, _⟩ => rfl
      | ⟨1, _⟩ => exact h.symm
      | ⟨2, _⟩ => rfl
      | ⟨3, _⟩ => rfl
      | ⟨4, _⟩ => rfl), val_main_v73_apply, key_padded, h]
    rfl
  · have h' : (i 1).val = 1 := by omega
    rw [concatenate_pair_apply_right (t := S2x2x4x512x128) (s₁ := S2x1x4x512x128) (s₂ := S2x1x4x512x128) (1 : Fin 5) _ _ _ i rfl rfl (ix5 (i 0) (0 : Fin 1) (i 2) (i 3) (i 4)) (fun b hb => by
      match b with
      | ⟨0, _⟩ => rfl
      | ⟨1, _⟩ => exact absurd rfl hb
      | ⟨2, _⟩ => rfl
      | ⟨3, _⟩ => rfl
      | ⟨4, _⟩ => rfl) h'.symm, val_main_v74_apply, value_padded, h']
    rfl

/-- At the ideal instance the kernel's compressed keys and values and the reference's agree. -/
theorem algebraic : Cert.algebraic_CompressIdeal_CompressRefIdeal := by
  pair_intro
  · run_from Cert.CompressIdeal.Value.run_blocks m g
  · run_from Cert.CompressRefIdeal.Value.run m' g'
    rw [Cert.CompressCols.final_o m c, val_main_v76_eq, (hagree c).1, (hagree c).2.1, (hagree c).2.2.1, (hagree c).2.2.2]
    funext i
    exact reference_apply _ _ _ _ i
end Cert.CompressCols
end
-- ==== Proof.GluValue.lean ====
module
public import proofs.«01_k».proof.Proof.Gen.GluIdeal.Value
public import proofs.«01_k».proof.Proof.CompressValue
public import Idealize.ShloMosaic.Lib.Pipeline.ValueKit
public import Idealize.ShloMosaic.Lib.WholeRead
public import Idealize.ShloMosaic.Lib.Claim
public import Idealize.ShloMosaic.Lib.Pointwise
@[expose] public section
noncomputable section
/-! The gated convolution at the ideal instance: what the kernel leaves in its result array. -/
namespace Cert.GluCols
open Idealize.ShloMosaic Idealize.ShloMosaic.TcCoe Idealize.SL.Sem
open Cert.GluIdeal Cert.GluIdeal.Gen
open Cert.CompressCols (rd rd_eq rd_at)

/-- The gated product at a row and a column of a pair of blocks: the value times the logistic of the gate. -/
def glu {A : Nat} (v g : (⟨3, ![1, A, 1024]⟩ : Shape).Idx → EReal) (e q : Nat) : EReal :=
  rd v 0 e q * Ideal.logistic (rd g 0 e q)

/-- The 160 rows a step convolves: 32 rows of the block before, 0 at the sequence's first block, then the step's 128 rows. -/
def ext (n : Nat) (x0 x1 : Vec Ideal S1x128x1024 .f32) (x2 x3 : Vec Ideal S1x32x1024 .f32) (e q : Nat) : EReal :=
  if e < 32 then (if 0 < n then glu x2 x3 e q else 0) else glu x0 x1 (e - 32) q

/-- An entry of an array of two axes, 0 outside it. -/
def rd2 {A B : Nat} (X : (⟨2, ![A, B]⟩ : Shape).Idx → EReal) (a b : Nat) : EReal :=
  if h : a < A ∧ b < B then X (ix2 ⟨a, h.1⟩ ⟨b, h.2⟩) else 0

theorem rd2_eq {A B : Nat} (X : (⟨2, ![A, B]⟩ : Shape).Idx → EReal) (i : (⟨2, ![A, B]⟩ : Shape).Idx) (a b : Nat)
    (ha : (i 0).val = a) (hb : (i 1).val = b) : rd2 X a b = X i := by
  subst ha hb
  unfold rd2
  rw [dif_pos ⟨(i 0).isLt, (i 1).isLt⟩]
  refine congrArg X (funext fun n => ?_)
  match n with
  | ⟨0, _⟩ => rfl
  | ⟨1, _⟩ => rfl

/-- The convolution's running sum after `k` taps, at row `p` and column `q`. -/
def acc (n : Nat) (x0 x1 : Vec Ideal S1x128x1024 .f32) (x2 x3 : Vec Ideal S1x32x1024 .f32) (x4 : Vec Ideal S32x1024 .f32)
    (x5 : Vec Ideal S1x1024 .f32) (p q : Nat) : Nat → EReal
  | 0 => rd2 x5 0 q
  | k + 1 => acc n x0 x1 x2 x3 x4 x5 p q k + rd2 x4 k q * ext n x0 x1 x2 x3 (k + 2 + p) q

/-- The mean of a row of 1024 entries, as a sum divided by the width. -/
def mean (f : Fin 1024 → EReal) : EReal := Ideal.div (∑ k : Fin 1024, f k) (Ideal.ofBits .f32 0x44800000#32)

/-- A row's normalised entry times its scale and plus its shift, then times its own logistic. -/
def normed (f : Fin 1024 → EReal) (g b : EReal) (q : Fin 1024) : EReal :=
  (f q - mean f) * Ideal.rsqrt (mean (fun k => (f k - mean f) * (f k - mean f)) + Ideal.ofBits .f32 0x3727C5AC#32) * g + b

/-- Eight pieces of 128 entries put side by side. -/
theorem side_by_side (Y : Nat → EReal) (x : Fin 1024) :
    (if x.val < 128 then Y (0 + x.val) else if x.val - 128 < 128 then Y (128 + (x.val - 128))
      else if x.val - 128 - 128 < 128 then Y (256 + (x.val - 128 - 128)) else if x.val - 128 - 128 - 128 < 128 then Y (384 + (x.val - 128 - 128 - 128))
      else if x.val - 128 - 128 - 128 - 128 < 128 then Y (512 + (x.val - 128 - 128 - 128 - 128))
      else if x.val - 128 - 128 - 128 - 128 - 128 < 128 then Y (640 + (x.val - 128 - 128 - 128 - 128 - 128))
      else if x.val - 128 - 128 - 128 - 128 - 128 - 128 < 128 then Y (768 + (x.val - 128 - 128 - 128 - 128 - 128 - 128))
      else Y (896 + (x.val - 128 - 128 - 128 - 128 - 128 - 128 - 128))) = Y x.val := by
  have hx := x.isLt
  split_ifs <;> exact congrArg Y (by omega)

theorem pay91_apply (a0 a1 a2 a3 a4 a5 a6 a7 a8 : FVec Ideal S128x128 .f32) (w0 : Vec Ideal S1x128 .f32) (b : Vec Ideal S1x128x128 .f32) (w1 : Vec Ideal S1x128 .f32)
    (b' : Vec Ideal S128x128 .f32) (w2 : Vec Ideal S1x128 .f32) (g : Vec Ideal S1x1024 .f32) (p : Fin 128) (q : Fin 1024) (Y : Nat → EReal)
    (h0 : ∀ d : Fin 128, a0 (ix2 p d) = Y (0 + d.val)) (h1 : ∀ d : Fin 128, a1 (ix2 p d) = Y (128 + d.val)) (h2 : ∀ d : Fin 128, a2 (ix2 p d) = Y (256 + d.val))
    (h3 : ∀ d : Fin 128, a3 (ix2 p d) = Y (384 + d.val)) (h4 : ∀ d : Fin 128, a4 (ix2 p d) = Y (512 + d.val)) (h5 : ∀ d : Fin 128, a5 (ix2 p d) = Y (640 + d.val))
    (h6 : ∀ d : Fin 128, a6 (ix2 p d) = Y (768 + d.val))
    (h7 : ∀ d : Fin 128, a7 (ix2 p d) + w0 (ix2 0 d) * a8 (ix2 p d) + w1 (ix2 0 d) * b (ix3 0 p d) + w2 (ix2 0 d) * b' (ix2 p d) = Y (896 + d.val)) (s : EReal) :
    k0_pay91 a0 a1 a2 a3 a4 a5 a6 a7 a8 w0 b w1 b' w2 g (ix2 p q) + s = normed (fun k => Y k.val) (g (ix2 0 q)) s q := by
  pointwise [k0_pay91]
  simp only [h0, h1, h2, h3, h4, h5, h6, h7, dite_eq_ite, side_by_side]
  rfl

section
variable (c : Dev nD) (i : grid0.Coords) (arg2 : Memref sig .tc .vmem S1x128x1024 .f32) (harg2 : arg2.IsWhole)
  (arg3 : Memref sig .tc .vmem S1x128x1024 .f32) (harg3 : arg3.IsWhole) (arg4 : Memref sig .tc .vmem S1x32x1024 .f32) (harg4 : arg4.IsWhole)
  (arg5 : Memref sig .tc .vmem S1x32x1024 .f32) (harg5 : arg5.IsWhole) (arg6 : Memref sig .tc .vmem S32x1024 .f32) (harg6 : arg6.IsWhole)
  (arg7 : Memref sig .tc .vmem S1x1024 .f32) (harg7 : arg7.IsWhole)
  (arg11 : Memref sig .tc .vmem S160x1024 .f32) (arg12 : Memref sig .tc .vmem S7x152x1024 .f32)
  (x0 x1 : Vec Ideal S1x128x1024 .f32) (x2 x3 : Vec Ideal S1x32x1024 .f32) (x4 : Vec Ideal S32x1024 .f32) (x5 : Vec Ideal S1x1024 .f32)

theorem read_main {S : Shape} (a : Memref sig .tc .vmem S .f32) (h : a.IsWhole) (x : Vec Ideal S .f32) (B : LoadRect S) (j : B.shape.Idx) :
    View.readAt (Elt Ideal) a.view B (h.unread x) j = x (B.idx j) := by
  rw [h.readAt_unread]

/-- The positivity test of the step's number. -/
theorem pos_word (n : Nat) (h : n < 64) : (Scalar.cmpi .sgt (BitVec.ofNat 32 n) 0#32 : BitVec 1) = if 0 < n then 1#1 else 0#1 := by
  interval_cases n <;> decide

theorem pay2_apply (a b : Vec Ideal S1x32x1024 .f32) (e : Fin 32) (q : Fin 1024) :
    k0_pay2 (F := Ideal) i a b (ix2 e q) = if 0 < (i 1).val then glu a b e.val q.val else 0 := by
  unfold k0_pay2 glu
  dsimp only
  rw [pos_word _ (i 1).isLt, rd_at a 0 e.val q.val (by decide) e.isLt q.isLt, rd_at b 0 e.val q.val (by decide) e.isLt q.isLt]
  by_cases h : 0 < (i 1).val
  · rw [if_pos h, if_pos h]
    pointwise []
  · rw [if_neg h, if_neg h]
    pointwise []

theorem pay3_apply (a b : Vec Ideal S1x128x1024 .f32) (e : Fin 128) (q : Fin 1024) :
    k0_pay3 (F := Ideal) a b (ix2 e q) = glu a b e.val q.val := by
  unfold glu
  rw [rd_at a 0 e.val q.val (by decide) e.isLt q.isLt, rd_at b 0 e.val q.val (by decide) e.isLt q.isLt]
  pointwise [k0_pay3]

theorem whole_read {A : Nat} (a : Memref sig .tc .vmem ⟨3, ![1, A, 1024]⟩ .f32) (h : a.IsWhole) (x : Vec Ideal ⟨3, ![1, A, 1024]⟩ .f32) (inb) :
    View.readAt (Elt Ideal) a.view (Rect.unit (s := ⟨3, ![1, A, 1024]⟩) ![0, 0, 0] (⟨3, ![1, A, 1024]⟩ : Shape).size inb).toLoadRect (h.unread x) = x := by
  funext j
  rw [h.readAt_unread]
  refine congrArg x (funext fun n => ?_)
  match n with
  | ⟨0, _⟩ => exact Fin.ext (by show 0 + 1 * (j 0).val = (j 0).val; omega)
  | ⟨1, _⟩ => exact Fin.ext (by show 0 + 1 * (j 1).val = (j 1).val; omega)
  | ⟨2, _⟩ => exact Fin.ext (by show 0 + 1 * (j 2).val = (j 2).val; omega)

/-- The first scratch buffer holds the 160 rows. -/
theorem ext_eq (e : Fin 160) (q : Fin 1024) :
    View.canon (kernelRun0_A.sl.HS0_2 (F := Ideal) c i arg2 harg2 arg3 harg3 arg4 harg4 arg5 harg5 x0 x1 x2 x3) (ix2 e q)
      = ext (i 1).val x0 x1 x2 x3 e.val q.val := by
  unfold kernelRun0_A.sl.HS0_2 ext
  by_cases he : e.val < 32
  · rw [if_pos he, View.canon_cons_of_not_mem]
    · have : (ix2 e q : S160x1024.Idx) = (Rect.unit (s := S160x1024) ![0, 0] S32x1024.size inb_S160x1024_S32x1024_0_0).emb (ix2 ⟨e.val, he⟩ q) := by
        funext a
        match a with
        | ⟨0, _⟩ => exact Fin.ext (by show e.val = 0 + 1 * e.val; omega)
        | ⟨1, _⟩ => exact Fin.ext (by show q.val = 0 + 1 * q.val; omega)
      rw [this, View.canon_cons_emb]
      refine (pay2_apply i _ _ ⟨e.val, he⟩ q).trans ?_
      rw [whole_read (A := 32) arg4 harg4 x2, whole_read (A := 32) arg5 harg5 x3]
    · intro hm
      have h1 : 32 ≤ e.val := ((Rect.mem_set_unit (inb := inb_S160x1024_S128x1024_32_0)).mp hm 0).1
      omega
  · rw [if_neg he]
    have : (ix2 e q : S160x1024.Idx) = (Rect.unit (s := S160x1024) ![32, 0] S128x1024.size inb_S160x1024_S128x1024_32_0).emb (ix2 ⟨e.val - 32, by omega⟩ q) := by
      funext a
      match a with
      | ⟨0, _⟩ => exact Fin.ext (by show e.val = 32 + 1 * (e.val - 32); omega)
      | ⟨1, _⟩ => exact Fin.ext (by show q.val = 0 + 1 * q.val; omega)
    rw [this, View.canon_cons_emb]
    refine (pay3_apply _ _ ⟨e.val - 32, by omega⟩ q).trans ?_
    rw [whole_read (A := 128) arg2 harg2 x0, whole_read (A := 128) arg3 harg3 x1]

/-- A read of `R` by `C` entries of the first scratch buffer. -/
theorem read_ext {R C : Nat} (r o : Nat) (inb) (p : Fin R) (d : Fin C) :
    arg11.view.readCov (kernelRun0_A.sl.HS0_2 (F := Ideal) c i arg2 harg2 arg3 harg3 arg4 harg4 arg5 harg5 x0 x1 x2 x3)
      (Rect.unit (s := S160x1024) ![r, o] (⟨2, ![R, C]⟩ : Shape).size inb).toLoadRect (ix2 p d) = ext (i 1).val x0 x1 x2 x3 (r + p.val) (o + d.val) := by
  have h0 : r + R ≤ 160 := inb 0
  have h1 : o + C ≤ 1024 := inb 1
  have hp := p.isLt
  have hd := d.isLt
  rw [View.readCov_eq_canon']
  refine Eq.trans ?_ (ext_eq c i arg2 harg2 arg3 harg3 arg4 harg4 arg5 harg5 x0 x1 x2 x3 ⟨r + p.val, by omega⟩ ⟨o + d.val, by omega⟩)
  refine congrArg _ (funext fun a => ?_)
  match a with
  | ⟨0, _⟩ => exact Fin.ext (by show r + 1 * p.val = r + p.val; omega)
  | ⟨1, _⟩ => exact Fin.ext (by show o + 1 * d.val = o + d.val; omega)

/-- Under the last of the slots written, its payload; off it, what the earlier writes leave. -/
theorem slot_hit (r : Nat) (inb) (w) (L : List (View.Piece (Elt Ideal) S7x152x1024 .f32)) (s : Fin 7) (hs : s.val = r) (n : Fin 152) (q : Fin 1024) :
    View.canon (⟨Rect.unit (s := S7x152x1024) ![r, 0, 0] S1x152x1024.size inb, w⟩ :: L) (ix3 s n q) = w (ix3 0 n q) := by
  have : (ix3 s n q : S7x152x1024.Idx) = (Rect.unit (s := S7x152x1024) ![r, 0, 0] S1x152x1024.size inb).emb (ix3 0 n q) := by
    funext a
    match a with
    | ⟨0, _⟩ => exact Fin.ext (by show s.val = r + 1 * 0; omega)
    | ⟨1, _⟩ => exact Fin.ext (by show n.val = 0 + 1 * n.val; omega)
    | ⟨2, _⟩ => exact Fin.ext (by show q.val = 0 + 1 * q.val; omega)
  rw [this, View.canon_cons_emb]

theorem slot_miss (r : Nat) (inb) (w) (L : List (View.Piece (Elt Ideal) S7x152x1024 .f32)) (s : Fin 7) (hs : s.val < r) (n : Fin 152) (q : Fin 1024) :
    View.canon (⟨Rect.unit (s := S7x152x1024) ![r, 0, 0] S1x152x1024.size inb, w⟩ :: L) (ix3 s n q) = View.canon L (ix3 s n q) := by
  refine View.canon_cons_of_not_mem _ _ fun hm => ?_
  have h1 : r ≤ s.val := ((Rect.mem_set_unit (inb := inb)).mp hm 0).1
  omega

theorem slot0 (n : Fin 152) (q : Fin 1024) :
    k0_pay4 (F := Ideal) (kernelRun0_A.sl.v21 c i arg2 harg2 arg3 harg3 arg4 harg4 arg5 harg5 arg11 x0 x1 x2 x3) (ix3 0 n q) = ext (i 1).val x0 x1 x2 x3 (1 + n.val) (0 + q.val) := by
  refine Eq.trans (b := kernelRun0_A.sl.v21 (F := Ideal) c i arg2 harg2 arg3 harg3 arg4 harg4 arg5 harg5 arg11 x0 x1 x2 x3 (ix2 n q)) ?_ ?_
  · pointwise [k0_pay4]
  · exact read_ext c i arg2 harg2 arg3 harg3 arg4 harg4 arg5 harg5 arg11 x0 x1 x2 x3 (R := 152) (C := 1024) 1 0 inb_S160x1024_S152x1024_1_0 n q

theorem slot1 (n : Fin 152) (q : Fin 1024) :
    k0_pay5 (F := Ideal) (kernelRun0_A.sl.v25 c i arg2 harg2 arg3 harg3 arg4 harg4 arg5 harg5 arg11 x0 x1 x2 x3) (ix3 0 n q) = ext (i 1).val x0 x1 x2 x3 (2 + n.val) (0 + q.val) := by
  refine Eq.trans (b := kernelRun0_A.sl.v25 (F := Ideal) c i arg2 harg2 arg3 harg3 arg4 harg4 arg5 harg5 arg11 x0 x1 x2 x3 (ix2 n q)) ?_ ?_
  · pointwise [k0_pay5]
  · exact read_ext c i arg2 harg2 arg3 harg3 arg4 harg4 arg5 harg5 arg11 x0 x1 x2 x3 (R := 152) (C := 1024) 2 0 inb_S160x1024_S152x1024_2_0 n q

theorem slot2 (n : Fin 152) (q : Fin 1024) :
    k0_pay6 (F := Ideal) (kernelRun0_A.sl.v29 c i arg2 harg2 arg3 harg3 arg4 harg4 arg5 harg5 arg11 x0 x1 x2 x3) (ix3 0 n q) = ext (i 1).val x0 x1 x2 x3 (3 + n.val) (0 + q.val) := by
  refine Eq.trans (b := kernelRun0_A.sl.v29 (F := Ideal) c i arg2 harg2 arg3 harg3 arg4 harg4 arg5 harg5 arg11 x0 x1 x2 x3 (ix2 n q)) ?_ ?_
  · pointwise [k0_pay6]
  · exact read_ext c i arg2 harg2 arg3 harg3 arg4 harg4 arg5 harg5 arg11 x0 x1 x2 x3 (R := 152) (C := 1024) 3 0 inb_S160x1024_S152x1024_3_0 n q

theorem slot3 (n : Fin 152) (q : Fin 1024) :
    k0_pay7 (F := Ideal) (kernelRun0_A.sl.v33 c i arg2 harg2 arg3 harg3 arg4 harg4 arg5 harg5 arg11 x0 x1 x2 x3) (ix3 0 n q) = ext (i 1).val x0 x1 x2 x3 (4 + n.val) (0 + q.val) := by
  refine Eq.trans (b := kernelRun0_A.sl.v33 (F := Ideal) c i arg2 harg2 arg3 harg3 arg4 harg4 arg5 harg5 arg11 x0 x1 x2 x3 (ix2 n q)) ?_ ?_
  · pointwise [k0_pay7]
  · exact read_ext c i arg2 harg2 arg3 harg3 arg4 harg4 arg5 harg5 arg11 x0 x1 x2 x3 (R := 152) (C := 1024) 4 0 inb_S160x1024_S152x1024_4_0 n q

theorem slot4 (n : Fin 152) (q : Fin 1024) :
    k0_pay8 (F := Ideal) (kernelRun0_A.sl.v37 c i arg2 harg2 arg3 harg3 arg4 harg4 arg5 harg5 arg11 x0 x1 x2 x3) (ix3 0 n q) = ext (i 1).val x0 x1 x2 x3 (5 + n.val) (0 + q.val) := by
  refine Eq.trans (b := kernelRun0_A.sl.v37 (F := Ideal) c i arg2 harg2 arg3 harg3 arg4 harg4 arg5 harg5 arg11 x0 x1 x2 x3 (ix2 n q)) ?_ ?_
  · pointwise [k0_pay8]
  · exact read_ext c i arg2 harg2 arg3 harg3 arg4 harg4 arg5 harg5 arg11 x0 x1 x2 x3 (R := 152) (C := 1024) 5 0 inb_S160x1024_S152x1024_5_0 n q

theorem slot5 (n : Fin 152) (q : Fin 1024) :
    k0_pay9 (F := Ideal) (kernelRun0_A.sl.v41 c i arg2 harg2 arg3 harg3 arg4 harg4 arg5 harg5 arg11 x0 x1 x2 x3) (ix3 0 n q) = ext (i 1).val x0 x1 x2 x3 (6 + n.val) (0 + q.val) := by
  refine Eq.trans (b := kernelRun0_A.sl.v41 (F := Ideal) c i arg2 harg2 arg3 harg3 arg4 harg4 arg5 harg5 arg11 x0 x1 x2 x3 (ix2 n q)) ?_ ?_
  · pointwise [k0_pay9]
  · exact read_ext c i arg2 harg2 arg3 harg3 arg4 harg4 arg5 harg5 arg11 x0 x1 x2 x3 (R := 152) (C := 1024) 6 0 inb_S160x1024_S152x1024_6_0 n q

theorem slot6 (n : Fin 152) (q : Fin 1024) :
    k0_pay10 (F := Ideal) (kernelRun0_A.sl.v45 c i arg2 harg2 arg3 harg3 arg4 harg4 arg5 harg5 arg11 x0 x1 x2 x3) (ix3 0 n q) = ext (i 1).val x0 x1 x2 x3 (7 + n.val) (0 + q.val) := by
  refine Eq.trans (b := kernelRun0_A.sl.v45 (F := Ideal) c i arg2 harg2 arg3 harg3 arg4 harg4 arg5 harg5 arg11 x0 x1 x2 x3 (ix2 n q)) ?_ ?_
  · pointwise [k0_pay10]
  · exact read_ext c i arg2 harg2 arg3 harg3 arg4 harg4 arg5 harg5 arg11 x0 x1 x2 x3 (R := 152) (C := 1024) 7 0 inb_S160x1024_S152x1024_7_0 n q

/-- Slot `s` of the second scratch buffer holds the rows from `s + 1` on. -/
theorem slots_eq (s : Fin 7) (n : Fin 152) (q : Fin 1024) :
    View.canon (kernelRun0_A.sl.HS1_7 (F := Ideal) c i arg2 harg2 arg3 harg3 arg4 harg4 arg5 harg5 arg11 x0 x1 x2 x3) (ix3 s n q)
      = ext (i 1).val x0 x1 x2 x3 (s.val + 1 + n.val) (0 + q.val) := by
  unfold kernelRun0_A.sl.HS1_7
  match s with
  | ⟨0, h⟩ =>
    iterate 6 rw [slot_miss _ _ _ _ ⟨0, h⟩ (by simp)]
    rw [slot_hit _ _ _ _ ⟨0, h⟩ rfl]
    exact slot0 c i arg2 harg2 arg3 harg3 arg4 harg4 arg5 harg5 arg11 x0 x1 x2 x3 n q
  | ⟨1, h⟩ =>
    iterate 5 rw [slot_miss _ _ _ _ ⟨1, h⟩ (by simp)]
    rw [slot_hit _ _ _ _ ⟨1, h⟩ rfl]
    exact slot1 c i arg2 harg2 arg3 harg3 arg4 harg4 arg5 harg5 arg11 x0 x1 x2 x3 n q
  | ⟨2, h⟩ =>
    iterate 4 rw [slot_miss _ _ _ _ ⟨2, h⟩ (by simp)]
    rw [slot_hit _ _ _ _ ⟨2, h⟩ rfl]
    exact slot2 c i arg2 harg2 arg3 harg3 arg4 harg4 arg5 harg5 arg11 x0 x1 x2 x3 n q
  | ⟨3, h⟩ =>
    iterate 3 rw [slot_miss _ _ _ _ ⟨3, h⟩ (by simp)]
    rw [slot_hit _ _ _ _ ⟨3, h⟩ rfl]
    exact slot3 c i arg2 harg2 arg3 harg3 arg4 harg4 arg5 harg5 arg11 x0 x1 x2 x3 n q
  | ⟨4, h⟩ =>
    iterate 2 rw [slot_miss _ _ _ _ ⟨4, h⟩ (by simp)]
    rw [slot_hit _ _ _ _ ⟨4, h⟩ rfl]
    exact slot4 c i arg2 harg2 arg3 harg3 arg4 harg4 arg5 harg5 arg11 x0 x1 x2 x3 n q
  | ⟨5, h⟩ =>
    iterate 1 rw [slot_miss _ _ _ _ ⟨5, h⟩ (by simp)]
    rw [slot_hit _ _ _ _ ⟨5, h⟩ rfl]
    exact slot5 c i arg2 harg2 arg3 harg3 arg4 harg4 arg5 harg5 arg11 x0 x1 x2 x3 n q
  | ⟨6, h⟩ =>
    rw [slot_hit _ _ _ _ ⟨6, h⟩ rfl]
    exact slot6 c i arg2 harg2 arg3 harg3 arg4 harg4 arg5 harg5 arg11 x0 x1 x2 x3 n q

/-- A read of 128 by 128 entries of a slot of the second scratch buffer. -/
theorem read_slot (s n o : Nat) (inb) (p d : Fin 128) :
    arg12.view.readCov (kernelRun0_A.sl.HS1_7 (F := Ideal) c i arg2 harg2 arg3 harg3 arg4 harg4 arg5 harg5 arg11 x0 x1 x2 x3)
      (Rect.unit (s := S7x152x1024) ![s, n, o] S1x128x128.size inb).toLoadRect (ix3 0 p d) = ext (i 1).val x0 x1 x2 x3 (s + 1 + (n + p.val)) (o + d.val) := by
  have h0 : s + 1 ≤ 7 := inb 0
  have h1 : n + 128 ≤ 152 := inb 1
  have h2 : o + 128 ≤ 1024 := inb 2
  have hp := p.isLt
  have hd := d.isLt
  rw [View.readCov_eq_canon']
  refine Eq.trans ?_ (slots_eq c i arg2 harg2 arg3 harg3 arg4 harg4 arg5 harg5 arg11 x0 x1 x2 x3 ⟨s, by omega⟩ ⟨n + p.val, by omega⟩ ⟨o + d.val, by omega⟩ |>.trans (by rw [Nat.zero_add]))
  refine congrArg _ (funext fun a => ?_)
  match a with
  | ⟨0, _⟩ => exact Fin.ext (by show s + 1 * 0 = s; omega)
  | ⟨1, _⟩ => exact Fin.ext (by show n + 1 * p.val = n + p.val; omega)
  | ⟨2, _⟩ => exact Fin.ext (by show o + 1 * d.val = o + d.val; omega)

theorem read_weight (k o : Nat) (inb) (d : Fin 128) :
    View.readAt (Elt Ideal) arg6.view (Rect.unit (s := S32x1024) ![k, o] S1x128.size inb).toLoadRect (harg6.unread x4) (ix2 0 d) = rd2 x4 k (o + d.val) := by
  rw [harg6.readAt_unread]
  refine (rd2_eq _ _ _ _ ?_ ?_).symm
  · show k + 1 * 0 = _
    omega
  · show o + 1 * d.val = _
    omega

theorem read_bias (o : Nat) (inb) (d : Fin 128) :
    View.readAt (Elt Ideal) arg7.view (Rect.unit (s := S1x1024) ![0, o] S1x128.size inb).toLoadRect (harg7.unread x5) (ix2 0 d) = rd2 x5 0 (o + d.val) := by
  rw [harg7.readAt_unread]
  refine (rd2_eq _ _ _ _ ?_ ?_).symm
  · rfl
  · show o + 1 * d.val = _
    omega

/-- The running sum before the first tap. -/
theorem acc_start (o : Nat) (inb) (p d : Fin 128) (q : Nat) (hq : o + d.val = q) :
    View.readAt (Elt Ideal) arg7.view (Rect.unit (s := S1x1024) ![0, o] S1x128.size inb).toLoadRect (harg7.unread x5) (ix2 0 d)
      = acc (i 1).val x0 x1 x2 x3 x4 x5 p.val q 0 := by
  subst hq
  rw [read_bias]
  rfl

/-- A tap whose rows come from the first scratch buffer. -/
theorem tap_ext (k o n : Nat) (inb inb') (p d : Fin 128) (q : Nat) (hq : o + d.val = q) (a : EReal) (hk : k + 2 = n) (ha : a = acc (i 1).val x0 x1 x2 x3 x4 x5 p.val q k) :
    a + View.readAt (Elt Ideal) arg6.view (Rect.unit (s := S32x1024) ![k, o] S1x128.size inb).toLoadRect (harg6.unread x4) (ix2 0 d)
        * arg11.view.readCov (kernelRun0_A.sl.HS0_2 (F := Ideal) c i arg2 harg2 arg3 harg3 arg4 harg4 arg5 harg5 x0 x1 x2 x3)
            (Rect.unit (s := S160x1024) ![n, o] S128x128.size inb').toLoadRect (ix2 p d)
      = acc (i 1).val x0 x1 x2 x3 x4 x5 p.val q (k + 1) := by
  subst hk hq
  refine congrArg₂ (· + ·) ha (congrArg₂ (· * ·) (read_weight _ _ _ _ _ _ _) ?_)
  exact read_ext c i arg2 harg2 arg3 harg3 arg4 harg4 arg5 harg5 arg11 x0 x1 x2 x3 (R := 128) (C := 128) (k + 2) o inb' p d

/-- A tap whose rows come from a slot of the second scratch buffer. -/
theorem tap_slot (k o s n : Nat) (inb inb') (p d : Fin 128) (q : Nat) (hq : o + d.val = q) (a : EReal) (hk : k + 2 = s + 1 + n) (ha : a = acc (i 1).val x0 x1 x2 x3 x4 x5 p.val q k) :
    a + View.readAt (Elt Ideal) arg6.view (Rect.unit (s := S32x1024) ![k, o] S1x128.size inb).toLoadRect (harg6.unread x4) (ix2 0 d)
        * arg12.view.readCov (kernelRun0_A.sl.HS1_7 (F := Ideal) c i arg2 harg2 arg3 harg3 arg4 harg4 arg5 harg5 arg11 x0 x1 x2 x3)
            (Rect.unit (s := S7x152x1024) ![s, n, o] S1x128x128.size inb').toLoadRect (ix3 0 p d)
      = acc (i 1).val x0 x1 x2 x3 x4 x5 p.val q (k + 1) := by
  subst hq
  refine congrArg₂ (· + ·) ha (congrArg₂ (· * ·) (read_weight _ _ _ _ _ _ _) ?_)
  refine (read_slot c i arg2 harg2 arg3 harg3 arg4 harg4 arg5 harg5 arg11 arg12 x0 x1 x2 x3 s n o inb' p d).trans ?_
  rw [hk, Nat.add_assoc (s + 1) n p.val]

theorem chunk0 (p d : Fin 128) (q : Nat) (hq : 0 + d.val = q) :
    kernelRun0_A.sl.r_9 (F := Ideal) c i arg2 harg2 arg3 harg3 arg4 harg4 arg5 harg5 arg6 harg6 arg7 harg7 arg11 arg12 x0 x1 x2 x3 x4 x5 (ix2 p d)
      = acc (i 1).val x0 x1 x2 x3 x4 x5 p.val q 31 := by
  unfold kernelRun0_A.sl.r_9 kernelRun0_A.sl.r_8 kernelRun0_A.sl.r_7 kernelRun0_A.sl.r_6 kernelRun0_A.sl.r_5 kernelRun0_A.sl.r_4 kernelRun0_A.sl.r_3 kernelRun0_A.sl.r_2 kernelRun0_A.sl.r_1 kernelRun0_A.sl.r
  pointwise [k0_pay11, k0_pay12, k0_pay13, k0_pay14, k0_pay15, k0_pay16, k0_pay17, k0_pay18, k0_pay19, k0_pay20, k0_pay21]
  refine tap_ext c i arg2 harg2 arg3 harg3 arg4 harg4 arg5 harg5 arg6 harg6 arg11 x0 x1 x2 x3 x4 x5 _ _ _ _ _ _ _ _ hq _ rfl ?_
  iterate 7 refine tap_slot c i arg2 harg2 arg3 harg3 arg4 harg4 arg5 harg5 arg6 harg6 arg11 arg12 x0 x1 x2 x3 x4 x5 _ _ _ _ _ _ _ _ _ hq _ rfl ?_
  refine tap_ext c i arg2 harg2 arg3 harg3 arg4 harg4 arg5 harg5 arg6 harg6 arg11 x0 x1 x2 x3 x4 x5 _ _ _ _ _ _ _ _ hq _ rfl ?_
  iterate 7 refine tap_slot c i arg2 harg2 arg3 harg3 arg4 harg4 arg5 harg5 arg6 harg6 arg11 arg12 x0 x1 x2 x3 x4 x5 _ _ _ _ _ _ _ _ _ hq _ rfl ?_
  refine tap_ext c i arg2 harg2 arg3 harg3 arg4 harg4 arg5 harg5 arg6 harg6 arg11 x0 x1 x2 x3 x4 x5 _ _ _ _ _ _ _ _ hq _ rfl ?_
  iterate 7 refine tap_slot c i arg2 harg2 arg3 harg3 arg4 harg4 arg5 harg5 arg6 harg6 arg11 arg12 x0 x1 x2 x3 x4 x5 _ _ _ _ _ _ _ _ _ hq _ rfl ?_
  refine tap_ext c i arg2 harg2 arg3 harg3 arg4 harg4 arg5 harg5 arg6 harg6 arg11 x0 x1 x2 x3 x4 x5 _ _ _ _ _ _ _ _ hq _ rfl ?_
  iterate 6 refine tap_slot c i arg2 harg2 arg3 harg3 arg4 harg4 arg5 harg5 arg6 harg6 arg11 arg12 x0 x1 x2 x3 x4 x5 _ _ _ _ _ _ _ _ _ hq _ rfl ?_
  exact acc_start i arg7 harg7 x0 x1 x2 x3 x4 x5 _ _ _ _ _ hq

theorem chunk1 (p d : Fin 128) (q : Nat) (hq : 128 + d.val = q) :
    kernelRun0_A.sl.r_19 (F := Ideal) c i arg2 harg2 arg3 harg3 arg4 harg4 arg5 harg5 arg6 harg6 arg7 harg7 arg11 arg12 x0 x1 x2 x3 x4 x5 (ix2 p d)
      = acc (i 1).val x0 x1 x2 x3 x4 x5 p.val q 31 := by
  unfold kernelRun0_A.sl.r_19 kernelRun0_A.sl.r_18 kernelRun0_A.sl.r_17 kernelRun0_A.sl.r_16 kernelRun0_A.sl.r_15 kernelRun0_A.sl.r_14 kernelRun0_A.sl.r_13 kernelRun0_A.sl.r_12 kernelRun0_A.sl.r_11 kernelRun0_A.sl.r_10
  pointwise [k0_pay22, k0_pay23, k0_pay24, k0_pay25, k0_pay26, k0_pay27, k0_pay28, k0_pay29, k0_pay30, k0_pay31]
  refine tap_ext c i arg2 harg2 arg3 harg3 arg4 harg4 arg5 harg5 arg6 harg6 arg11 x0 x1 x2 x3 x4 x5 _ _ _ _ _ _ _ _ hq _ rfl ?_
  iterate 7 refine tap_slot c i arg2 harg2 arg3 harg3 arg4 harg4 arg5 harg5 arg6 harg6 arg11 arg12 x0 x1 x2 x3 x4 x5 _ _ _ _ _ _ _ _ _ hq _ rfl ?_
  refine tap_ext c i arg2 harg2 arg3 harg3 arg4 harg4 arg5 harg5 arg6 harg6 arg11 x0 x1 x2 x3 x4 x5 _ _ _ _ _ _ _ _ hq _ rfl ?_
  iterate 7 refine tap_slot c i arg2 harg2 arg3 harg3 arg4 harg4 arg5 harg5 arg6 harg6 arg11 arg12 x0 x1 x2 x3 x4 x5 _ _ _ _ _ _ _ _ _ hq _ rfl ?_
  refine tap_ext c i arg2 harg2 arg3 harg3 arg4 harg4 arg5 harg5 arg6 harg6 arg11 x0 x1 x2 x3 x4 x5 _ _ _ _ _ _ _ _ hq _ rfl ?_
  iterate 7 refine tap_slot c i arg2 harg2 arg3 harg3 arg4 harg4 arg5 harg5 arg6 harg6 arg11 arg12 x0 x1 x2 x3 x4 x5 _ _ _ _ _ _ _ _ _ hq _ rfl ?_
  refine tap_ext c i arg2 harg2 arg3 harg3 arg4 harg4 arg5 harg5 arg6 harg6 arg11 x0 x1 x2 x3 x4 x5 _ _ _ _ _ _ _ _ hq _ rfl ?_
  iterate 6 refine tap_slot c i arg2 harg2 arg3 harg3 arg4 harg4 arg5 harg5 arg6 harg6 arg11 arg12 x0 x1 x2 x3 x4 x5 _ _ _ _ _ _ _ _ _ hq _ rfl ?_
  exact acc_start i arg7 harg7 x0 x1 x2 x3 x4 x5 _ _ _ _ _ hq

theorem chunk2 (p d : Fin 128) (q : Nat) (hq : 256 + d.val = q) :
    kernelRun0_A.sl.r_29 (F := Ideal) c i arg2 harg2 arg3 harg3 arg4 harg4 arg5 harg5 arg6 harg6 arg7 harg7 arg11 arg12 x0 x1 x2 x3 x4 x5 (ix2 p d)
      = acc (i 1).val x0 x1 x2 x3 x4 x5 p.val q 31 := by
  unfold kernelRun0_A.sl.r_29 kernelRun0_A.sl.r_28 kernelRun0_A.sl.r_27 kernelRun0_A.sl.r_26 kernelRun0_A.sl.r_25 kernelRun0_A.sl.r_24 kernelRun0_A.sl.r_23 kernelRun0_A.sl.r_22 kernelRun0_A.sl.r_21 kernelRun0_A.sl.r_20
  pointwise [k0_pay32, k0_pay33, k0_pay34, k0_pay35, k0_pay36, k0_pay37, k0_pay38, k0_pay39, k0_pay40, k0_pay41]
  refine tap_ext c i arg2 harg2 arg3 harg3 arg4 harg4 arg5 harg5 arg6 harg6 arg11 x0 x1 x2 x3 x4 x5 _ _ _ _ _ _ _ _ hq _ rfl ?_
  iterate 7 refine tap_slot c i arg2 harg2 arg3 harg3 arg4 harg4 arg5 harg5 arg6 harg6 arg11 arg12 x0 x1 x2 x3 x4 x5 _ _ _ _ _ _ _ _ _ hq _ rfl ?_
  refine tap_ext c i arg2 harg2 arg3 harg3 arg4 harg4 arg5 harg5 arg6 harg6 arg11 x0 x1 x2 x3 x4 x5 _ _ _ _ _ _ _ _ hq _ rfl ?_
  iterate 7 refine tap_slot c i arg2 harg2 arg3 harg3 arg4 harg4 arg5 harg5 arg6 harg6 arg11 arg12 x0 x1 x2 x3 x4 x5 _ _ _ _ _ _ _ _ _ hq _ rfl ?_
  refine tap_ext c i arg2 harg2 arg3 harg3 arg4 harg4 arg5 harg5 arg6 harg6 arg11 x0 x1 x2 x3 x4 x5 _ _ _ _ _ _ _ _ hq _ rfl ?_
  iterate 7 refine tap_slot c i arg2 harg2 arg3 harg3 arg4 harg4 arg5 harg5 arg6 harg6 arg11 arg12 x0 x1 x2 x3 x4 x5 _ _ _ _ _ _ _ _ _ hq _ rfl ?_
  refine tap_ext c i arg2 harg2 arg3 harg3 arg4 harg4 arg5 harg5 arg6 harg6 arg11 x0 x1 x2 x3 x4 x5 _ _ _ _ _ _ _ _ hq _ rfl ?_
  iterate 6 refine tap_slot c i arg2 harg2 arg3 harg3 arg4 harg4 arg5 harg5 arg6 harg6 arg11 arg12 x0 x1 x2 x3 x4 x5 _ _ _ _ _ _ _ _ _ hq _ rfl ?_
  exact acc_start i arg7 harg7 x0 x1 x2 x3 x4 x5 _ _ _ _ _ hq

theorem chunk3 (p d : Fin 128) (q : Nat) (hq : 384 + d.val = q) :
    kernelRun0_A.sl.r_38 (F := Ideal) c i arg2 harg2 arg3 harg3 arg4 harg4 arg5 harg5 arg6 harg6 arg7 harg7 arg11 arg12 x0 x1 x2 x3 x4 x5 (ix2 p d)
      = acc (i 1).val x0 x1 x2 x3 x4 x5 p.val q 31 := by
  unfold kernelRun0_A.sl.r_38 kernelRun0_A.sl.r_37 kernelRun0_A.sl.r_36 kernelRun0_A.sl.r_35 kernelRun0_A.sl.r_34 kernelRun0_A.sl.r_33 kernelRun0_A.sl.r_32 kernelRun0_A.sl.r_31 kernelRun0_A.sl.r_30
  pointwise [k0_pay42, k0_pay43, k0_pay44, k0_pay45, k0_pay46, k0_pay47, k0_pay48, k0_pay49, k0_pay50]
  refine tap_ext c i arg2 harg2 arg3 harg3 arg4 harg4 arg5 harg5 arg6 harg6 arg11 x0 x1 x2 x3 x4 x5 _ _ _ _ _ _ _ _ hq _ rfl ?_
  iterate 7 refine tap_slot c i arg2 harg2 arg3 harg3 arg4 harg4 arg5 harg5 arg6 harg6 arg11 arg12 x0 x1 x2 x3 x4 x5 _ _ _ _ _ _ _ _ _ hq _ rfl ?_
  refine tap_ext c i arg2 harg2 arg3 harg3 arg4 harg4 arg5 harg5 arg6 harg6 arg11 x0 x1 x2 x3 x4 x5 _ _ _ _ _ _ _ _ hq _ rfl ?_
  iterate 7 refine tap_slot c i arg2 harg2 arg3 harg3 arg4 harg4 arg5 harg5 arg6 harg6 arg11 arg12 x0 x1 x2 x3 x4 x5 _ _ _ _ _ _ _ _ _ hq _ rfl ?_
  refine tap_ext c i arg2 harg2 arg3 harg3 arg4 harg4 arg5 harg5 arg6 harg6 arg11 x0 x1 x2 x3 x4 x5 _ _ _ _ _ _ _ _ hq _ rfl ?_
  iterate 7 refine tap_slot c i arg2 harg2 arg3 harg3 arg4 harg4 arg5 harg5 arg6 harg6 arg11 arg12 x0 x1 x2 x3 x4 x5 _ _ _ _ _ _ _ _ _ hq _ rfl ?_
  refine tap_ext c i arg2 harg2 arg3 harg3 arg4 harg4 arg5 harg5 arg6 harg6 arg11 x0 x1 x2 x3 x4 x5 _ _ _ _ _ _ _ _ hq _ rfl ?_
  iterate 6 refine tap_slot c i arg2 harg2 arg3 harg3 arg4 harg4 arg5 harg5 arg6 harg6 arg11 arg12 x0 x1 x2 x3 x4 x5 _ _ _ _ _ _ _ _ _ hq _ rfl ?_
  exact acc_start i arg7 harg7 x0 x1 x2 x3 x4 x5 _ _ _ _ _ hq

theorem chunk4 (p d : Fin 128) (q : Nat) (hq : 512 + d.val = q) :
    kernelRun0_A.sl.r_48 (F := Ideal) c i arg2 harg2 arg3 harg3 arg4 harg4 arg5 harg5 arg6 harg6 arg7 harg7 arg11 arg12 x0 x1 x2 x3 x4 x5 (ix2 p d)
      = acc (i 1).val x0 x1 x2 x3 x4 x5 p.val q 31 := by
  unfold kernelRun0_A.sl.r_48 kernelRun0_A.sl.r_47 kernelRun0_A.sl.r_46 kernelRun0_A.sl.r_45 kernelRun0_A.sl.r_44 kernelRun0_A.sl.r_43 kernelRun0_A.sl.r_42 kernelRun0_A.sl.r_41 kernelRun0_A.sl.r_40 kernelRun0_A.sl.r_39
  pointwise [k0_pay51, k0_pay52, k0_pay53, k0_pay54, k0_pay55, k0_pay56, k0_pay57, k0_pay58, k0_pay59, k0_pay60]
  refine tap_ext c i arg2 harg2 arg3 harg3 arg4 harg4 arg5 harg5 arg6 harg6 arg11 x0 x1 x2 x3 x4 x5 _ _ _ _ _ _ _ _ hq _ rfl ?_
  iterate 7 refine tap_slot c i arg2 harg2 arg3 harg3 arg4 harg4 arg5 harg5 arg6 harg6 arg11 arg12 x0 x1 x2 x3 x4 x5 _ _ _ _ _ _ _ _ _ hq _ rfl ?_
  refine tap_ext c i arg2 harg2 arg3 harg3 arg4 harg4 arg5 harg5 arg6 harg6 arg11 x0 x1 x2 x3 x4 x5 _ _ _ _ _ _ _ _ hq _ rfl ?_
  iterate 7 refine tap_slot c i arg2 harg2 arg3 harg3 arg4 harg4 arg5 harg5 arg6 harg6 arg11 arg12 x0 x1 x2 x3 x4 x5 _ _ _ _ _ _ _ _ _ hq _ rfl ?_
  refine tap_ext c i arg2 harg2 arg3 harg3 arg4 harg4 arg5 harg5 arg6 harg6 arg11 x0 x1 x2 x3 x4 x5 _ _ _ _ _ _ _ _ hq _ rfl ?_
  iterate 7 refine tap_slot c i arg2 harg2 arg3 harg3 arg4 harg4 arg5 harg5 arg6 harg6 arg11 arg12 x0 x1 x2 x3 x4 x5 _ _ _ _ _ _ _ _ _ hq _ rfl ?_
  refine tap_ext c i arg2 harg2 arg3 harg3 arg4 harg4 arg5 harg5 arg6 harg6 arg11 x0 x1 x2 x3 x4 x5 _ _ _ _ _ _ _ _ hq _ rfl ?_
  iterate 6 refine tap_slot c i arg2 harg2 arg3 harg3 arg4 harg4 arg5 harg5 arg6 harg6 arg11 arg12 x0 x1 x2 x3 x4 x5 _ _ _ _ _ _ _ _ _ hq _ rfl ?_
  exact acc_start i arg7 harg7 x0 x1 x2 x3 x4 x5 _ _ _ _ _ hq

theorem chunk5 (p d : Fin 128) (q : Nat) (hq : 640 + d.val = q) :
    kernelRun0_A.sl.r_58 (F := Ideal) c i arg2 harg2 arg3 harg3 arg4 harg4 arg5 harg5 arg6 harg6 arg7 harg7 arg11 arg12 x0 x1 x2 x3 x4 x5 (ix2 p d)
      = acc (i 1).val x0 x1 x2 x3 x4 x5 p.val q 31 := by
  unfold kernelRun0_A.sl.r_58 kernelRun0_A.sl.r_57 kernelRun0_A.sl.r_56 kernelRun0_A.sl.r_55 kernelRun0_A.sl.r_54 kernelRun0_A.sl.r_53 kernelRun0_A.sl.r_52 kernelRun0_A.sl.r_51 kernelRun0_A.sl.r_50 kernelRun0_A.sl.r_49
  pointwise [k0_pay61, k0_pay62, k0_pay63, k0_pay64, k0_pay65, k0_pay66, k0_pay67, k0_pay68, k0_pay69, k0_pay70, k0_pay71]
  refine tap_ext c i arg2 harg2 arg3 harg3 arg4 harg4 arg5 harg5 arg6 harg6 arg11 x0 x1 x2 x3 x4 x5 _ _ _ _ _ _ _ _ hq _ rfl ?_
  iterate 7 refine tap_slot c i arg2 harg2 arg3 harg3 arg4 harg4 arg5 harg5 arg6 harg6 arg11 arg12 x0 x1 x2 x3 x4 x5 _ _ _ _ _ _ _ _ _ hq _ rfl ?_
  refine tap_ext c i arg2 harg2 arg3 harg3 arg4 harg4 arg5 harg5 arg6 harg6 arg11 x0 x1 x2 x3 x4 x5 _ _ _ _ _ _ _ _ hq _ rfl ?_
  iterate 7 refine tap_slot c i arg2 harg2 arg3 harg3 arg4 harg4 arg5 harg5 arg6 harg6 arg11 arg12 x0 x1 x2 x3 x4 x5 _ _ _ _ _ _ _ _ _ hq _ rfl ?_
  refine tap_ext c i arg2 harg2 arg3 harg3 arg4 harg4 arg5 harg5 arg6 harg6 arg11 x0 x1 x2 x3 x4 x5 _ _ _ _ _ _ _ _ hq _ rfl ?_
  iterate 7 refine tap_slot c i arg2 harg2 arg3 harg3 arg4 harg4 arg5 harg5 arg6 harg6 arg11 arg12 x0 x1 x2 x3 x4 x5 _ _ _ _ _ _ _ _ _ hq _ rfl ?_
  refine tap_ext c i arg2 harg2 arg3 harg3 arg4 harg4 arg5 harg5 arg6 harg6 arg11 x0 x1 x2 x3 x4 x5 _ _ _ _ _ _ _ _ hq _ rfl ?_
  iterate 6 refine tap_slot c i arg2 harg2 arg3 harg3 arg4 harg4 arg5 harg5 arg6 harg6 arg11 arg12 x0 x1 x2 x3 x4 x5 _ _ _ _ _ _ _ _ _ hq _ rfl ?_
  exact acc_start i arg7 harg7 x0 x1 x2 x3 x4 x5 _ _ _ _ _ hq

theorem chunk6 (p d : Fin 128) (q : Nat) (hq : 768 + d.val = q) :
    kernelRun0_A.sl.r_68 (F := Ideal) c i arg2 harg2 arg3 harg3 arg4 harg4 arg5 harg5 arg6 harg6 arg7 harg7 arg11 arg12 x0 x1 x2 x3 x4 x5 (ix2 p d)
      = acc (i 1).val x0 x1 x2 x3 x4 x5 p.val q 31 := by
  unfold kernelRun0_A.sl.r_68 kernelRun0_A.sl.r_67 kernelRun0_A.sl.r_66 kernelRun0_A.sl.r_65 kernelRun0_A.sl.r_64 kernelRun0_A.sl.r_63 kernelRun0_A.sl.r_62 kernelRun0_A.sl.r_61 kernelRun0_A.sl.r_60 kernelRun0_A.sl.r_59
  pointwise [k0_pay72, k0_pay73, k0_pay74, k0_pay75, k0_pay76, k0_pay77, k0_pay78, k0_pay79, k0_pay80, k0_pay81]
  refine tap_ext c i arg2 harg2 arg3 harg3 arg4 harg4 arg5 harg5 arg6 harg6 arg11 x0 x1 x2 x3 x4 x5 _ _ _ _ _ _ _ _ hq _ rfl ?_
  iterate 7 refine tap_slot c i arg2 harg2 arg3 harg3 arg4 harg4 arg5 harg5 arg6 harg6 arg11 arg12 x0 x1 x2 x3 x4 x5 _ _ _ _ _ _ _ _ _ hq _ rfl ?_
  refine tap_ext c i arg2 harg2 arg3 harg3 arg4 harg4 arg5 harg5 arg6 harg6 arg11 x0 x1 x2 x3 x4 x5 _ _ _ _ _ _ _ _ hq _ rfl ?_
  iterate 7 refine tap_slot c i arg2 harg2 arg3 harg3 arg4 harg4 arg5 harg5 arg6 harg6 arg11 arg12 x0 x1 x2 x3 x4 x5 _ _ _ _ _ _ _ _ _ hq _ rfl ?_
  refine tap_ext c i arg2 harg2 arg3 harg3 arg4 harg4 arg5 harg5 arg6 harg6 arg11 x0 x1 x2 x3 x4 x5 _ _ _ _ _ _ _ _ hq _ rfl ?_
  iterate 7 refine tap_slot c i arg2 harg2 arg3 harg3 arg4 harg4 arg5 harg5 arg6 harg6 arg11 arg12 x0 x1 x2 x3 x4 x5 _ _ _ _ _ _ _ _ _ hq _ rfl ?_
  refine tap_ext c i arg2 harg2 arg3 harg3 arg4 harg4 arg5 harg5 arg6 harg6 arg11 x0 x1 x2 x3 x4 x5 _ _ _ _ _ _ _ _ hq _ rfl ?_
  iterate 6 refine tap_slot c i arg2 harg2 arg3 harg3 arg4 harg4 arg5 harg5 arg6 harg6 arg11 arg12 x0 x1 x2 x3 x4 x5 _ _ _ _ _ _ _ _ _ hq _ rfl ?_
  exact acc_start i arg7 harg7 x0 x1 x2 x3 x4 x5 _ _ _ _ _ hq

theorem chunk7 (p d : Fin 128) (q : Nat) (hq : 896 + d.val = q) :
    kernelRun0_A.sl.r_76 (F := Ideal) c i arg2 harg2 arg3 harg3 arg4 harg4 arg5 harg5 arg6 harg6 arg7 harg7 arg11 arg12 x0 x1 x2 x3 x4 x5 (ix2 p d)
      = acc (i 1).val x0 x1 x2 x3 x4 x5 p.val q 28 := by
  unfold kernelRun0_A.sl.r_76 kernelRun0_A.sl.r_75 kernelRun0_A.sl.r_74 kernelRun0_A.sl.r_73 kernelRun0_A.sl.r_72 kernelRun0_A.sl.r_71 kernelRun0_A.sl.r_70 kernelRun0_A.sl.r_69
  pointwise [k0_pay82, k0_pay83, k0_pay84, k0_pay85, k0_pay86, k0_pay87, k0_pay88, k0_pay89]
  iterate 5 refine tap_slot c i arg2 harg2 arg3 harg3 arg4 harg4 arg5 harg5 arg6 harg6 arg11 arg12 x0 x1 x2 x3 x4 x5 _ _ _ _ _ _ _ _ _ hq _ rfl ?_
  refine tap_ext c i arg2 harg2 arg3 harg3 arg4 harg4 arg5 harg5 arg6 harg6 arg11 x0 x1 x2 x3 x4 x5 _ _ _ _ _ _ _ _ hq _ rfl ?_
  iterate 7 refine tap_slot c i arg2 harg2 arg3 harg3 arg4 harg4 arg5 harg5 arg6 harg6 arg11 arg12 x0 x1 x2 x3 x4 x5 _ _ _ _ _ _ _ _ _ hq _ rfl ?_
  refine tap_ext c i arg2 harg2 arg3 harg3 arg4 harg4 arg5 harg5 arg6 harg6 arg11 x0 x1 x2 x3 x4 x5 _ _ _ _ _ _ _ _ hq _ rfl ?_
  iterate 7 refine tap_slot c i arg2 harg2 arg3 harg3 arg4 harg4 arg5 harg5 arg6 harg6 arg11 arg12 x0 x1 x2 x3 x4 x5 _ _ _ _ _ _ _ _ _ hq _ rfl ?_
  refine tap_ext c i arg2 harg2 arg3 harg3 arg4 harg4 arg5 harg5 arg6 harg6 arg11 x0 x1 x2 x3 x4 x5 _ _ _ _ _ _ _ _ hq _ rfl ?_
  iterate 6 refine tap_slot c i arg2 harg2 arg3 harg3 arg4 harg4 arg5 harg5 arg6 harg6 arg11 arg12 x0 x1 x2 x3 x4 x5 _ _ _ _ _ _ _ _ _ hq _ rfl ?_
  exact acc_start i arg7 harg7 x0 x1 x2 x3 x4 x5 _ _ _ _ _ hq

end
variable (m : (ℓ : Loc nD τ sig) → Buf (Elt Ideal) ℓ) (ρ : Dev nD → PrngReg)

/-- A row after its normalisation, times its own logistic. -/
def gated (f : Fin 1024 → EReal) (g b : EReal) (q : Fin 1024) : EReal := normed f g b q * Ideal.logistic (normed f g b q)

theorem pay92_apply (v : FVec Ideal S128x1024 .f32) (b : Vec Ideal S1x1024 .f32) (p : Fin 128) (q : Fin 1024) :
    k0_pay1 (k0_pay92 (F := Ideal) v b) (ix3 0 p q) = (v (ix2 p q) + b (ix2 0 q)) * Ideal.logistic (v (ix2 p q) + b (ix2 0 q)) := by
  pointwise [k0_pay1, k0_pay92]

theorem row_read (a : Memref sig .tc .vmem S1x1024 .f32) (h : a.IsWhole) (x : Vec Ideal S1x1024 .f32) (inb) (q : Fin 1024) :
    View.readAt (Elt Ideal) a.view (Rect.unit (s := S1x1024) ![0, 0] S1x1024.size inb).toLoadRect (h.unread x) (ix2 0 q) = rd2 x 0 q.val := by
  rw [h.readAt_unread]
  refine (rd2_eq _ _ _ _ ?_ ?_).symm
  · rfl
  · show 0 + 1 * q.val = _
    omega

theorem run_apply (c : Dev nD) (i : grid0.Coords) (arg2 : Memref sig .tc .vmem S1x128x1024 .f32) (harg2 : arg2.IsWhole)
    (arg3 : Memref sig .tc .vmem S1x128x1024 .f32) (harg3 : arg3.IsWhole) (arg4 : Memref sig .tc .vmem S1x32x1024 .f32) (harg4 : arg4.IsWhole)
    (arg5 : Memref sig .tc .vmem S1x32x1024 .f32) (harg5 : arg5.IsWhole) (arg6 : Memref sig .tc .vmem S32x1024 .f32) (harg6 : arg6.IsWhole)
    (arg7 : Memref sig .tc .vmem S1x1024 .f32) (harg7 : arg7.IsWhole) (arg8 : Memref sig .tc .vmem S1x1024 .f32) (harg8 : arg8.IsWhole)
    (arg9 : Memref sig .tc .vmem S1x1024 .f32) (harg9 : arg9.IsWhole)
    (arg11 : Memref sig .tc .vmem S160x1024 .f32) (arg12 : Memref sig .tc .vmem S7x152x1024 .f32)
    (x0 x1 : Vec Ideal S1x128x1024 .f32) (x2 x3 : Vec Ideal S1x32x1024 .f32) (x4 : Vec Ideal S32x1024 .f32) (x5 x6 x7 : Vec Ideal S1x1024 .f32) (p : Fin 128) (q : Fin 1024) :
    k0_pay1 (kernelRun0_A.sl.r_80 (F := Ideal) c i arg2 harg2 arg3 harg3 arg4 harg4 arg5 harg5 arg6 harg6 arg7 harg7 arg8 harg8 arg9 harg9 arg11 arg12 x0 x1 x2 x3 x4 x5 x6 x7) (ix3 0 p q)
      = gated (fun k => acc (i 1).val x0 x1 x2 x3 x4 x5 p.val k.val 31) (rd2 x6 0 q.val) (rd2 x7 0 q.val) q := by
  unfold kernelRun0_A.sl.r_80
  rw [pay92_apply]
  have key : kernelRun0_A.sl.r_78 (F := Ideal) c i arg2 harg2 arg3 harg3 arg4 harg4 arg5 harg5 arg6 harg6 arg7 harg7 arg8 harg8 arg11 arg12 x0 x1 x2 x3 x4 x5 x6 (ix2 p q)
      + kernelRun0_A.sl.r_79 (F := Ideal) c arg9 harg9 x7 (ix2 0 q)
      = normed (fun k => acc (i 1).val x0 x1 x2 x3 x4 x5 p.val k.val 31) (rd2 x6 0 q.val) (rd2 x7 0 q.val) q := by
    unfold kernelRun0_A.sl.r_79 kernelRun0_A.sl.r_78
    rw [row_read, ← row_read arg8 harg8 x6 inb_S1x1024_S1x1024_0_0 q]
    refine pay91_apply _ _ _ _ _ _ _ _ _ _ _ _ _ _ _ p q (fun k => acc (i 1).val x0 x1 x2 x3 x4 x5 p.val k 31) ?_ ?_ ?_ ?_ ?_ ?_ ?_ ?_ _
    · exact fun d => chunk0 c i arg2 harg2 arg3 harg3 arg4 harg4 arg5 harg5 arg6 harg6 arg7 harg7 arg11 arg12 x0 x1 x2 x3 x4 x5 p d _ rfl
    · exact fun d => chunk1 c i arg2 harg2 arg3 harg3 arg4 harg4 arg5 harg5 arg6 harg6 arg7 harg7 arg11 arg12 x0 x1 x2 x3 x4 x5 p d _ rfl
    · exact fun d => chunk2 c i arg2 harg2 arg3 harg3 arg4 harg4 arg5 harg5 arg6 harg6 arg7 harg7 arg11 arg12 x0 x1 x2 x3 x4 x5 p d _ rfl
    · exact fun d => chunk3 c i arg2 harg2 arg3 harg3 arg4 harg4 arg5 harg5 arg6 harg6 arg7 harg7 arg11 arg12 x0 x1 x2 x3 x4 x5 p d _ rfl
    · exact fun d => chunk4 c i arg2 harg2 arg3 harg3 arg4 harg4 arg5 harg5 arg6 harg6 arg7 harg7 arg11 arg12 x0 x1 x2 x3 x4 x5 p d _ rfl
    · exact fun d => chunk5 c i arg2 harg2 arg3 harg3 arg4 harg4 arg5 harg5 arg6 harg6 arg7 harg7 arg11 arg12 x0 x1 x2 x3 x4 x5 p d _ rfl
    · exact fun d => chunk6 c i arg2 harg2 arg3 harg3 arg4 harg4 arg5 harg5 arg6 harg6 arg7 harg7 arg11 arg12 x0 x1 x2 x3 x4 x5 p d _ rfl
    · intro d
      rw [show kernelRun0_A.sl.r_77 (F := Ideal) c i arg2 harg2 arg3 harg3 arg4 harg4 arg5 harg5 arg11 arg12 x0 x1 x2 x3 (ix2 p d)
        = kernelRun0_A.sl.v1773 (F := Ideal) c i arg2 harg2 arg3 harg3 arg4 harg4 arg5 harg5 arg11 arg12 x0 x1 x2 x3 (ix3 0 p d) by
          unfold kernelRun0_A.sl.r_77
          pointwise [k0_pay90]]
      refine tap_ext c i arg2 harg2 arg3 harg3 arg4 harg4 arg5 harg5 arg6 harg6 arg11 x0 x1 x2 x3 x4 x5 _ _ _ _ _ _ _ _ rfl _ rfl ?_
      iterate 2 refine tap_slot c i arg2 harg2 arg3 harg3 arg4 harg4 arg5 harg5 arg6 harg6 arg11 arg12 x0 x1 x2 x3 x4 x5 _ _ _ _ _ _ _ _ _ rfl _ rfl ?_
      exact chunk7 c i arg2 harg2 arg3 harg3 arg4 harg4 arg5 harg5 arg6 harg6 arg7 harg7 arg11 arg12 x0 x1 x2 x3 x4 x5 p d _ rfl
  rw [key]
  rfl

theorem outs_apply (c : Dev nD) (t : Fin cfg0.N) (p : Fin 128) (q : Fin 1024) :
    outsAt0 m c t (ix3 0 p q) = gated (fun k => acc (grid0.coords t 1).val (X0_0 m c t) (X0_1 m c t) (X0_2 m c t) (X0_3 m c t) (iblk m c 4 t) (iblk m c 5 t) p.val k.val 31)
      (rd2 (iblk m c 6 t) 0 q.val) (rd2 (iblk m c 7 t) 0 q.val) q := by
  unfold outsAt0 out0_A_8
  rw [View.read_writes_eq_canon _ _ _ (cover0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (X0_0 m c t) (X0_1 m c t) (X0_2 m c t) (X0_3 m c t) (iblk m c 4 t) (iblk m c 5 t) (iblk m c 6 t) (iblk m c 7 t))]
  unfold kernelRun0_A
  dsimp only
  rw [View.canon_unit_zero (by decide) _ _]
  exact run_apply c (grid0.coords t) _ _ _ _ _ _ _ _ _ _ _ _ _ _ _ _ _ _ (X0_0 m c t) (X0_1 m c t) (X0_2 m c t) (X0_3 m c t) (iblk m c 4 t) (iblk m c 5 t) (iblk m c 6 t) (iblk m c 7 t) p q

theorem index0 : ∀ t : Fin cfg0.N, win0_0.index t = ![t.val / 64, t.val % 64, 0] := (by decide +kernel : ∀ t : Fin grid0.N, _)
theorem index1 : ∀ t : Fin cfg0.N, win0_1.index t = ![t.val / 64, t.val % 64, 1] := (by decide +kernel : ∀ t : Fin grid0.N, _)
theorem index2 : ∀ t : Fin cfg0.N, win0_2.index t = ![t.val / 64, t.val % 64 * 4 - 1, 0] := (by decide +kernel : ∀ t : Fin grid0.N, _)
theorem index3 : ∀ t : Fin cfg0.N, win0_3.index t = ![t.val / 64, t.val % 64 * 4 - 1, 1] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![0, 0] := (by decide +kernel : ∀ t : Fin grid0.N, _)
theorem index8 : ∀ t : Fin cfg0.N, win0_8.index t = ![t.val / 64, t.val % 64, 0] := (by decide +kernel : ∀ t : Fin grid0.N, _)
theorem step_number : ∀ t : Fin cfg0.N, (grid0.coords t 1).val = t.val % 64 := (by decide +kernel : ∀ t : Fin grid0.N, _)

/-- What the host leaves for the kernel: the taps with a row of zeros below, and the vectors as rows. -/
theorem V_taps (c : Dev nD) : V m c main_v1 = concatenate S32x1024 0 [⟨S31x1024, m ((c : Thread nD τ).loc main_arg1)⟩,
    ⟨S1x1024, broadcastInDim S1x1024 ![] bcast_S_S1x1024 (constant (F := Ideal) S_ .f32 0x00000000#32)⟩] concatenates_S31x1024_S1x1024_S32x1024_d0 := by
  unfold_abbrev_sides
  after_results
theorem V_bias (c : Dev nD) : V m c main_v2 = shapeCast S1x1024 (m ((c : Thread nD τ).loc main_arg2)) shapeCasts_S1024_S1x1024 := by
  unfold_abbrev_sides
  after_results
  rfl
theorem V_scale (c : Dev nD) : V m c main_v3 = shapeCast S1x1024 (m ((c : Thread nD τ).loc main_arg3)) shapeCasts_S1024_S1x1024 := by
  unfold_abbrev_sides
  after_results
  rfl
theorem V_shift (c : Dev nD) : V m c main_v4 = shapeCast S1x1024 (m ((c : Thread nD τ).loc main_arg4)) shapeCasts_S1024_S1x1024 := by
  unfold_abbrev_sides
  after_results
  rfl

/-- A vector held as a row. -/
theorem as_row (x : Vec Ideal S1024 .f32) (q : Fin 1024) : shapeCast S1x1024 x shapeCasts_S1024_S1x1024 (ix2 0 q) = x (ix1 q) := by
  pointwise []

theorem read4 (c : Dev nD) (t : Fin cfg0.N) (k q : Nat) (hk : k < 31) (hq : q < 1024) :
    rd2 (iblk m c 4 t) k q = rd2 (m ((c : Thread nD τ).loc main_arg1)) k q := by
  rw [rd2_eq (iblk m c 4 t) (ix2 ⟨k, by omega⟩ ⟨q, hq⟩) k q rfl rfl, rd2_eq (m ((c : Thread nD τ).loc main_arg1)) (ix2 ⟨k, hk⟩ ⟨q, hq⟩) k q rfl rfl]
  refine Eq.trans (b := V m c main_v1 (ix2 ⟨k, by omega⟩ ⟨q, hq⟩)) ?_ ?_
  · blk_simp [iblk]
    refine congrArg (V m c main_v1) ?_
    blk_ext [index4]
  · rw [V_taps]
    pointwise []
    rw [dif_pos hk]
theorem read5 (c : Dev nD) (t : Fin cfg0.N) (q : Fin 1024) : rd2 (iblk m c 5 t) 0 q.val = m ((c : Thread nD τ).loc main_arg2) (ix1 q) := by
  rw [rd2_eq (iblk m c 5 t) (ix2 0 q) 0 q.val rfl rfl]
  refine Eq.trans (b := V m c main_v2 (ix2 0 q)) ?_ ?_
  · blk_simp [iblk]
    refine congrArg (V m c main_v2) ?_
    blk_ext [index5]
  · rw [V_bias]
    exact as_row _ q
theorem read6 (c : Dev nD) (t : Fin cfg0.N) (q : Fin 1024) : rd2 (iblk m c 6 t) 0 q.val = m ((c : Thread nD τ).loc main_arg3) (ix1 q) := by
  rw [rd2_eq (iblk m c 6 t) (ix2 0 q) 0 q.val rfl rfl]
  refine Eq.trans (b := V m c main_v3 (ix2 0 q)) ?_ ?_
  · blk_simp [iblk]
    refine congrArg (V m c main_v3) ?_
    blk_ext [index6]
  · rw [V_scale]
    exact as_row _ q
theorem read7 (c : Dev nD) (t : Fin cfg0.N) (q : Fin 1024) : rd2 (iblk m c 7 t) 0 q.val = m ((c : Thread nD τ).loc main_arg4) (ix1 q) := by
  rw [rd2_eq (iblk m c 7 t) (ix2 0 q) 0 q.val rfl rfl]
  refine Eq.trans (b := V m c main_v4 (ix2 0 q)) ?_ ?_
  · blk_simp [iblk]
    refine congrArg (V m c main_v4) ?_
    blk_ext [index7]
  · rw [V_shift]
    exact as_row _ q

theorem read0 (c : Dev nD) (t : Fin cfg0.N) (e q : Nat) (he : e < 128) (hq : q < 1024) :
    rd (X0_0 m c t) 0 e q = rd (m ((c : Thread nD τ).loc main_arg0)) (t.val / 64) (t.val % 64 * 128 + e) q := by
  have ht : t.val < 128 := t.isLt
  rw [rd_at (X0_0 m c t) 0 e q (by omega) he hq, rd_at (m ((c : Thread nD τ).loc main_arg0)) (t.val / 64) (t.val % 64 * 128 + e) q (by omega) (by omega) (by omega)]
  unfold X0_0 Pipeline.Window.fill
  rw [dif_pos (moved0_0 t _)]
  refine Eq.trans ?_ (congrFun (V_main_arg0 m c) _)
  blk_simp [iblk]
  refine congrArg (V m c main_arg0) ?_
  blk_ext [index0]
theorem read1 (c : Dev nD) (t : Fin cfg0.N) (e q : Nat) (he : e < 128) (hq : q < 1024) :
    rd (X0_1 m c t) 0 e q = rd (m ((c : Thread nD τ).loc main_arg0)) (t.val / 64) (t.val % 64 * 128 + e) (1024 + q) := by
  have ht : t.val < 128 := t.isLt
  rw [rd_at (X0_1 m c t) 0 e q (by omega) he hq, rd_at (m ((c : Thread nD τ).loc main_arg0)) (t.val / 64) (t.val % 64 * 128 + e) (1024 + q) (by omega) (by omega) (by omega)]
  unfold X0_1 Pipeline.Window.fill
  rw [dif_pos (moved0_1 t _)]
  refine Eq.trans ?_ (congrFun (V_main_arg0 m c) _)
  blk_simp [iblk]
  refine congrArg (V m c main_arg0) ?_
  blk_ext [index1]
theorem read2 (c : Dev nD) (t : Fin cfg0.N) (e q : Nat) (he : e < 32) (hq : q < 1024) :
    rd (X0_2 m c t) 0 e q = rd (m ((c : Thread nD τ).loc main_arg0)) (t.val / 64) ((t.val % 64 * 4 - 1) * 32 + e) q := by
  have ht : t.val < 128 := t.isLt
  rw [rd_at (X0_2 m c t) 0 e q (by omega) he hq, rd_at (m ((c : Thread nD τ).loc main_arg0)) (t.val / 64) ((t.val % 64 * 4 - 1) * 32 + e) q (by omega) (by omega) (by omega)]
  unfold X0_2 Pipeline.Window.fill
  rw [dif_pos (moved0_2 t _)]
  refine Eq.trans ?_ (congrFun (V_main_arg0 m c) _)
  blk_simp [iblk]
  refine congrArg (V m c main_arg0) ?_
  blk_ext [index2]
theorem read3 (c : Dev nD) (t : Fin cfg0.N) (e q : Nat) (he : e < 32) (hq : q < 1024) :
    rd (X0_3 m c t) 0 e q = rd (m ((c : Thread nD τ).loc main_arg0)) (t.val / 64) ((t.val % 64 * 4 - 1) * 32 + e) (1024 + q) := by
  have ht : t.val < 128 := t.isLt
  rw [rd_at (X0_3 m c t) 0 e q (by omega) he hq, rd_at (m ((c : Thread nD τ).loc main_arg0)) (t.val / 64) ((t.val % 64 * 4 - 1) * 32 + e) (1024 + q) (by omega) (by omega) (by omega)]
  unfold X0_3 Pipeline.Window.fill
  rw [dif_pos (moved0_3 t _)]
  refine Eq.trans ?_ (congrFun (V_main_arg0 m c) _)
  blk_simp [iblk]
  refine congrArg (V m c main_arg0) ?_
  blk_ext [index3]

/-- The gated product 30 rows up, 0 above the sequence's first row. -/
def past (h : S2x8192x2560.Idx → EReal) (b e q : Nat) : EReal :=
  if 30 ≤ e then rd h b (e - 30) q * Ideal.logistic (rd h b (e - 30) (1024 + q)) else 0

/-- The convolution's running sum after `n` taps. -/
def conv (h : S2x8192x2560.Idx → EReal) (w : S31x1024.Idx → EReal) (z : S1024.Idx → EReal) (b r : Nat) (q : Fin 1024) : Nat → EReal
  | 0 => z (ix1 q)
  | k + 1 => conv h w z b r q k + rd2 w k q.val * past h b (r + k) q.val

theorem ext_past (c : Dev nD) (t : Fin cfg0.N) (p k q : Nat) (hp : p < 128) (hk : k < 31) (hq : q < 1024) :
    ext (grid0.coords t 1).val (X0_0 m c t) (X0_1 m c t) (X0_2 m c t) (X0_3 m c t) (k + 2 + p) q
      = past (m ((c : Thread nD τ).loc main_arg0)) (t.val / 64) (t.val % 64 * 128 + p + k) q := by
  unfold ext past glu
  rw [step_number]
  by_cases h1 : k + 2 + p < 32
  · rw [if_pos h1]
    by_cases h2 : 0 < t.val % 64
    · rw [if_pos h2, if_pos (by omega), read2 m c t _ q h1 hq, read3 m c t _ q h1 hq,
        show (t.val % 64 * 4 - 1) * 32 + (k + 2 + p) = t.val % 64 * 128 + p + k - 30 by omega]
    · rw [if_neg h2, if_neg (by omega)]
  · rw [if_neg h1, if_pos (by omega), read0 m c t _ q (by omega) hq, read1 m c t _ q (by omega) hq,
      show t.val % 64 * 128 + (k + 2 + p - 32) = t.val % 64 * 128 + p + k - 30 by omega]

theorem acc_conv (c : Dev nD) (t : Fin cfg0.N) (p : Nat) (q : Fin 1024) (hp : p < 128) : ∀ n : Nat, n ≤ 31 →
    acc (grid0.coords t 1).val (X0_0 m c t) (X0_1 m c t) (X0_2 m c t) (X0_3 m c t) (iblk m c 4 t) (iblk m c 5 t) p q.val n
      = conv (m ((c : Thread nD τ).loc main_arg0)) (m ((c : Thread nD τ).loc main_arg1)) (m ((c : Thread nD τ).loc main_arg2)) (t.val / 64) (t.val % 64 * 128 + p) q n
  | 0, _ => read5 m c t q
  | n + 1, h => by
    show acc _ _ _ _ _ _ _ _ _ n + rd2 _ _ _ * ext _ _ _ _ _ _ _ = conv _ _ _ _ _ _ n + rd2 _ _ _ * past _ _ _ _
    rw [acc_conv c t p q hp n (by omega), ext_past m c t p n q.val hp (by omega) q.isLt, read4 m c t n q.val (by omega) q.isLt]

/-- The gated convolution of a sequence, normalised and gated by its own logistic. -/
def gatedConv (h : S2x8192x2560.Idx → EReal) (w : S31x1024.Idx → EReal) (z g s : S1024.Idx → EReal) (i : S2x8192x1024.Idx) : EReal :=
  gated (fun k => conv h w z (i 0).val (i 1).val k 31) (g (ix1 (i 2))) (s (ix1 (i 2))) (i 2)

/-- The block of the result a grid point leaves. -/
theorem out_apply (c : Dev nD) (t : Fin cfg0.N) (y : S1x128x1024.Idx) (i : S2x8192x1024.Idx)
    (h0 : (i 0).val = t.val / 64 + (y 0).val) (h1 : (i 1).val = t.val % 64 * 128 + (y 1).val) (h2 : (i 2).val = (y 2).val) :
    outsAt0 m c t y = gatedConv (m ((c : Thread nD τ).loc main_arg0)) (m ((c : Thread nD τ).loc main_arg1)) (m ((c : Thread nD τ).loc main_arg2)) (m ((c : Thread nD τ).loc main_arg3)) (m ((c : Thread nD τ).loc main_arg4)) i := by
  have hy0 : (y 0).val < 1 := (y 0).isLt
  have hp : (y 1).val < 128 := (y 1).isLt
  have hq : (y 2).val < 1024 := (y 2).isLt
  have hy : y = ix3 0 (⟨(y 1).val, hp⟩ : Fin 128) (⟨(y 2).val, hq⟩ : Fin 1024) := by
    funext a
    match a with
    | ⟨0, _⟩ => exact Fin.ext (show (y 0).val = 0 by omega)
    | ⟨1, _⟩ => rfl
    | ⟨2, _⟩ => rfl
  have hi : (i 2 : Fin 1024) = ⟨(y 2).val, hq⟩ := Fin.ext h2
  rw [hy, outs_apply]
  unfold gatedConv
  rw [hi, read6, read7, show (i 0).val = t.val / 64 by omega, h1]
  refine congrArg (fun f => gated f _ _ _) (funext fun k => ?_)
  exact acc_conv m c t (y 1).val k hp 31 (le_refl _)

/-- The kernel's result array. -/
theorem final_o (c : Dev nD) : (dats m 0 c).arrAt 8 cfg0.N = gatedConv (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t hf y => ?_
  blk_simp
  rw [after0_8]
  refine out_apply m c t y _ ?_ ?_ ?_ <;> blk_simp [index8]
end Cert.GluCols
end
-- ==== Proof.GluRef.lean ====
module
public import proofs.«01_k».proof.Defs
public import proofs.«01_k».proof.Proof.GluValue
public import proofs.«01_k».proof.Proof.CompressRef
public import proofs.«01_k».proof.Proof.Gen.GluRefIdeal.Read
public import proofs.«01_k».proof.Proof.Gen.GluRefIdeal.Run
public import Idealize.ShloMosaic.Lib.KernelVsHost
@[expose] public section
noncomputable section
/-! The gated convolution: the reference's result, and the two programs' agreement. -/
namespace Cert.GluCols
open Idealize.ShloMosaic Idealize.ShloMosaic.TcCoe Idealize.SL.Sem
open Cert.GluRefIdeal Cert.GluRefIdeal.Read
open Cert.CompressCols (rd rd_eq rd_at one_bits)

/-- The gather of the shifted rows, at an index: the operand at the clamped row. -/
theorem rows_apply (x : S2x8222x1024.Idx → EReal) (idx : IVec S8192x31x1 32) (y : S2x8192x31x1024.Idx) (r : Fin 8222)
    (hr : r.val = min (idx (ix3 (y 1) (y 2) 0)).toInt.toNat 8221) :
    Host.gather gather_S2x8222x1024_S8192x31x1_S2x8192x31x1024_03_1_n_n_1_2_211024 x idx y = x (ix3 (y 0) r (y 3)) := by
  unfold Host.gather
  refine congrArg x (funext fun a => Fin.ext ?_)
  match a with
  | ⟨0, _⟩ =>
    show GatherDims.start _ y idx 0 + GatherDims.batchCoord _ y 0 + GatherDims.offCoord _ y 0 = _
    rw [GatherDims.batchCoord_eq_zero _ _ _ List.not_mem_nil]
    unfold GatherDims.start
    rw [dif_neg (by decide)]
    simp only [Nat.add_zero, Nat.zero_add]
    rfl
  | ⟨1, _⟩ =>
    show GatherDims.start _ y idx 1 + GatherDims.batchCoord _ y 1 + GatherDims.offCoord _ y 1 = r.val
    rw [GatherDims.batchCoord_eq_zero _ _ _ List.not_mem_nil,
      GatherDims.offCoord_eq_zero _ _ _ (fun h => ((GatherDims.mem_sKept _ _).mp h).1 (List.mem_singleton.mpr rfl)), hr]
    simp only [Nat.add_zero]
    unfold GatherDims.start
    rw [dif_pos (by decide)]
    refine congrArg (fun z => min (idx z).toInt.toNat 8221) (funext fun b => Fin.ext ?_)
    match b with
    | ⟨0, _⟩ => rfl
    | ⟨1, _⟩ => rfl
    | ⟨2, _⟩ => rfl
  | ⟨2, _⟩ =>
    show GatherDims.start _ y idx 2 + GatherDims.batchCoord _ y 2 + GatherDims.offCoord _ y 2 = _
    rw [GatherDims.batchCoord_eq_zero _ _ _ List.not_mem_nil]
    unfold GatherDims.start
    rw [dif_neg (by decide)]
    simp only [Nat.add_zero, Nat.zero_add]
    rfl

theorem word_eq : ∀ n : Fin 8222,
    min (Scalar.select (IntOp.cmpi .slt (BitVec.ofNat 32 n.val) 0#32) (IntOp.addi (BitVec.ofNat 32 n.val) 8222#32) (BitVec.ofNat 32 n.val)).toInt.toNat 8221 = n.val := by
  decide +kernel

theorem row_start (r : Fin 8192) (k : Fin 31) : min (val_main_v22 (F := Ideal) (ix3 r k 0)).toInt.toNat 8221 = r.val + k.val := by
  have hr := r.isLt
  have hk := k.isLt
  have e : IntOp.addi (BitVec.ofNat 32 r.val) (BitVec.ofNat 32 k.val) = BitVec.ofNat 32 (r.val + k.val) := by
    rw [BitVec.ofNat_add]
    rfl
  refine Eq.trans ?_ (word_eq ⟨r.val + k.val, by omega⟩)
  show _ = min (Scalar.select (IntOp.cmpi .slt (BitVec.ofNat 32 (r.val + k.val)) 0#32) (IntOp.addi (BitVec.ofNat 32 (r.val + k.val)) 8222#32) (BitVec.ofNat 32 (r.val + k.val))).toInt.toNat 8221
  rw [← e]
  simp only [val_main_v22_apply, val_main_v21_apply, val_main_v20_apply, val_main_v19_apply, val_main_v18_apply, val_main_v17_apply, val_main_v16_apply, val_main_v15_apply, val_main_v14_apply, val_main_v13_apply, val_main_v12_apply, val_main_v11_apply, val_main_v10_apply, val_main_c_1_apply, val_main_c_2_apply]
  rfl

/-- The gated product. -/
theorem product_apply (h : S2x8192x2560.Idx → EReal) (i : S2x8192x1024.Idx) :
    val_main_v8 (F := Ideal) h i = rd h (i 0).val (i 1).val (i 2).val * Ideal.logistic (rd h (i 0).val (i 1).val (1024 + (i 2).val)) := by
  rw [val_main_v8_apply]
  refine congrArg₂ (· * ·) ?_ ?_
  · rw [val_main_v0_apply]
    refine (rd_eq _ _ _ _ _ ?_ ?_ ?_).symm <;> simp
  · rw [val_main_v7_apply, val_main_v6_apply, val_main_cst_0_apply, val_main_v5_apply, val_main_v4_apply, val_main_cst_apply, val_main_v3_apply, val_main_v2_apply, val_main_v1_apply]
    show Ideal.div (Ideal.ofBits .f32 0x3F800000#32) (Ideal.ofBits .f32 0x3F800000#32 + Ideal.exp (-h _)) = _
    rw [one_bits, rd_eq h (idx_main_v1 i) (i 0).val (i 1).val (1024 + (i 2).val) (by simp) (by simp) (by simp)]
    rfl

/-- The padded product: 30 rows of zeros, then the product's rows. -/
theorem padded_apply (h : S2x8192x2560.Idx → EReal) (i : S2x8222x1024.Idx) :
    val_main_v9 (F := Ideal) h i = past h (i 0).val (i 1).val (i 2).val := by
  have h1 : (i 1).val < 8222 := (i 1).isLt
  unfold val_main_v9 past
  by_cases hi : 30 ≤ (i 1).val
  · rw [if_pos hi]
    refine Eq.trans (pad_apply_of_inside (s := S2x8192x1024) (t := S2x8222x1024) ![0, 30, 0] ![0, 0, 0] ![0, 0, 0] _ _ _ _ i
      (ix3 (i 0) (⟨(i 1).val - 30, by omega⟩ : Fin 8192) (i 2)) (fun a => ?_)) ?_
    · match a with
      | ⟨0, _⟩ => show (i 0).val = 0 + (i 0).val * (0 + 1); omega
      | ⟨1, _⟩ => show (i 1).val = 30 + ((i 1).val - 30) * (0 + 1); omega
      | ⟨2, _⟩ => show (i 2).val = 0 + (i 2).val * (0 + 1); omega
    · exact product_apply h _
  · rw [if_neg hi]
    refine Eq.trans (pad_apply_of_not_inside (s := S2x8192x1024) (t := S2x8222x1024) ![0, 30, 0] ![0, 0, 0] ![0, 0, 0] _ _ _ _ i 1 (fun hin => hi ?_)) ?_
    · have h2 : 30 ≤ (i 1).val := hin.1
      omega
    · show ((((0#32 : BitVec 32).toInt : ℝ)) : EReal) = 0
      simp

/-- The running sum is the bias plus the sum over the taps. -/
theorem conv_sum (h : S2x8192x2560.Idx → EReal) (w : S31x1024.Idx → EReal) (z : S1024.Idx → EReal) (b r : Nat) (q : Fin 1024) : ∀ n : Nat,
    conv h w z b r q n = z (ix1 q) + ∑ k : Fin n, rd2 w k.val q.val * past h b (r + k.val) q.val
  | 0 => by
    rw [Fin.sum_univ_zero, add_zero]
    rfl
  | n + 1 => by
    rw [Fin.sum_univ_castSucc, ← add_assoc]
    show conv h w z b r q n + _ = _
    rw [conv_sum h w z b r q n]
    rfl

/-- The reference's convolution. -/
theorem conv_apply (h : S2x8192x2560.Idx → EReal) (w : S31x1024.Idx → EReal) (z : S1024.Idx → EReal) (i : S2x8192x1024.Idx) :
    val_main_v30 (F := Ideal) h w z i = conv h w z (i 0).val (i 1).val (i 2) 31 := by
  have h1 : (i 1).val < 8192 := (i 1).isLt
  refine Eq.trans ?_ ((add_comm _ _).trans (conv_sum h w z (i 0).val (i 1).val (i 2) 31).symm)
  rw [val_main_v30_apply]
  refine congrArg₂ (· + ·) ?_ ?_
  · rw [val_main_v27_apply, val_main_cst_3_apply]
    refine Eq.trans (b := (0 : EReal) + _) (congrArg (· + _) Ideal.ofBits_zero_f32) ?_
    rw [zero_add]
    refine Finset.sum_congr rfl fun k _ => ?_
    have hk := k.isLt
    rw [val_main_v26_apply, mul_comm (rd2 w _ _)]
    refine congrArg₂ (· * ·) ?_ ?_
    · unfold val_main_v23
      refine Eq.trans (rows_apply _ (val_main_v22 (F := Ideal)) (idx_main_v27 i k) (⟨(i 1).val + k.val, by omega⟩ : Fin 8222) (row_start ⟨(i 1).val, h1⟩ k).symm) ?_
      exact padded_apply h _
    · rw [val_main_v25_apply, val_main_v24_apply]
      exact (rd2_eq _ _ _ _ rfl rfl).symm
  · rw [val_main_v29_apply, val_main_v28_apply]
    refine congrArg z (funext fun a => ?_)
    match a with
    | ⟨0, _⟩ => rfl

/-- The mean of a row of the reference's convolution, and of its squared distance from the mean. -/
theorem mean_apply (h : S2x8192x2560.Idx → EReal) (w : S31x1024.Idx → EReal) (z : S1024.Idx → EReal) (i : S2x8192x1.Idx) :
    val_main_v34 (F := Ideal) h w z i = mean (fun k => conv h w z (i 0).val (i 1).val k 31) := by
  rw [val_main_v34_apply, val_main_v33_apply, val_main_cst_5_apply, val_main_v32_apply, val_main_v31_apply, val_main_cst_4_apply]
  refine congrArg (fun e => Ideal.div e (Ideal.ofBits .f32 0x44800000#32)) ?_
  refine Eq.trans (b := (0 : EReal) + _) (congrArg (· + _) Ideal.ofBits_zero_f32) ?_
  rw [zero_add]
  exact Finset.sum_congr rfl fun k _ => conv_apply h w z _

theorem spread_apply (h : S2x8192x2560.Idx → EReal) (w : S31x1024.Idx → EReal) (z : S1024.Idx → EReal) (i : S2x8192x1.Idx) :
    val_main_v41 (F := Ideal) h w z i = mean (fun k =>
      (conv h w z (i 0).val (i 1).val k 31 - mean (fun k => conv h w z (i 0).val (i 1).val k 31))
        * (conv h w z (i 0).val (i 1).val k 31 - mean (fun k => conv h w z (i 0).val (i 1).val k 31))) := by
  rw [val_main_v41_apply, val_main_v40_apply, val_main_cst_7_apply, val_main_v39_apply, val_main_v38_apply, val_main_cst_6_apply]
  refine congrArg (fun e => Ideal.div e (Ideal.ofBits .f32 0x44800000#32)) ?_
  refine Eq.trans (b := (0 : EReal) + _) (congrArg (· + _) Ideal.ofBits_zero_f32) ?_
  rw [zero_add]
  refine Finset.sum_congr rfl fun k _ => ?_
  have e : val_main_v36 (F := Ideal) h w z (idx_main_v38 (idx_main_v39 i) k)
      = conv h w z (i 0).val (i 1).val k 31 - mean (fun k => conv h w z (i 0).val (i 1).val k 31) := by
    rw [val_main_v36_apply, val_main_v35_apply, conv_apply, mean_apply]
    rfl
  rw [val_main_v37_apply, e]
  rfl

/-- The reference's normalised row. -/
theorem normed_apply (h : S2x8192x2560.Idx → EReal) (w : S31x1024.Idx → EReal) (z g s : S1024.Idx → EReal) (i : S2x8192x1024.Idx) :
    val_main_v54 (F := Ideal) h w z g s i = normed (fun k => conv h w z (i 0).val (i 1).val k 31) (g (ix1 (i 2))) (s (ix1 (i 2))) (i 2) := by
  rw [val_main_v54_apply, val_main_v51_apply, val_main_v48_apply, val_main_v47_apply, val_main_v46_apply, val_main_v45_apply, val_main_v44_apply, val_main_cst_8_apply,
    val_main_v43_apply, val_main_v42_apply, conv_apply, mean_apply, spread_apply, val_main_v53_apply, val_main_v52_apply, val_main_v50_apply, val_main_v49_apply]
  have e : ∀ v : S1024.Idx → EReal, v (idx_main_v49 (idx_main_v50 i)) = v (ix1 (i 2)) := fun v => congrArg v (funext fun a => by
    match a with
    | ⟨0, _⟩ => rfl)
  have e' : ∀ v : S1024.Idx → EReal, v (idx_main_v52 (idx_main_v53 i)) = v (ix1 (i 2)) := fun v => congrArg v (funext fun a => by
    match a with
    | ⟨0, _⟩ => rfl)
  rw [e g, e' s]
  rfl

theorem silu_eq (n : EReal) : n * Ideal.div (Ideal.ofBits .f32 0x3F800000#32) (Ideal.ofBits .f32 0x3F800000#32 + Ideal.exp (-n)) = n * Ideal.logistic n := by
  rw [one_bits]
  rfl

/-- The reference's result array. -/
theorem reference_apply (h : S2x8192x2560.Idx → EReal) (w : S31x1024.Idx → EReal) (z g s : S1024.Idx → EReal) (i : S2x8192x1024.Idx) :
    val_main_v56 (F := Ideal) h w z g s i = gatedConv h w z g s i := by
  rw [val_main_v56_apply]
  show val_main_v55 (F := Ideal) h w z g s i = _
  rw [val_main_v55_apply, val_main_call1_v5_apply, val_main_call1_v4_apply, val_main_call1_cst_0_apply, val_main_call1_v3_apply, val_main_call1_v2_apply, val_main_call1_cst_apply,
    val_main_call1_v1_apply, val_main_call1_v0_apply, normed_apply]
  exact silu_eq _

/-- At the ideal instance the kernel's gated convolution and the reference's agree. -/
theorem algebraic : Cert.algebraic_GluIdeal_GluRefIdeal := by
  pair_intro
  · run_from Cert.GluIdeal.Value.run_blocks m g
  · refine θ_run_mono (Cert.GluRefIdeal.Value.run m' g') ?_
    intro r hr c
    refine ⟨(hr c).1.trans ?_, (hr c).2⟩
    rw [Cert.GluCols.final_o m c, val_main_v56_eq, (hagree c).1, (hagree c).2.1, (hagree c).2.2.1, (hagree c).2.2.2.1, (hagree c).2.2.2.2]
    funext i
    exact reference_apply _ _ _ _ _ i
end Cert.GluCols
end
-- ==== Proof.lean ====
module

public import proofs.«01_k».proof.Defs
public import proofs.«01_k».proof.Proof.Gen.Swa
public import proofs.«01_k».proof.Proof.Gen.Swa.Skeleton
public import proofs.«01_k».proof.Proof.Gen.Swa.Launch
public import proofs.«01_k».proof.Proof.Gen.Swa.Points
public import proofs.«01_k».proof.Proof.Gen.Swa.Frame
public import proofs.«01_k».proof.Proof.Gen.SwaIdeal
public import proofs.«01_k».proof.Proof.Gen.SwaIdeal.Skeleton
public import proofs.«01_k».proof.Proof.Gen.SwaIdeal.Launch
public import proofs.«01_k».proof.Proof.Gen.SwaIdeal.Points
public import proofs.«01_k».proof.Proof.Gen.SwaIdeal.Frame
public import proofs.«01_k».proof.Proof.Gen.SwaRefIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.Pre_swa_finite
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvRefIdeal
public import proofs.«01_k».proof.Proof.Gen.Cmp
public import proofs.«01_k».proof.Proof.Gen.Cmp.Skeleton
public import proofs.«01_k».proof.Proof.Gen.Cmp.Launch
public import proofs.«01_k».proof.Proof.Gen.Cmp.Points
public import proofs.«01_k».proof.Proof.Gen.Cmp.Frame
public import proofs.«01_k».proof.Proof.Gen.CmpIdeal
public import proofs.«01_k».proof.Proof.Gen.CmpIdeal.Skeleton
public import proofs.«01_k».proof.Proof.Gen.CmpIdeal.Launch
public import proofs.«01_k».proof.Proof.Gen.CmpIdeal.Points
public import proofs.«01_k».proof.Proof.Gen.CmpIdeal.Frame
public import proofs.«01_k».proof.Proof.Gen.CmpRefIdeal
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvRefIdeal
public import proofs.«01_k».proof.Proof.Gen.Compress
public import proofs.«01_k».proof.Proof.Gen.Compress.Skeleton
public import proofs.«01_k».proof.Proof.Gen.Compress.Launch
public import proofs.«01_k».proof.Proof.Gen.Compress.Points
public import proofs.«01_k».proof.Proof.Gen.Compress.Frame
public import proofs.«01_k».proof.Proof.Gen.CompressIdeal
public import proofs.«01_k».proof.Proof.Gen.CompressIdeal.Skeleton
public import proofs.«01_k».proof.Proof.Gen.CompressIdeal.Launch
public import proofs.«01_k».proof.Proof.Gen.CompressIdeal.Points
public import proofs.«01_k».proof.Proof.Gen.CompressIdeal.Frame
public import proofs.«01_k».proof.Proof.Gen.CompressRefIdeal
public import proofs.«01_k».proof.Proof.Gen.QkvIdeal.Value
public import proofs.«01_k».proof.Proof.Gen.QkvRefIdeal.Run
public import proofs.«01_k».proof.Proof.Gen.QkvRefIdeal.Read
public import proofs.«01_k».proof.Proof.Gen.CmpIdeal.Value
public import proofs.«01_k».proof.Proof.Gen.CmpRefIdeal.Run
public import proofs.«01_k».proof.Proof.Gen.CmpRefIdeal.Read
public import proofs.«01_k».proof.Proof.Gen.ConvIdeal.Value
public import proofs.«01_k».proof.Proof.Gen.ConvRefIdeal.Run
public import proofs.«01_k».proof.Proof.Gen.ConvRefIdeal.Read
public import proofs.«01_k».proof.Proof.Gen.CompressIdeal.Value
public import proofs.«01_k».proof.Proof.Gen.CompressRefIdeal.Run
public import proofs.«01_k».proof.Proof.Gen.CompressRefIdeal.Read
public import proofs.«01_k».proof.Proof.Gen.SwaIdeal.Value
public import proofs.«01_k».proof.Proof.Gen.SwaRefIdeal.Run
public import proofs.«01_k».proof.Proof.Gen.SwaRefIdeal.Read
public import proofs.«01_k».proof.Proof.Gen.FfnIdeal.Value
public import proofs.«01_k».proof.Proof.Gen.FfnRefIdeal.Run
public import proofs.«01_k».proof.Proof.Gen.FfnRefIdeal.Read
public import proofs.«01_k».proof.Proof.SwaRef
public import proofs.«01_k».proof.Proof.FfnRef
public import proofs.«01_k».proof.Proof.QkvRef
public import proofs.«01_k».proof.Proof.CmpRef
public import proofs.«01_k».proof.Proof.ConvRef
public import proofs.«01_k».proof.Proof.CompressRef
public import proofs.«01_k».proof.Proof.Gen.Glu
public import proofs.«01_k».proof.Proof.Gen.Glu.Skeleton
public import proofs.«01_k».proof.Proof.Gen.Glu.Launch
public import proofs.«01_k».proof.Proof.Gen.Glu.Points
public import proofs.«01_k».proof.Proof.Gen.Glu.Frame
public import proofs.«01_k».proof.Proof.Gen.GluIdeal
public import proofs.«01_k».proof.Proof.Gen.GluIdeal.Skeleton
public import proofs.«01_k».proof.Proof.Gen.GluIdeal.Launch
public import proofs.«01_k».proof.Proof.Gen.GluIdeal.Points
public import proofs.«01_k».proof.Proof.Gen.GluIdeal.Frame
public import proofs.«01_k».proof.Proof.Gen.GluRefIdeal
public import proofs.«01_k».proof.Proof.Gen.GluIdeal.Value
public import proofs.«01_k».proof.Proof.Gen.GluRefIdeal.Run
public import proofs.«01_k».proof.Proof.Gen.GluRefIdeal.Read
public import proofs.«01_k».proof.Proof.GluRef
public import Idealize.ShloMosaic.Adequacy
public import Idealize.ShloMosaic.Init

@[expose] public section

noncomputable section

namespace Cert.Proof

open Idealize.ShloMosaic Idealize.SL.Sem Cert.Swa

/-- The attention's reference runs, leaves its arguments as they were and no semaphore counting. -/
theorem swa_reference_frame (m : (ℓ : Loc Cert.SwaRefIdeal.nD Cert.SwaRefIdeal.τ Cert.SwaRefIdeal.sig) → Buf (Elt Ideal) ℓ) (ρ : Dev Cert.SwaRefIdeal.nD → PrngReg) :
    θ_run (Cert.SwaRefIdeal.defs (F := Ideal)) (onTc (τ := Cert.SwaRefIdeal.τ) (Cert.SwaRefIdeal.main (F := Ideal))) ⟨m, fun _ => 0, ρ⟩ (fun r =>
      (∀ c : Dev Cert.SwaRefIdeal.nD,
        r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
        ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1))
      ∧ r.2.sem = fun _ => 0) :=
  (θ_run Cert.SwaRefIdeal.defs _ _).mono (fun r h => ⟨fun c => ⟨(h c).2.1, (h c).2.2⟩, sem_eq_zero_of_no_sems (by decide) r.2⟩) (Cert.SwaRefIdeal.Value.run m ρ)

/-- The up-projection's reference runs, leaves its arguments as they were and no semaphore counting. -/
theorem ffn_reference_frame (m : (ℓ : Loc Cert.FfnRefIdeal.nD Cert.FfnRefIdeal.τ Cert.FfnRefIdeal.sig) → Buf (Elt Ideal) ℓ) (ρ : Dev Cert.FfnRefIdeal.nD → PrngReg) :
    θ_run (Cert.FfnRefIdeal.defs (F := Ideal)) (onTc (τ := Cert.FfnRefIdeal.τ) (Cert.FfnRefIdeal.main (F := Ideal))) ⟨m, fun _ => 0, ρ⟩ (fun r =>
      (∀ c : Dev Cert.FfnRefIdeal.nD,
        r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
        ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1))
      ∧ r.2.sem = fun _ => 0) :=
  (θ_run Cert.FfnRefIdeal.defs _ _).mono (fun r h => ⟨fun c => ⟨(h c).2.1, (h c).2.2⟩, sem_eq_zero_of_no_sems (by decide) r.2⟩) (Cert.FfnRefIdeal.Value.run m ρ)

/-- The input projection's reference for its query, key and value columns runs, leaves its arguments as they were and no semaphore counting. -/
theorem qkv_reference_frame (m : (ℓ : Loc Cert.QkvRefIdeal.nD Cert.QkvRefIdeal.τ Cert.QkvRefIdeal.sig) → Buf (Elt Ideal) ℓ) (ρ : Dev Cert.QkvRefIdeal.nD → PrngReg) :
    θ_run (Cert.QkvRefIdeal.defs (F := Ideal)) (onTc (τ := Cert.QkvRefIdeal.τ) (Cert.QkvRefIdeal.main (F := Ideal))) ⟨m, fun _ => 0, ρ⟩ (fun r =>
      (∀ c : Dev Cert.QkvRefIdeal.nD,
        r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
        ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
        ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2))
      ∧ r.2.sem = fun _ => 0) :=
  (θ_run Cert.QkvRefIdeal.defs _ _).mono (fun r h => ⟨fun c => ⟨(h c).2.1, (h c).2.2.1, (h c).2.2.2⟩, sem_eq_zero_of_no_sems (by decide) r.2⟩) (Cert.QkvRefIdeal.Value.run m ρ)

/-- The input projection's reference for its columns for compression runs, leaves its arguments as they were and no semaphore counting. -/
theorem cmp_reference_frame (m : (ℓ : Loc Cert.CmpRefIdeal.nD Cert.CmpRefIdeal.τ Cert.CmpRefIdeal.sig) → Buf (Elt Ideal) ℓ) (ρ : Dev Cert.CmpRefIdeal.nD → PrngReg) :
    θ_run (Cert.CmpRefIdeal.defs (F := Ideal)) (onTc (τ := Cert.CmpRefIdeal.τ) (Cert.CmpRefIdeal.main (F := Ideal))) ⟨m, fun _ => 0, ρ⟩ (fun r =>
      (∀ c : Dev Cert.CmpRefIdeal.nD,
        r.2.mem ((c.tc : Thread Cert.CmpRefIdeal.nD Cert.CmpRefIdeal.τ).loc Cert.CmpRefIdeal.main_arg0) = m ((c.tc : Thread Cert.CmpRefIdeal.nD Cert.CmpRefIdeal.τ).loc Cert.CmpRefIdeal.main_arg0)
        ∧ r.2.mem ((c.tc : Thread Cert.CmpRefIdeal.nD Cert.CmpRefIdeal.τ).loc Cert.CmpRefIdeal.main_arg1) = m ((c.tc : Thread Cert.CmpRefIdeal.nD Cert.CmpRefIdeal.τ).loc Cert.CmpRefIdeal.main_arg1)
        ∧ r.2.mem ((c.tc : Thread Cert.CmpRefIdeal.nD Cert.CmpRefIdeal.τ).loc Cert.CmpRefIdeal.main_arg2) = m ((c.tc : Thread Cert.CmpRefIdeal.nD Cert.CmpRefIdeal.τ).loc Cert.CmpRefIdeal.main_arg2))
      ∧ r.2.sem = fun _ => 0) :=
  (θ_run Cert.CmpRefIdeal.defs _ _).mono (fun r h => ⟨fun c => ⟨(h c).2.1, (h c).2.2.1, (h c).2.2.2⟩, sem_eq_zero_of_no_sems (by decide) r.2⟩) (Cert.CmpRefIdeal.Value.run m ρ)

/-- The input projection's reference for its columns for the convolution runs, leaves its arguments as they were and no semaphore counting. -/
theorem conv_reference_frame (m : (ℓ : Loc Cert.ConvRefIdeal.nD Cert.ConvRefIdeal.τ Cert.ConvRefIdeal.sig) → Buf (Elt Ideal) ℓ) (ρ : Dev Cert.ConvRefIdeal.nD → PrngReg) :
    θ_run (Cert.ConvRefIdeal.defs (F := Ideal)) (onTc (τ := Cert.ConvRefIdeal.τ) (Cert.ConvRefIdeal.main (F := Ideal))) ⟨m, fun _ => 0, ρ⟩ (fun r =>
      (∀ c : Dev Cert.ConvRefIdeal.nD,
        r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
        ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
        ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0) :=
  (θ_run Cert.ConvRefIdeal.defs _ _).mono (fun r h => ⟨fun c => ⟨(h c).2.1, (h c).2.2.1, (h c).2.2.2⟩, sem_eq_zero_of_no_sems (by decide) r.2⟩) (Cert.ConvRefIdeal.Value.run m ρ)

/-- The compression's reference runs, leaves its arguments as they were and no semaphore counting. -/
theorem compress_reference_frame (m : (ℓ : Loc Cert.CompressRefIdeal.nD Cert.CompressRefIdeal.τ Cert.CompressRefIdeal.sig) → Buf (Elt Ideal) ℓ) (ρ : Dev Cert.CompressRefIdeal.nD → PrngReg) :
    θ_run (Cert.CompressRefIdeal.defs (F := Ideal)) (onTc (τ := Cert.CompressRefIdeal.τ) (Cert.CompressRefIdeal.main (F := Ideal))) ⟨m, fun _ => 0, ρ⟩ (fun r =>
      (∀ c : Dev Cert.CompressRefIdeal.nD,
        r.2.mem ((c.tc : Thread Cert.CompressRefIdeal.nD Cert.CompressRefIdeal.τ).loc Cert.CompressRefIdeal.main_arg0) = m ((c.tc : Thread Cert.CompressRefIdeal.nD Cert.CompressRefIdeal.τ).loc Cert.CompressRefIdeal.main_arg0)
        ∧ r.2.mem ((c.tc : Thread Cert.CompressRefIdeal.nD Cert.CompressRefIdeal.τ).loc Cert.CompressRefIdeal.main_arg1) = m ((c.tc : Thread Cert.CompressRefIdeal.nD Cert.CompressRefIdeal.τ).loc Cert.CompressRefIdeal.main_arg1)
        ∧ r.2.mem ((c.tc : Thread Cert.CompressRefIdeal.nD Cert.CompressRefIdeal.τ).loc Cert.CompressRefIdeal.main_arg2) = m ((c.tc : Thread Cert.CompressRefIdeal.nD Cert.CompressRefIdeal.τ).loc Cert.CompressRefIdeal.main_arg2)
        ∧ r.2.mem ((c.tc : Thread Cert.CompressRefIdeal.nD Cert.CompressRefIdeal.τ).loc Cert.CompressRefIdeal.main_arg3) = m ((c.tc : Thread Cert.CompressRefIdeal.nD Cert.CompressRefIdeal.τ).loc Cert.CompressRefIdeal.main_arg3))
      ∧ r.2.sem = fun _ => 0) :=
  (θ_run Cert.CompressRefIdeal.defs _ _).mono (fun r h => ⟨fun c => ⟨(h c).2.1, (h c).2.2.1, (h c).2.2.2.1, (h c).2.2.2.2⟩, sem_eq_zero_of_no_sems (by decide) r.2⟩) (Cert.CompressRefIdeal.Value.run m ρ)

/-- The gated convolution's reference runs, leaves its arguments as they were and no semaphore counting. -/
theorem glu_reference_frame (m : (ℓ : Loc Cert.GluRefIdeal.nD Cert.GluRefIdeal.τ Cert.GluRefIdeal.sig) → Buf (Elt Ideal) ℓ) (ρ : Dev Cert.GluRefIdeal.nD → PrngReg) :
    θ_run (Cert.GluRefIdeal.defs (F := Ideal)) (onTc (τ := Cert.GluRefIdeal.τ) (Cert.GluRefIdeal.main (F := Ideal))) ⟨m, fun _ => 0, ρ⟩ (fun r =>
      (∀ c : Dev Cert.GluRefIdeal.nD,
        r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
        ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1)
        ∧ r.2.mem ((c.tc : Thread Cert.GluRefIdeal.nD Cert.GluRefIdeal.τ).loc Cert.GluRefIdeal.main_arg2) = m ((c.tc : Thread Cert.GluRefIdeal.nD Cert.GluRefIdeal.τ).loc Cert.GluRefIdeal.main_arg2)
        ∧ r.2.mem ((c.tc : Thread Cert.GluRefIdeal.nD Cert.GluRefIdeal.τ).loc Cert.GluRefIdeal.main_arg3) = m ((c.tc : Thread Cert.GluRefIdeal.nD Cert.GluRefIdeal.τ).loc Cert.GluRefIdeal.main_arg3)
        ∧ r.2.mem ((c.tc : Thread Cert.GluRefIdeal.nD Cert.GluRefIdeal.τ).loc Cert.GluRefIdeal.main_arg4) = m ((c.tc : Thread Cert.GluRefIdeal.nD Cert.GluRefIdeal.τ).loc Cert.GluRefIdeal.main_arg4))
      ∧ r.2.sem = fun _ => 0) :=
  (θ_run Cert.GluRefIdeal.defs _ _).mono (fun r h => ⟨fun c => ⟨(h c).2.1, (h c).2.2.1, (h c).2.2.2.1, (h c).2.2.2.2.1, (h c).2.2.2.2.2⟩, sem_eq_zero_of_no_sems (by decide) r.2⟩) (Cert.GluRefIdeal.Value.run m ρ)

/-- Everything claimed. -/
theorem claim : Cert.Claim := ⟨Cert.Swa.Gen.facts, Cert.SwaIdeal.Gen.facts, Cert.SwaRefIdeal.Gen.facts, Cert.Ffn.Gen.facts, Cert.FfnIdeal.Gen.facts, Cert.FfnRefIdeal.Gen.facts, Cert.Qkv.Gen.facts, Cert.QkvIdeal.Gen.facts, Cert.QkvRefIdeal.Gen.facts,
  Cert.Cmp.Gen.facts, Cert.CmpIdeal.Gen.facts, Cert.CmpRefIdeal.Gen.facts,
  Cert.Conv.Gen.facts, Cert.ConvIdeal.Gen.facts, Cert.ConvRefIdeal.Gen.facts,
  Cert.Compress.Gen.facts, Cert.CompressIdeal.Gen.facts, Cert.CompressRefIdeal.Gen.facts,
  Cert.Glu.Gen.facts, Cert.GluIdeal.Gen.facts, Cert.GluRefIdeal.Gen.facts,
  Cert.Pre_swa_finite.Gen.facts,
  fun m ρ _ => Cert.Swa.Gen.frame m ρ, fun m ρ _ => Cert.SwaIdeal.Gen.frame m ρ, fun m ρ _ => Cert.SwaIdeal.Gen.frame m ρ,
  fun m ρ _ => swa_reference_frame m ρ, fun m ρ _ => swa_reference_frame m ρ,
  fun m ρ _ => Cert.Ffn.Gen.frame m ρ, fun m ρ _ => Cert.FfnIdeal.Gen.frame m ρ, fun m ρ _ => ffn_reference_frame m ρ,
  fun m ρ _ => Cert.Qkv.Gen.frame m ρ, fun m ρ _ => Cert.QkvIdeal.Gen.frame m ρ, fun m ρ _ => qkv_reference_frame m ρ,
  fun m ρ _ => Cert.Cmp.Gen.frame m ρ, fun m ρ _ => Cert.CmpIdeal.Gen.frame m ρ, fun m ρ _ => cmp_reference_frame m ρ,
  fun m ρ _ => Cert.Conv.Gen.frame m ρ, fun m ρ _ => Cert.ConvIdeal.Gen.frame m ρ, fun m ρ _ => conv_reference_frame m ρ,
  fun m ρ _ => Cert.Compress.Gen.frame m ρ, fun m ρ _ => Cert.CompressIdeal.Gen.frame m ρ, fun m ρ _ => compress_reference_frame m ρ,
  fun m ρ _ => Cert.Glu.Gen.frame m ρ, fun m ρ _ => Cert.GluIdeal.Gen.frame m ρ, fun m ρ _ => glu_reference_frame m ρ,
  ⟨IdealRules.named_const.statement Cert.SwaIdeal.κ "log2e" .f32 0x3FB8AA3B#32 (((Real.log 2)⁻¹ : ℝ) : EReal) rfl,
    IdealRules.named_const.statement Cert.SwaIdeal.κ "mask" .f32 0xF149F2CA#32 ⊥ rfl⟩,
  Cert.SwaRef.algebraic, trivial, Cert.FfnUp.algebraic, trivial, Cert.QkvCols.algebraic, trivial, Cert.CmpCols.algebraic, trivial, Cert.ConvCols.algebraic, trivial, Cert.CompressCols.algebraic, trivial, Cert.GluCols.algebraic⟩

end Cert.Proof

end
